-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)) (v5 : (c : Dev Cert.KernelIdeal.nD) → Buf (Elt Ideal) ((c.tc : Thread Cert.KernelIdeal.nD Cert.KernelIdeal.τ).loc Cert.KernelIdeal.main_v6_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_v6_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_v131) = v1 c
          ∧ r.2.mem ((c.tc : Thread Cert.ReferenceIdeal.nD Cert.ReferenceIdeal.τ).loc Cert.ReferenceIdeal.main_v133) = v2 c
          ∧ r.2.mem ((c.tc : Thread Cert.ReferenceIdeal.nD Cert.ReferenceIdeal.τ).loc Cert.ReferenceIdeal.main_v136) = v3 c
          ∧ r.2.mem ((c.tc : Thread Cert.ReferenceIdeal.nD Cert.ReferenceIdeal.τ).loc Cert.ReferenceIdeal.main_v24_0) = v4 c
          ∧ r.2.mem ((c.tc : Thread Cert.ReferenceIdeal.nD Cert.ReferenceIdeal.τ).loc Cert.ReferenceIdeal.main_v16) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S1536x896 : Shape := ⟨2, ![1536, 896]⟩
abbrev S1536x4864 : Shape := ⟨2, ![1536, 4864]⟩
abbrev S4864x896 : Shape := ⟨2, ![4864, 896]⟩
abbrev S38x7 : Shape := ⟨2, ![38, 7]⟩
abbrev S8x16x896 : Shape := ⟨3, ![8, 16, 896]⟩
abbrev S8x4864x16 : Shape := ⟨3, ![8, 4864, 16]⟩
abbrev S1536x2 : Shape := ⟨2, ![1536, 2]⟩
abbrev S1536x38x128 : Shape := ⟨3, ![1536, 38, 128]⟩
abbrev S_ : Shape := ⟨0, ![]⟩
abbrev S1536x38 : Shape := ⟨2, ![1536, 38]⟩
abbrev S1536x1 : Shape := ⟨2, ![1536, 1]⟩

class Facts : Prop where
  bitsLt_bf16_f32 : FTy.bits .bf16 < FTy.bits .f32
  shapeCasts_S1536x4864_S1536x38x128 : S1536x4864.ShapeCasts S1536x38x128
  reducesTo_S1536x38x128_S1536x38_d2 : S1536x38x128.ReducesTo [2] S1536x38
  h_S_ : 0 < S_.numel
  bcast_S_S1536x38 : S_.BroadcastsInDim S1536x38 (![] : Fin 0 → Fin S1536x38.rank)
  slices_S1536x2_S1536x1_0_0 : S1536x2.Slices ![0, 0] S1536x1
  slices_S1536x2_S1536x1_0_1 : S1536x2.Slices ![0, 1] S1536x1

variable [Facts]

def fn {F : FTy → Type} [FloatOps F] (main_arg0 : FVec F S1536x896 .bf16) (main_arg1 : FVec F S1536x4864 .bf16) (main_arg2 : FVec F S4864x896 .fp8e4m3) (main_arg3 : FVec F S38x7 .f32) (main_arg4 : FVec F S8x16x896 .bf16) (main_arg5 : FVec F S8x4864x16 .bf16) (main_arg6 : IVec S1536x2 32) (main_arg7 : FVec F S1536x2 .f32) : IVec S1536x38 1 × IVec S1536x1 1 :=
  let main_v0 : FVec F S1536x4864 .f32 := (extf .f32 · bitsLt_bf16_f32) main_arg1
  let main_v1 : FVec F S1536x38x128 .f32 := shapeCast S1536x38x128 main_v0 shapeCasts_S1536x4864_S1536x38x128
  let main_v2 : FVec F S1536x38x128 .f32 := Host.absf main_v1
  let main_cst : FVec F S_ .f32 := constant S_ .f32 0xFF800000#32
  let main_v3 : FVec F S1536x38 .f32 := (fun x v => Host.reduce FloatOps.maximumf x v reducesTo_S1536x38x128_S1536x38_d2 h_S_) main_v2 main_cst
  let main_cst_0 : FVec F S_ .f32 := constant S_ .f32 0x08600000#32
  let main_v4 : FVec F S1536x38 .f32 := broadcastInDim S1536x38 ![] bcast_S_S1536x38 main_cst_0
  let main_cst_1 : FVec F S_ .f32 := constant S_ .f32 0x7F7F0000#32
  let main_v5 : FVec F S1536x38 .f32 := broadcastInDim S1536x38 ![] bcast_S_S1536x38 main_cst_1
  let main_cst_2 : FVec F S_ .f32 := constant S_ .f32 0x00000000#32
  let main_v6 : FVec F S1536x38 .f32 := broadcastInDim S1536x38 ![] bcast_S_S1536x38 main_cst_2
  let main_v7 : IVec S1536x38 1 := cmpf .oeq main_v3 main_v6
  let main_v8 : IVec S1536x38 1 := cmpf .oge main_v3 main_v4
  let main_v9 : IVec S1536x38 1 := cmpf .ole main_v3 main_v5
  let main_v10 : IVec S1536x38 1 := andi main_v8 main_v9
  let main_v11 : IVec S1536x38 1 := ori main_v7 main_v10
  let main_v12 : IVec S1536x1 32 := (extractStridedSlice S1536x1 ![0, 0] · slices_S1536x2_S1536x1_0_0) main_arg6
  let main_v13 : IVec S1536x1 32 := (extractStridedSlice S1536x1 ![0, 1] · slices_S1536x2_S1536x1_0_1) main_arg6
  let main_v14 : IVec S1536x1 1 := cmpi .ne main_v12 main_v13
  (main_v11, main_v14)
-- ==== Kernel.lean ====
abbrev S1536x896 : Shape := ⟨2, ![1536, 896]⟩
abbrev S1536x4864 : Shape := ⟨2, ![1536, 4864]⟩
abbrev S4864x896 : Shape := ⟨2, ![4864, 896]⟩
abbrev S38x7 : Shape := ⟨2, ![38, 7]⟩
abbrev S8x16x896 : Shape := ⟨3, ![8, 16, 896]⟩
abbrev S8x4864x16 : Shape := ⟨3, ![8, 4864, 16]⟩
abbrev S1536x2 : Shape := ⟨2, ![1536, 2]⟩
abbrev S128x896 : Shape := ⟨2, ![128, 896]⟩
abbrev S8x16x4864 : Shape := ⟨3, ![8, 16, 4864]⟩
abbrev S128x4864 : Shape := ⟨2, ![128, 4864]⟩
abbrev S896x128 : Shape := ⟨2, ![896, 128]⟩
abbrev S2x1536 : Shape := ⟨2, ![2, 1536]⟩
abbrev S1536x38 : Shape := ⟨2, ![1536, 38]⟩
abbrev S256x896 : Shape := ⟨2, ![256, 896]⟩
abbrev S256x4864 : Shape := ⟨2, ![256, 4864]⟩
abbrev S2x256 : Shape := ⟨2, ![2, 256]⟩
abbrev S256x2 : Shape := ⟨2, ![256, 2]⟩
abbrev S256x38 : Shape := ⟨2, ![256, 38]⟩
abbrev S896x4864 : Shape := ⟨2, ![896, 4864]⟩
abbrev S128x128 : Shape := ⟨2, ![128, 128]⟩
abbrev S1x1 : Shape := ⟨2, ![1, 1]⟩
abbrev S128x256 : Shape := ⟨2, ![128, 256]⟩
abbrev S1x256 : Shape := ⟨2, ![1, 256]⟩
abbrev S256x1 : Shape := ⟨2, ![256, 1]⟩
abbrev S256x128 : Shape := ⟨2, ![256, 128]⟩
abbrev S256 : Shape := ⟨1, ![256]⟩
abbrev S256x256 : Shape := ⟨2, ![256, 256]⟩
abbrev S896x256 : Shape := ⟨2, ![896, 256]⟩

abbrev nBuf : Space → Nat
  | .hbm => 20
  | .vmem => 28
  | .smem => 1
  | _ => 0

abbrev bufTy : (tb : Table) → Fin (tcTables nBuf tb) → BufTy
  | .hbm, ⟨0, _⟩ => ⟨S1536x896, .bf16⟩
  | .hbm, ⟨1, _⟩ => ⟨S1536x4864, .bf16⟩
  | .hbm, ⟨2, _⟩ => ⟨S4864x896, .fp8e4m3⟩
  | .hbm, ⟨3, _⟩ => ⟨S38x7, .f32⟩
  | .hbm, ⟨4, _⟩ => ⟨S8x16x896, .bf16⟩
  | .hbm, ⟨5, _⟩ => ⟨S8x4864x16, .bf16⟩
  | .hbm, ⟨6, _⟩ => ⟨S1536x2, .i32⟩
  | .hbm, ⟨7, _⟩ => ⟨S1536x2, .f32⟩
  | .hbm, ⟨8, _⟩ => ⟨S128x896, .bf16⟩
  | .hbm, ⟨9, _⟩ => ⟨S8x16x4864, .bf16⟩
  | .hbm, ⟨10, _⟩ => ⟨S128x4864, .bf16⟩
  | .hbm, ⟨11, _⟩ => ⟨S896x128, .bf16⟩
  | .hbm, ⟨12, _⟩ => ⟨S2x1536, .i32⟩
  | .hbm, ⟨13, _⟩ => ⟨S2x1536, .f32⟩
  | .hbm, ⟨14, _⟩ => ⟨S1536x896, .bf16⟩
  | .hbm, ⟨15, _⟩ => ⟨S128x896, .f32⟩
  | .hbm, ⟨16, _⟩ => ⟨S128x4864, .f32⟩
  | .hbm, ⟨17, _⟩ => ⟨S2x1536, .f32⟩
  | .hbm, ⟨18, _⟩ => ⟨S1536x4864, .fp8e5m2⟩
  | .hbm, ⟨19, _⟩ => ⟨S1536x38, .f32⟩
  | .local _ .vmem, ⟨0, _⟩ => ⟨S256x896, .bf16⟩
  | .local _ .vmem, ⟨1, _⟩ => ⟨S256x896, .bf16⟩
  | .local _ .vmem, ⟨2, _⟩ => ⟨S256x4864, .bf16⟩
  | .local _ .vmem, ⟨3, _⟩ => ⟨S256x4864, .bf16⟩
  | .local _ .vmem, ⟨4, _⟩ => ⟨S4864x896, .fp8e4m3⟩
  | .local _ .vmem, ⟨5, _⟩ => ⟨S128x896, .bf16⟩
  | .local _ .vmem, ⟨6, _⟩ => ⟨S896x128, .bf16⟩
  | .local _ .vmem, ⟨7, _⟩ => ⟨S128x4864, .bf16⟩
  | .local _ .vmem, ⟨8, _⟩ => ⟨S2x256, .i32⟩
  | .local _ .vmem, ⟨9, _⟩ => ⟨S2x256, .i32⟩
  | .local _ .vmem, ⟨10, _⟩ => ⟨S2x256, .f32⟩
  | .local _ .vmem, ⟨11, _⟩ => ⟨S2x256, .f32⟩
  | .local _ .vmem, ⟨12, _⟩ => ⟨S256x2, .f32⟩
  | .local _ .vmem, ⟨13, _⟩ => ⟨S256x2, .f32⟩
  | .local _ .vmem, ⟨14, _⟩ => ⟨S256x896, .bf16⟩
  | .local _ .vmem, ⟨15, _⟩ => ⟨S256x896, .bf16⟩
  | .local _ .vmem, ⟨16, _⟩ => ⟨S128x896, .f32⟩
  | .local _ .vmem, ⟨17, _⟩ => ⟨S128x4864, .f32⟩
  | .local _ .vmem, ⟨18, _⟩ => ⟨S2x256, .f32⟩
  | .local _ .vmem, ⟨19, _⟩ => ⟨S2x256, .f32⟩
  | .local _ .vmem, ⟨20, _⟩ => ⟨S256x4864, .fp8e5m2⟩
  | .local _ .vmem, ⟨21, _⟩ => ⟨S256x4864, .fp8e5m2⟩
  | .local _ .vmem, ⟨22, _⟩ => ⟨S256x38, .f32⟩
  | .local _ .vmem, ⟨23, _⟩ => ⟨S256x38, .f32⟩
  | .local _ .vmem, ⟨24, _⟩ => ⟨S896x4864, .bf16⟩
  | .local _ .vmem, ⟨25, _⟩ => ⟨S256x4864, .bf16⟩
  | .local _ .vmem, ⟨26, _⟩ => ⟨S128x4864, .f32⟩
  | .local _ .vmem, ⟨27, _⟩ => ⟨S128x896, .f32⟩
  | .local _ .smem, ⟨0, _⟩ => ⟨S38x7, .f32⟩
  | _, _ => ⟨S1536x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev main_v6_4 : Ref sig .tc := ⟨.hbm, 18, rfl⟩
abbrev main_v6_5 : Ref sig .tc := ⟨.hbm, 19, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24

abbrev nD : Nat := 1
abbrev τ : Topo := Topo.v7x

variable {F : FTy → Type} [FloatOps F]

abbrev grid0 : Pipeline.Grid := ⟨1, ![6], ![false]⟩

def k0_cond2 (i : grid0.Coords) : BitVec 1 :=
  let arg0 : BitVec 32 := BitVec.ofNat 32 (i 0).val
  let c5_i32_1160 : BitVec 32 := 5#32
  let v3034 : BitVec 1 := Scalar.cmpi .eq arg0 c5_i32_1160
  let v3035 : BitVec 32 := Scalar.extui v3034
  let c0_i32_1161 : BitVec 32 := 0#32
  let v3036 : BitVec 1 := Scalar.cmpi .ne v3035 c0_i32_1161
  v3036

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S38x7 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4864 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4864x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S896x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x4864 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2x256 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x896 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S128x896 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x4864 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S2x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4864 .fp8e5m2 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x38 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S1536x896 : Shape := ⟨2, ![1536, 896]⟩
abbrev S1536x4864 : Shape := ⟨2, ![1536, 4864]⟩
abbrev S4864x896 : Shape := ⟨2, ![4864, 896]⟩
abbrev S38x7 : Shape := ⟨2, ![38, 7]⟩
abbrev S8x16x896 : Shape := ⟨3, ![8, 16, 896]⟩
abbrev S8x4864x16 : Shape := ⟨3, ![8, 4864, 16]⟩
abbrev S1536x2 : Shape := ⟨2, ![1536, 2]⟩
abbrev S1536x38x128 : Shape := ⟨3, ![1536, 38, 128]⟩
abbrev S_ : Shape := ⟨0, ![]⟩
abbrev S1536x38 : Shape := ⟨2, ![1536, 38]⟩
abbrev S1536x38x1 : Shape := ⟨3, ![1536, 38, 1]⟩
abbrev S38x128x7x128 : Shape := ⟨4, ![38, 128, 7, 128]⟩
abbrev S38x1x7x1 : Shape := ⟨4, ![38, 1, 7, 1]⟩
abbrev S1536x8x16 : Shape := ⟨3, ![1536, 8, 16]⟩
abbrev S1536x1 : Shape := ⟨2, ![1536, 1]⟩
abbrev S1536 : Shape := ⟨1, ![1536]⟩
abbrev S8 : Shape := ⟨1, ![8]⟩
abbrev S1x8 : Shape := ⟨2, ![1, 8]⟩
abbrev S1536x8 : Shape := ⟨2, ![1536, 8]⟩
abbrev S1536x8x1 : Shape := ⟨3, ![1536, 8, 1]⟩
abbrev S1536x16 : Shape := ⟨2, ![1536, 16]⟩
abbrev S1536x1x16 : Shape := ⟨3, ![1536, 1, 16]⟩
abbrev S8x16x4864 : Shape := ⟨3, ![8, 16, 4864]⟩
abbrev S8x1536x896 : Shape := ⟨3, ![8, 1536, 896]⟩
abbrev S128x4864 : Shape := ⟨2, ![128, 4864]⟩
abbrev S128x896 : Shape := ⟨2, ![128, 896]⟩
abbrev S1x1536 : Shape := ⟨2, ![1, 1536]⟩
abbrev S2x1536 : Shape := ⟨2, ![2, 1536]⟩

abbrev nBuf : Space → Nat
  | .hbm => 214
  | .vmem => 5
  | .smem => 0
  | _ => 0

abbrev hbmTy0_0 (i : Nat) : BufTy := match i % 128 with
  | 0 => ⟨S1536x896, .bf16⟩
  | 1 => ⟨S1536x4864, .bf16⟩
  | 2 => ⟨S4864x896, .fp8e4m3⟩
  | 3 => ⟨S38x7, .f32⟩
  | 4 => ⟨S8x16x896, .bf16⟩
  | 5 => ⟨S8x4864x16, .bf16⟩
  | 6 => ⟨S1536x2, .i32⟩
  | 7 => ⟨S1536x2, .f32⟩
  | 8 => ⟨S1536x4864, .f32⟩
  | 9 => ⟨S1536x38x128, .f32⟩
  | 10 => ⟨S1536x38x128, .f32⟩
  | 11 => ⟨S_, .f32⟩
  | 12 => ⟨S1536x38, .f32⟩
  | 13 => ⟨S_, .f32⟩
  | 14 => ⟨S1536x38, .f32⟩
  | 15 => ⟨S_, .f32⟩
  | 16 => ⟨S1536x38, .f32⟩
  | 17 => ⟨S1536x38, .f32⟩
  | 18 => ⟨S1536x38, .f32⟩
  | 19 => ⟨S1536x38, .f32⟩
  | 20 => ⟨S1536x38, .f32⟩
  | 21 => ⟨S1536x38, .f32⟩
  | 22 => ⟨S_, .f32⟩
  | 23 => ⟨S1536x38, .f32⟩
  | 24 => ⟨S1536x38, .f32⟩
  | 25 => ⟨S_, .f32⟩
  | 26 => ⟨S1536x38, .f32⟩
  | 27 => ⟨S1536x38, .i1⟩
  | 28 => ⟨S_, .f32⟩
  | 29 => ⟨S_, .f32⟩
  | 30 => ⟨S1536x38, .f32⟩
  | 31 => ⟨S1536x38, .f32⟩
  | 32 => ⟨S1536x38, .f32⟩
  | 33 => ⟨S1536x38, .f32⟩
  | 34 => ⟨S1536x38, .f32⟩
  | 35 => ⟨S1536x38x1, .f32⟩
  | 36 => ⟨S1536x38x128, .f32⟩
  | 37 => ⟨S1536x38x128, .f32⟩
  | 38 => ⟨S_, .f32⟩
  | 39 => ⟨S_, .f32⟩
  | 40 => ⟨S_, .f32⟩
  | 41 => ⟨S1536x38x128, .f32⟩
  | 42 => ⟨S1536x38x128, .f32⟩
  | 43 => ⟨S_, .f32⟩
  | 44 => ⟨S1536x38x128, .f32⟩
  | 45 => ⟨S1536x38x128, .f32⟩
  | 46 => ⟨S1536x4864, .f32⟩
  | 47 => ⟨S1536x4864, .fp8e5m2⟩
  | 48 => ⟨S1536x4864, .bf16⟩
  | 49 => ⟨S4864x896, .bf16⟩
  | 50 => ⟨S1536x38x128, .bf16⟩
  | 51 => ⟨S1536x38, .bf16⟩
  | 52 => ⟨S1536x38x1, .bf16⟩
  | 53 => ⟨S1536x38x128, .bf16⟩
  | 54 => ⟨S1536x38x128, .bf16⟩
  | 55 => ⟨S1536x4864, .bf16⟩
  | 56 => ⟨S38x128x7x128, .bf16⟩
  | 57 => ⟨S38x7, .bf16⟩
  | 58 => ⟨S38x1x7x1, .bf16⟩
  | 59 => ⟨S38x128x7x128, .bf16⟩
  | 60 => ⟨S38x128x7x128, .bf16⟩
  | 61 => ⟨S4864x896, .bf16⟩
  | 62 => ⟨S1536x896, .f32⟩
  | 63 => ⟨S1536x8x16, .f32⟩
  | 64 => ⟨S1536x8x16, .f32⟩
  | 65 => ⟨S_, .f32⟩
  | 66 => ⟨S8x16x896, .f32⟩
  | 67 => ⟨S_, .f32⟩
  | 68 => ⟨S8x4864x16, .f32⟩
  | 69 => ⟨S1536x1, .f32⟩
  | 70 => ⟨S1536, .f32⟩
  | 71 => ⟨S1536x1, .f32⟩
  | 72 => ⟨S1536x1, .i32⟩
  | 73 => ⟨S1536, .i32⟩
  | 74 => ⟨S1536x1, .i32⟩
  | 75 => ⟨S8, .i32⟩
  | 76 => ⟨S1x8, .i32⟩
  | 77 => ⟨S1536x8, .i32⟩
  | 78 => ⟨S1536x8, .i32⟩
  | 79 => ⟨S1536x8, .i1⟩
  | 80 => ⟨S1536x8x1, .i1⟩
  | 81 => ⟨S_, .f32⟩
  | 82 => ⟨S_, .f32⟩
  | 83 => ⟨S1536x8x16, .i1⟩
  | 84 => ⟨S1536x8x16, .f32⟩
  | 85 => ⟨S1536x8x16, .f32⟩
  | 86 => ⟨S_, .f32⟩
  | 87 => ⟨S1536x16, .f32⟩
  | 88 => ⟨S_, .f32⟩
  | 89 => ⟨S_, .f32⟩
  | 90 => ⟨S1536x8x16, .i1⟩
  | 91 => ⟨S1536x8x16, .f32⟩
  | 92 => ⟨S1536x8x16, .f32⟩
  | 93 => ⟨S_, .f32⟩
  | 94 => ⟨S1536x16, .f32⟩
  | 95 => ⟨S1536x16, .f32⟩
  | 96 => ⟨S_, .f32⟩
  | 97 => ⟨S1536, .f32⟩
  | 98 => ⟨S_, .f32⟩
  | 99 => ⟨S1536, .f32⟩
  | 100 => ⟨S1536, .f32⟩
  | 101 => ⟨S1536x4864, .f32⟩
  | 102 => ⟨S1536x4864, .f32⟩
  | 103 => ⟨S1536x4864, .f32⟩
  | 104 => ⟨S1536x4864, .bf16⟩
  | 105 => ⟨S1536x16, .f32⟩
  | 106 => ⟨S1536x16, .f32⟩
  | 107 => ⟨S1536x16, .bf16⟩
  | 108 => ⟨S1536x16, .bf16⟩
  | 109 => ⟨S1536x1x16, .bf16⟩
  | 110 => ⟨S_, .f32⟩
  | 111 => ⟨S_, .bf16⟩
  | 112 => ⟨S1536x8x16, .i1⟩
  | 113 => ⟨S1536x8x16, .bf16⟩
  | 114 => ⟨S1536x8x16, .bf16⟩
  | 115 => ⟨S1536x8x16, .bf16⟩
  | 116 => ⟨S1536x1x16, .bf16⟩
  | 117 => ⟨S_, .f32⟩
  | 118 => ⟨S_, .bf16⟩
  | 119 => ⟨S1536x8x16, .i1⟩
  | 120 => ⟨S1536x8x16, .bf16⟩
  | 121 => ⟨S1536x8x16, .bf16⟩
  | 122 => ⟨S1536x8x16, .bf16⟩
  | 123 => ⟨S8x16x4864, .f32⟩
  | 124 => ⟨S8x4864x16, .f32⟩
  | 125 => ⟨S8x4864x16, .f32⟩
  | 126 => ⟨S8x16x896, .f32⟩
  | 127 => ⟨S8x16x896, .f32⟩
  | _ => ⟨S1536x896, .bf16⟩

abbrev hbmTy0_1 (i : Nat) : BufTy := match i % 128 with
  | 0 => ⟨S8x1536x896, .f32⟩
  | 1 => ⟨S_, .f32⟩
  | 2 => ⟨S1536x896, .f32⟩
  | 3 => ⟨S_, .f32⟩
  | 4 => ⟨S1536x896, .f32⟩
  | 5 => ⟨S1536x896, .f32⟩
  | 6 => ⟨S1536x896, .f32⟩
  | 7 => ⟨S1536x1, .f32⟩
  | 8 => ⟨S1536, .f32⟩
  | 9 => ⟨S1536x1, .f32⟩
  | 10 => ⟨S1536x1, .i32⟩
  | 11 => ⟨S1536, .i32⟩
  | 12 => ⟨S1536x1, .i32⟩
  | 13 => ⟨S8, .i32⟩
  | 14 => ⟨S1x8, .i32⟩
  | 15 => ⟨S1536x8, .i32⟩
  | 16 => ⟨S1536x8, .i32⟩
  | 17 => ⟨S1536x8, .i1⟩
  | 18 => ⟨S1536x8x1, .i1⟩
  | 19 => ⟨S_, .f32⟩
  | 20 => ⟨S_, .f32⟩
  | 21 => ⟨S1536x8x16, .i1⟩
  | 22 => ⟨S1536x8x16, .f32⟩
  | 23 => ⟨S1536x8x16, .f32⟩
  | 24 => ⟨S_, .f32⟩
  | 25 => ⟨S1536x16, .f32⟩
  | 26 => ⟨S_, .f32⟩
  | 27 => ⟨S_, .f32⟩
  | 28 => ⟨S1536x8x16, .i1⟩
  | 29 => ⟨S1536x8x16, .f32⟩
  | 30 => ⟨S1536x8x16, .f32⟩
  | 31 => ⟨S_, .f32⟩
  | 32 => ⟨S1536x16, .f32⟩
  | 33 => ⟨S1536x16, .f32⟩
  | 34 => ⟨S_, .f32⟩
  | 35 => ⟨S1536, .f32⟩
  | 36 => ⟨S_, .f32⟩
  | 37 => ⟨S1536, .f32⟩
  | 38 => ⟨S1536, .f32⟩
  | 39 => ⟨S1536x4864, .f32⟩
  | 40 => ⟨S1536x4864, .f32⟩
  | 41 => ⟨S1536x4864, .f32⟩
  | 42 => ⟨S1536x4864, .bf16⟩
  | 43 => ⟨S1536x16, .f32⟩
  | 44 => ⟨S1536x16, .f32⟩
  | 45 => ⟨S1536x16, .bf16⟩
  | 46 => ⟨S1536x16, .bf16⟩
  | 47 => ⟨S1536x1x16, .bf16⟩
  | 48 => ⟨S_, .f32⟩
  | 49 => ⟨S_, .bf16⟩
  | 50 => ⟨S1536x8x16, .i1⟩
  | 51 => ⟨S1536x8x16, .bf16⟩
  | 52 => ⟨S1536x8x16, .bf16⟩
  | 53 => ⟨S1536x8x16, .bf16⟩
  | 54 => ⟨S1536x1x16, .bf16⟩
  | 55 => ⟨S_, .f32⟩
  | 56 => ⟨S_, .bf16⟩
  | 57 => ⟨S1536x8x16, .i1⟩
  | 58 => ⟨S1536x8x16, .bf16⟩
  | 59 => ⟨S1536x8x16, .bf16⟩
  | 60 => ⟨S1536x8x16, .bf16⟩
  | 61 => ⟨S8x16x4864, .f32⟩
  | 62 => ⟨S8x4864x16, .f32⟩
  | 63 => ⟨S8x4864x16, .f32⟩
  | 64 => ⟨S8x16x896, .f32⟩
  | 65 => ⟨S8x16x896, .f32⟩
  | 66 => ⟨S8x1536x896, .f32⟩
  | 67 => ⟨S_, .f32⟩
  | 68 => ⟨S1536x896, .f32⟩
  | 69 => ⟨S_, .f32⟩
  | 70 => ⟨S1536x896, .f32⟩
  | 71 => ⟨S1536x896, .f32⟩
  | 72 => ⟨S1536x896, .f32⟩
  | 73 => ⟨S8x16x4864, .f32⟩
  | 74 => ⟨S128x4864, .f32⟩
  | 75 => ⟨S1536x896, .bf16⟩
  | 76 => ⟨S128x896, .f32⟩
  | 77 => ⟨S_, .f32⟩
  | 78 => ⟨S128x896, .f32⟩
  | 79 => ⟨S128x896, .f32⟩
  | 80 => ⟨S_, .f32⟩
  | 81 => ⟨S128x4864, .f32⟩
  | 82 => ⟨S128x4864, .f32⟩
  | 83 => ⟨S1x1536, .f32⟩
  | 84 => ⟨S1x1536, .f32⟩
  | 85 => ⟨S2x1536, .f32⟩
  | _ => ⟨S1536x896, .bf16⟩

abbrev hbmTy (i : Nat) : BufTy := match i / 128 with
  | 0 => hbmTy0_0 i
  | 1 => hbmTy0_1 i
  | _ => ⟨S1536x896, .bf16⟩

abbrev bufTy : (tb : Table) → Fin (tcTables nBuf tb) → BufTy
  | .hbm, ⟨i, _⟩ => hbmTy i
  | .local _ .vmem, ⟨0, _⟩ => ⟨S1536x4864, .f32⟩
  | .local _ .vmem, ⟨1, _⟩ => ⟨S4864x896, .fp8e4m3⟩
  | .local _ .vmem, ⟨2, _⟩ => ⟨S1536x4864, .fp8e5m2⟩
  | .local _ .vmem, ⟨3, _⟩ => ⟨S1536x4864, .bf16⟩
  | .local _ .vmem, ⟨4, _⟩ => ⟨S4864x896, .bf16⟩
  | _, _ => ⟨S1536x896, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_cst_4 : Ref sig .tc := ⟨.hbm, 28, rfl⟩
abbrev main_call0_v0 : Ref sig .tc := ⟨.hbm, 29, rfl⟩
abbrev main_call0_v1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v22 : Ref sig .tc := ⟨.hbm, 45, rfl⟩
abbrev main_v23 : Ref sig .tc := ⟨.hbm, 46, rfl⟩
abbrev main_v24_0 : Ref sig .tc := ⟨.hbm, 47, rfl⟩
abbrev main_v24_1 : Ref sig .tc := ⟨.hbm, 48, rfl⟩
abbrev main_v24_2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_7 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_9 : Ref sig .tc := ⟨.hbm, 81, rfl⟩
abbrev main_call2_v0 : Ref sig .tc := ⟨.hbm, 82, rfl⟩
abbrev main_call2_v1 : Ref sig .tc := ⟨.hbm, 83, rfl⟩
abbrev main_call2_v2 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_cst_11 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v56 : Ref sig .tc := ⟨.hbm, 92, rfl⟩
abbrev main_cst_12 : Ref sig .tc := ⟨.hbm, 93, rfl⟩
abbrev main_v57 : Ref sig .tc := ⟨.hbm, 94, rfl⟩
abbrev main_v58 : Ref sig .tc := ⟨.hbm, 95, rfl⟩
abbrev main_cst_13 : Ref sig .tc := ⟨.hbm, 96, rfl⟩
abbrev main_v59 : Ref sig .tc := ⟨.hbm, 97, rfl⟩
abbrev main_cst_14 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_cst_15 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_call4_v3 : Ref sig .tc := ⟨.hbm, 114, rfl⟩
abbrev main_v71 : Ref sig .tc := ⟨.hbm, 115, rfl⟩
abbrev main_v72 : Ref sig .tc := ⟨.hbm, 116, rfl⟩
abbrev main_cst_16 : Ref sig .tc := ⟨.hbm, 117, rfl⟩
abbrev main_call5_v0 : Ref sig .tc := ⟨.hbm, 118, rfl⟩
abbrev main_call5_v1 : Ref sig .tc := ⟨.hbm, 119, rfl⟩
abbrev main_call5_v2 : Ref sig .tc := ⟨.hbm, 120, rfl⟩
abbrev main_call5_v3 : Ref sig .tc := ⟨.hbm, 121, rfl⟩
abbrev main_v73 : Ref sig .tc := ⟨.hbm, 122, rfl⟩
abbrev main_v74 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_cst_17 : Ref sig .tc := ⟨.hbm, 129, rfl⟩
abbrev main_v80 : Ref sig .tc := ⟨.hbm, 130, rfl⟩
abbrev main_cst_18 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩
abbrev main_cst_19 : Ref sig .tc := ⟨.hbm, 147, rfl⟩
abbrev main_call6_v0 : Ref sig .tc := ⟨.hbm, 148, rfl⟩
abbrev main_call6_v1 : Ref sig .tc := ⟨.hbm, 149, rfl⟩
abbrev main_call6_v2 : Ref sig .tc := ⟨.hbm, 150, rfl⟩
abbrev main_v96 : Ref sig .tc := ⟨.hbm, 151, rfl⟩
abbrev main_cst_20 : Ref sig .tc := ⟨.hbm, 152, rfl⟩
abbrev main_v97 : Ref sig .tc := ⟨.hbm, 153, rfl⟩
abbrev main_cst_21 : Ref sig .tc := ⟨.hbm, 154, rfl⟩
abbrev main_call7_v0 : Ref sig .tc := ⟨.hbm, 155, rfl⟩
abbrev main_call7_v1 : Ref sig .tc := ⟨.hbm, 156, rfl⟩
abbrev main_call7_v2 : Ref sig .tc := ⟨.hbm, 157, rfl⟩
abbrev main_v98 : Ref sig .tc := ⟨.hbm, 158, rfl⟩
abbrev main_cst_22 : Ref sig .tc := ⟨.hbm, 159, rfl⟩
abbrev main_v99 : Ref sig .tc := ⟨.hbm, 160, rfl⟩
abbrev main_v100 : Ref sig .tc := ⟨.hbm, 161, rfl⟩
abbrev main_cst_23 : Ref sig .tc := ⟨.hbm, 162, rfl⟩
abbrev main_v101 : Ref sig .tc := ⟨.hbm, 163, rfl⟩
abbrev main_cst_24 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_v112 : Ref sig .tc := ⟨.hbm, 175, rfl⟩
abbrev main_cst_25 : Ref sig .tc := ⟨.hbm, 176, rfl⟩
abbrev main_call8_v0 : Ref sig .tc := ⟨.hbm, 177, rfl⟩
abbrev main_call8_v1 : Ref sig .tc := ⟨.hbm, 178, rfl⟩
abbrev main_call8_v2 : Ref sig .tc := ⟨.hbm, 179, rfl⟩
abbrev main_call8_v3 : Ref sig .tc := ⟨.hbm, 180, rfl⟩
abbrev main_v113 : Ref sig .tc := ⟨.hbm, 181, rfl⟩
abbrev main_v114 : Ref sig .tc := ⟨.hbm, 182, rfl⟩
abbrev main_cst_26 : Ref sig .tc := ⟨.hbm, 183, rfl⟩
abbrev main_call9_v0 : Ref sig .tc := ⟨.hbm, 184, rfl⟩
abbrev main_call9_v1 : Ref sig .tc := ⟨.hbm, 185, rfl⟩
abbrev main_call9_v2 : Ref sig .tc := ⟨.hbm, 186, rfl⟩
abbrev main_call9_v3 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_cst_27 : Ref sig .tc := ⟨.hbm, 195, rfl⟩
abbrev main_v122 : Ref sig .tc := ⟨.hbm, 196, rfl⟩
abbrev main_cst_28 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_cst_29 : Ref sig .tc := ⟨.hbm, 205, rfl⟩
abbrev main_v130 : Ref sig .tc := ⟨.hbm, 206, rfl⟩
abbrev main_v131 : Ref sig .tc := ⟨.hbm, 207, rfl⟩
abbrev main_cst_30 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S1536x4864 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4864x896 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1536x4864 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4864 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4864x896 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/- What one grid step computes for its 256 tokens, as functions of the blocks it is given, and the loads and stores of
   columns, rows and square blocks read as parts of the whole array. -/
module

public import proofs.«01_k».proof.Proof.Gen.KernelIdeal.Skeleton
public import Idealize.ShloMosaic.Lib.Pipeline.Value
public import Idealize.ShloMosaic.Lib.Pipeline.FrameBody
public import Idealize.ShloMosaic.Lib.ValueIdx

@[expose] public section

noncomputable section

namespace Cert.Block

open Cert.KernelIdeal Cert.KernelIdeal.Gen Idealize.ShloMosaic Idealize.ShloMosaic.TcCoe Idealize.ShloMosaic.ValueIdx

variable {F : FTy → Type} [FloatOps F]

/-! ## Parts of an array -/

/-- The `k`-th run of `W` columns of an array of 4864 columns. -/
def cols {α : Type} (W : ℕ) {R : ℕ} (x : (⟨2, ![R, 4864]⟩ : Shape).Idx → α) (k : ℕ) : (⟨2, ![R, W]⟩ : Shape).Idx → α :=
  fun i => x (ix2 (i 0) ⟨(W * k + (i 1).val) % 4864, Nat.mod_lt _ (by decide)⟩)

/-- Arrays of `W` columns, one for every `k`, laid side by side. -/
def side {α : Type} (W : ℕ) (hW : 0 < W) {R : ℕ} (f : ℕ → (⟨2, ![R, W]⟩ : Shape).Idx → α) : (⟨2, ![R, 4864]⟩ : Shape).Idx → α :=
  fun y => f ((y 1).val / W) (ix2 (y 0) ⟨(y 1).val % W, Nat.mod_lt _ hW⟩)

/-- Row `j` of an array of two rows. -/
def row {α : Type} (x : S2x256.Idx → α) (j : Fin 2) : S1x256.Idx → α := fun i => x (ix2 j (i 1))
/-- Column `j` of an array of two columns. -/
def col {α : Type} (x : S256x2.Idx → α) (j : Fin 2) : S256x1.Idx → α := fun i => x (ix2 (i 0) j)

/-- The 128 × 128 block `(o, i)` of the weights. -/
def wblk {α : Type} (x : S4864x896.Idx → α) (o i : ℕ) : S128x128.Idx → α :=
  fun p => x (ix2 ⟨(128 * o + (p 0).val) % 4864, Nat.mod_lt _ (by decide)⟩ ⟨(128 * i + (p 1).val) % 896, Nat.mod_lt _ (by decide)⟩)

/-- A load of `W` columns from `W k` on. -/
theorem load_cols {κ : Kind} {sp : Space} {e : EltTy} {R : ℕ} (W : ℕ) (arg : Memref sig κ sp ⟨2, ![R, 4864]⟩ e)
    (harg : arg.IsWhole) (x : Vec F ⟨2, ![R, 4864]⟩ e) (off k : ℕ) (h : off = W * k) (inb) :
    View.readAt (Elt F) arg.view (Rect.unit (s := ⟨2, ![R, 4864]⟩) ![0, off] ![R, W] inb).toLoadRect (harg.unread x) = cols W x k := by
  subst h
  have hb : W * k + W ≤ 4864 := inb 1
  rw [View.readAt_eq_ld, harg.read_unread]
  funext i
  have hi : (i 1).val < W := (i 1).isLt
  refine congrArg x (funext fun a => Fin.ext ?_)
  match a with
  | ⟨0, _⟩ => show 0 + 1 * (i 0).val = (i 0).val; omega
  | ⟨1, _⟩ => show W * k + 1 * (i 1).val = (W * k + (i 1).val) % 4864; rw [Nat.mod_eq_of_lt (by omega)]; omega

/-- A store of `W` columns from `W k` on is the `k`-th of the arrays laid side by side. -/
theorem side_emb {α : Type} {R : ℕ} (W : ℕ) (hW : 0 < W) (f : ℕ → (⟨2, ![R, W]⟩ : Shape).Idx → α)
    (off k : ℕ) (h : off = W * k) (inb) (x : (⟨2, ![R, W]⟩ : Shape).Idx) :
    f k x = side W hW f ((Rect.unit (s := ⟨2, ![R, 4864]⟩) ![0, off] ![R, W] inb).emb x) := by
  subst h
  have hx : (x 1).val < W := (x 1).isLt
  have e1 : (((Rect.unit (s := ⟨2, ![R, 4864]⟩) ![0, W * k] ![R, W] inb).emb x) 1).val = W * k + 1 * (x 1).val := rfl
  unfold side
  have hg : (((Rect.unit (s := ⟨2, ![R, 4864]⟩) ![0, W * k] ![R, W] inb).emb x) 1).val / W = k := by
    rw [e1, Nat.one_mul, Nat.mul_add_div hW, Nat.div_eq_of_lt hx, Nat.add_zero]
  rw [hg]
  refine congrArg (f k) (funext fun a => Fin.ext ?_)
  match a with
  | ⟨0, _⟩ => show (x 0).val = 0 + 1 * (x 0).val; omega
  | ⟨1, _⟩ => show (x 1).val = (W * k + 1 * (x 1).val) % W; rw [Nat.one_mul, Nat.mul_add_mod, Nat.mod_eq_of_lt hx]

/-- A store of a function of the `W` loaded columns, at the columns' own place. -/
theorem cols_piece {κ : Kind} {sp : Space} {e : EltTy} {R Q : ℕ} {α : Type} (W : ℕ) (hW : 0 < W)
    (f : ((⟨2, ![R, W]⟩ : Shape).Idx → Elt F e) → (⟨2, ![Q, W]⟩ : Shape).Idx → α)
    (arg : Memref sig κ sp ⟨2, ![R, 4864]⟩ e) (harg : arg.IsWhole) (x : Vec F ⟨2, ![R, 4864]⟩ e)
    (off k : ℕ) (h : off = W * k) (inb inb') (y : (⟨2, ![Q, W]⟩ : Shape).Idx) :
    f (View.readAt (Elt F) arg.view (Rect.unit (s := ⟨2, ![R, 4864]⟩) ![0, off] ![R, W] inb).toLoadRect (harg.unread x)) y
      = side W hW (fun k => f (cols W x k)) ((Rect.unit (s := ⟨2, ![Q, 4864]⟩) ![0, off] ![Q, W] inb').emb y) := by
  rw [load_cols W arg harg x off k h inb]
  exact side_emb W hW (fun k => f (cols W x k)) off k h inb' y

/-- A load of row `j`. -/
theorem load_row {κ : Kind} {sp : Space} {e : EltTy} (arg : Memref sig κ sp S2x256 e) (harg : arg.IsWhole) (x : Vec F S2x256 e)
    (j : Fin 2) (inb) :
    View.readAt (Elt F) arg.view (Rect.unit (s := S2x256) ![j.val, 0] S1x256.size inb).toLoadRect (harg.unread x) = row x j := by
  rw [View.readAt_eq_ld, harg.read_unread]
  funext i
  have hi : (i 0).val < 1 := (i 0).isLt
  refine congrArg x (funext fun a => Fin.ext ?_)
  match a with
  | ⟨0, _⟩ => show j.val + 1 * (i 0).val = j.val; omega
  | ⟨1, _⟩ => show 0 + 1 * (i 1).val = (i 1).val; omega

/-- A load of column `j`. -/
theorem load_col {κ : Kind} {sp : Space} {e : EltTy} (arg : Memref sig κ sp S256x2 e) (harg : arg.IsWhole) (x : Vec F S256x2 e)
    (j : Fin 2) (inb) :
    View.readAt (Elt F) arg.view (Rect.unit (s := S256x2) ![0, j.val] S256x1.size inb).toLoadRect (harg.unread x) = col x j := by
  rw [View.readAt_eq_ld, harg.read_unread]
  funext i
  have hi : (i 1).val < 1 := (i 1).isLt
  refine congrArg x (funext fun a => Fin.ext ?_)
  match a with
  | ⟨0, _⟩ => show 0 + 1 * (i 0).val = (i 0).val; omega
  | ⟨1, _⟩ => show j.val + 1 * (i 1).val = j.val; omega

/-- A load of the weights' block `(o, i)`. -/
theorem load_wblk {κ : Kind} {sp : Space} {e : EltTy} (arg : Memref sig κ sp S4864x896 e) (harg : arg.IsWhole)
    (x : Vec F S4864x896 e) (a b o i : ℕ) (ha : a = 128 * o) (hb : b = 128 * i) (inb) :
    View.readAt (Elt F) arg.view (Rect.unit (s := S4864x896) ![a, b] S128x128.size inb).toLoadRect (harg.unread x) = wblk x o i := by
  subst ha hb
  have h0 : 128 * o + 128 ≤ 4864 := inb 0
  have h1 : 128 * i + 128 ≤ 896 := inb 1
  rw [View.readAt_eq_ld, harg.read_unread]
  funext p
  have hp0 : (p 0).val < 128 := (p 0).isLt
  have hp1 : (p 1).val < 128 := (p 1).isLt
  refine congrArg x (funext fun a => Fin.ext ?_)
  match a with
  | ⟨0, _⟩ => show 128 * o + 1 * (p 0).val = (128 * o + (p 0).val) % 4864; omega
  | ⟨1, _⟩ => show 128 * i + 1 * (p 1).val = (128 * i + (p 1).val) % 896; omega

/-- A load of the whole of a block. -/
theorem load_whole {κ : Kind} {sp : Space} {e : EltTy} {R C : ℕ} (arg : Memref sig κ sp ⟨2, ![R, C]⟩ e) (harg : arg.IsWhole)
    (x : Vec F ⟨2, ![R, C]⟩ e) (inb) :
    View.readAt (Elt F) arg.view (Rect.unit (s := ⟨2, ![R, C]⟩) ![0, 0] ![R, C] inb).toLoadRect (harg.unread x) = x := by
  rw [View.readAt_eq_ld, harg.read_unread]
  exact View.ld_unit_zero (S := ⟨2, ![R, C]⟩) (by funext a; match a with | ⟨0, _⟩ => rfl | ⟨1, _⟩ => rfl) inb x

/-- A load of one entry of the weights' scales. -/
theorem load_entry {κ : Kind} {sp : Space} {e : EltTy} (arg : Memref sig κ sp S38x7 e) (harg : arg.IsWhole) (x : Vec F S38x7 e)
    (o i : ℕ) (ho : o < 38) (hi : i < 7) (inb) (h) :
    View.readAt (Elt F) arg.view (Rect.unit (s := S38x7) ![o, i] S1x1.size inb).toLoadRect (harg.unread x) (Shape.Idx.first h)
      = x (ix2 ⟨o, ho⟩ ⟨i, hi⟩) := by
  rw [View.readAt_eq_ld, harg.read_unread]
  refine congrArg x (funext fun a => Fin.ext ?_)
  match a with
  | ⟨0, _⟩ => show o + 1 * 0 = o; omega
  | ⟨1, _⟩ => show i + 1 * 0 = i; omega

/-- A load of the whole of what stores have left. -/
theorem read_whole {κ : Kind} {sp : Space} {e : EltTy} {R C : ℕ} (arg : Memref sig κ sp ⟨2, ![R, C]⟩ e)
    (L : List (View.Piece (Elt F) ⟨2, ![R, C]⟩ e)) (G : Vec F ⟨2, ![R, C]⟩ e) (H : ∀ y, View.canon L y = G y) (inb) :
    arg.view.readCov L (Rect.unit (s := ⟨2, ![R, C]⟩) ![0, 0] ![R, C] inb).toLoadRect = G := by
  rw [View.readCov_eq_canon']
  funext j
  rw [H]
  refine congrArg G (funext fun a => Fin.ext ?_)
  match a with
  | ⟨0, _⟩ => show 0 + 1 * (j 0).val = (j 0).val; omega
  | ⟨1, _⟩ => show 0 + 1 * (j 1).val = (j 1).val; omega

/-- What a store of the whole of an array leaves. -/
theorem canon_whole (e : EltTy) {R C : ℕ} (w : Vec F ⟨2, ![R, C]⟩ e) (L : List (View.Piece (Elt F) ⟨2, ![R, C]⟩ e)) (inb) :
    View.canon ((⟨Rect.unit (s := ⟨2, ![R, C]⟩) ![0, 0] ![R, C] inb, w⟩ : View.Piece (Elt F) ⟨2, ![R, C]⟩ e) :: L) = w :=
  View.canon_cons_unit_zero (Val := Elt F) (S := ⟨2, ![R, C]⟩) (by funext a; match a with | ⟨0, _⟩ => rfl | ⟨1, _⟩ => rfl) inb w L

/-- A store of a function of the same 256 loaded columns of two arrays, at the columns' own place. -/
theorem cols_piece₂ {κ κ' : Kind} {sp sp' : Space} {e e' : EltTy} {R Q : ℕ} {α : Type}
    (f : ((⟨2, ![R, 256]⟩ : Shape).Idx → Elt F e) → ((⟨2, ![Q, 256]⟩ : Shape).Idx → Elt F e') → (⟨2, ![Q, 256]⟩ : Shape).Idx → α)
    (arg : Memref sig κ sp ⟨2, ![R, 4864]⟩ e) (harg : arg.IsWhole) (x : Vec F ⟨2, ![R, 4864]⟩ e)
    (arg' : Memref sig κ' sp' ⟨2, ![Q, 4864]⟩ e') (harg' : arg'.IsWhole) (x' : Vec F ⟨2, ![Q, 4864]⟩ e')
    (off k : ℕ) (h : off = 256 * k) (inb inb') (y : (⟨2, ![Q, 256]⟩ : Shape).Idx) :
    f (View.readAt (Elt F) arg.view (Rect.unit (s := ⟨2, ![R, 4864]⟩) ![0, off] ![R, 256] inb).toLoadRect (harg.unread x))
        (View.readAt (Elt F) arg'.view (Rect.unit (s := ⟨2, ![Q, 4864]⟩) ![0, off] ![Q, 256] inb').toLoadRect (harg'.unread x')) y
      = side 256 (by decide) (fun k => f (cols 256 x k) (cols 256 x' k)) ((Rect.unit (s := ⟨2, ![Q, 4864]⟩) ![0, off] ![Q, 256] inb').emb y) := by
  rw [load_cols 256 arg harg x off k h inb, load_cols 256 arg' harg' x' off k h inb']
  exact side_emb 256 (by decide) (fun k => f (cols 256 x k) (cols 256 x' k)) off k h inb' y

/-- A load of columns nothing has been stored to since the whole array was filled with `Z`. -/
theorem fill_read {κ : Kind} {sp : Space} {e : EltTy} {Q : ℕ} (arg : Memref sig κ sp ⟨2, ![Q, 4864]⟩ e)
    (L : List (View.Piece (Elt F) ⟨2, ![Q, 4864]⟩ e)) (G Z : Vec F ⟨2, ![Q, 4864]⟩ e) (off k : ℕ) (h : off = 256 * k)
    (H : ∀ y, View.canon L y = if (y 1).val < 256 * k then G y else Z y) (inb) :
    arg.view.readCov L (Rect.unit (s := ⟨2, ![Q, 4864]⟩) ![0, off] ![Q, 256] inb).toLoadRect = cols 256 Z k := by
  subst h
  have hb : 256 * k + 256 ≤ 4864 := inb 1
  rw [View.readCov_eq_canon']
  funext j
  have hj : (j 1).val < 256 := (j 1).isLt
  have e1 : (((Rect.unit (s := ⟨2, ![Q, 4864]⟩) ![0, 256 * k] ![Q, 256] inb).toLoadRect.idx j) 1).val = 256 * k + 1 * (j 1).val := rfl
  show View.canon L _ = _
  rw [H, if_neg (by rw [e1]; omega)]
  refine congrArg Z (funext fun a => Fin.ext ?_)
  match a with
  | ⟨0, _⟩ => show 0 + 1 * (j 0).val = (j 0).val; omega
  | ⟨1, _⟩ => show 256 * k + 1 * (j 1).val = (256 * k + (j 1).val) % 4864; rw [Nat.mod_eq_of_lt (by omega)]; omega

/-- One more store of 256 columns over an array filled with `Z` whose earlier columns already hold `G`. -/
theorem fill_step {e : EltTy} {Q : ℕ} (L : List (View.Piece (Elt F) ⟨2, ![Q, 4864]⟩ e)) (G Z : Vec F ⟨2, ![Q, 4864]⟩ e)
    (off k : ℕ) (h : off = 256 * k) (H : ∀ y, View.canon L y = if (y 1).val < 256 * k then G y else Z y) (inb)
    (w : (⟨2, ![Q, 256]⟩ : Shape).Idx → Elt F e)
    (hw : ∀ x, w x = G ((Rect.unit (s := ⟨2, ![Q, 4864]⟩) ![0, off] ![Q, 256] inb).emb x)) :
    ∀ y, View.canon ((⟨Rect.unit (s := ⟨2, ![Q, 4864]⟩) ![0, off] ![Q, 256] inb, w⟩ : View.Piece (Elt F) ⟨2, ![Q, 4864]⟩ e) :: L) y
      = if (y 1).val < 256 * (k + 1) then G y else Z y := by
  subst h
  intro y
  by_cases hy : 256 * k ≤ (y 1).val ∧ (y 1).val < 256 * k + 256
  · have ex : (Rect.unit (s := ⟨2, ![Q, 4864]⟩) ![0, 256 * k] ![Q, 256] inb).emb
        (ix2 (y 0) ⟨(y 1).val - 256 * k, by omega⟩ : (⟨2, ![Q, 256]⟩ : Shape).Idx) = y := by
      funext a; apply Fin.ext
      match a with
      | ⟨0, _⟩ => show 0 + 1 * (y 0).val = (y 0).val; omega
      | ⟨1, _⟩ => show 256 * k + 1 * ((y 1).val - 256 * k) = (y 1).val; omega
    rw [if_pos (by omega)]
    conv_lhs => rw [← ex]
    rw [View.canon_cons_emb]
    exact (hw _).trans (congrArg G ex)
  · rw [View.canon_cons_of_not_mem, H]
    · by_cases hk : (y 1).val < 256 * k
      · rw [if_pos hk, if_pos (by omega)]
      · rw [if_neg hk, if_neg (by omega)]
    · intro hm
      have := (Rect.mem_set_unit (inb := inb)).1 hm 1
      exact hy this

/-- The store of `fill_step` when its values come from the same columns of an array and of what the stores have left. -/
theorem fill_piece {κ κ' : Kind} {sp sp' : Space} {e e' : EltTy} {R Q : ℕ}
    (f : ((⟨2, ![R, 256]⟩ : Shape).Idx → Elt F e) → ((⟨2, ![Q, 256]⟩ : Shape).Idx → Elt F e') → (⟨2, ![Q, 256]⟩ : Shape).Idx → Elt F e')
    (arg : Memref sig κ sp ⟨2, ![R, 4864]⟩ e) (harg : arg.IsWhole) (x : Vec F ⟨2, ![R, 4864]⟩ e)
    (arg' : Memref sig κ' sp' ⟨2, ![Q, 4864]⟩ e') (L : List (View.Piece (Elt F) ⟨2, ![Q, 4864]⟩ e')) (Z : Vec F ⟨2, ![Q, 4864]⟩ e')
    (off k : ℕ) (h : off = 256 * k) (inb inb')
    (H : ∀ y, View.canon L y = if (y 1).val < 256 * k then side 256 (by decide) (fun k => f (cols 256 x k) (cols 256 Z k)) y else Z y)
    (y : (⟨2, ![Q, 256]⟩ : Shape).Idx) :
    f (View.readAt (Elt F) arg.view (Rect.unit (s := ⟨2, ![R, 4864]⟩) ![0, off] ![R, 256] inb).toLoadRect (harg.unread x))
        (arg'.view.readCov L (Rect.unit (s := ⟨2, ![Q, 4864]⟩) ![0, off] ![Q, 256] inb').toLoadRect) y
      = side 256 (by decide) (fun k => f (cols 256 x k) (cols 256 Z k)) ((Rect.unit (s := ⟨2, ![Q, 4864]⟩) ![0, off] ![Q, 256] inb').emb y) := by
  rw [load_cols 256 arg harg x off k h inb, fill_read arg' L _ Z off k h H inb']
  exact side_emb 256 (by decide) (fun k => f (cols 256 x k) (cols 256 Z k)) off k h inb' y

/-! ## A group of 128 columns -/

/-- The codes of a group. -/
def codesOf (v : Vec F S256x128 .bf16) : Vec F S256x128 .fp8e5m2 := k0_pay389 v (k0_pay384 v) (k0_pay385 v) (k0_pay386 v)
/-- The group's values after coding and scaling back. -/
def dywOf (v : Vec F S256x128 .bf16) : Vec F S256x128 .bf16 := k0_pay390 v (k0_pay384 v) (k0_pay385 v) (k0_pay386 v)
/-- The group's scales, one per token. -/
def scaleOf (v : Vec F S256x128 .bf16) : Vec F S256x1 .f32 := k0_pay388 (k0_pay384 v) (k0_pay385 v) (k0_pay386 v)

/-- The codes of a block of rows. -/
def codesBlk (x : Vec F S256x4864 .bf16) : Vec F S256x4864 .fp8e5m2 := side 128 (by decide) fun g => codesOf (cols 128 x g)
/-- A block of rows coded and scaled back. -/
def dywBlk (x : Vec F S256x4864 .bf16) : Vec F S256x4864 .bf16 := side 128 (by decide) fun g => dywOf (cols 128 x g)

/-- Group `g`'s scales put on lane `g`. -/
def putScale (g : ℕ) (v : Vec F S256x128 .bf16) (prev : Vec F S256x128 .f32) : Vec F S256x128 .f32 :=
  select (cmpi .eq (iota .tc S256x128 32 [1] iota_S256x128_d1_w32) (broadcast S256x128 (BitVec.ofNat 32 g)))
    (broadcastTo S256x128 (shapeCast S256x1 (scaleOf v) shapeCasts_S256x1_S256x1) broadcasts_S256x1_S256x128) prev

/-- The scales of the first `n` groups, each on its own lane. -/
def scaleLanes (f : (g : ℕ) → g < 38 → Vec F S256x128 .bf16) : (n : ℕ) → n ≤ 38 → Vec F S256x128 .f32
  | 0, _ => broadcast S256x128 (Scalar.ofBits .f32 0x00000000#32)
  | n + 1, h => putScale n (f n h) (scaleLanes f n (Nat.le_of_succ_le h))
/-- The scales of a block of rows. -/
def scaleBlk (x : Vec F S256x4864 .bf16) : Vec F S256x38 .f32 := k0_pay694 (scaleLanes (fun g _ => cols 128 x g) 38 (Nat.le_refl _))

/-! ## The low-rank part -/

/-- `a2 · xᵀ`. -/
def htOf (x1 : Vec F S256x896 .bf16) (x4 : Vec F S128x896 .bf16) : FVec F S128x256 .f32 := k0_pay332 x1 x4
/-- `bt · dyᵀ`. -/
def utOf (x6 : Vec F S128x4864 .bf16) (x2 : Vec F S256x4864 .bf16) : FVec F S128x256 .f32 := k0_pay695 x6 x2
/-- Where a row of `ht` belongs to the adapter the token chose in a slot. -/
def maskOf (r : Vec F S1x256 .i32) : IVec S128x256 1 := k0_pay334 (F := F) r
/-- A slot's `ht`. -/
def hjOf (x1 : Vec F S256x896 .bf16) (x4 : Vec F S128x896 .bf16) (r : Vec F S1x256 .i32) : FVec F S128x256 .bf16 :=
  k0_pay336 (htOf x1 x4) (maskOf (F := F) r)
/-- A slot's gated `ut`. -/
def guOf (x6 : Vec F S128x4864 .bf16) (x2 : Vec F S256x4864 .bf16) (r : Vec F S1x256 .i32) (g : Vec F S1x256 .f32) : FVec F S128x256 .bf16 :=
  k0_pay701 (maskOf (F := F) r) (utOf x6 x2) g

/-- A slot's row of the gradient of the gates. -/
def dgateRow (x1 : Vec F S256x896 .bf16) (x2 : Vec F S256x4864 .bf16) (x4 : Vec F S128x896 .bf16) (x6 : Vec F S128x4864 .bf16)
    (r : Vec F S1x256 .i32) : FVec F S1x256 .f32 :=
  k0_pay697 (htOf x1 x4) (maskOf (F := F) r) x6 x2
/-- The gradient of the gates. -/
def dgateBlk (x1 : Vec F S256x896 .bf16) (x2 : Vec F S256x4864 .bf16) (x4 : Vec F S128x896 .bf16) (x6 : Vec F S128x4864 .bf16)
    (x7 : Vec F S2x256 .i32) : Vec F S2x256 .f32 :=
  fun y => dgateRow x1 x2 x4 x6 (row x7 (y 0)) (ix2 0 (y 1))

/-- A store of a slot's row is that row of the gradient. -/
theorem dgate_emb (x1 : Vec F S256x896 .bf16) (x2 : Vec F S256x4864 .bf16) (x4 : Vec F S128x896 .bf16) (x6 : Vec F S128x4864 .bf16)
    (x7 : Vec F S2x256 .i32) (j : Fin 2) (inb) (x : S1x256.Idx) :
    dgateRow x1 x2 x4 x6 (row x7 j) x = dgateBlk x1 x2 x4 x6 x7 ((Rect.unit (s := S2x256) ![j.val, 0] S1x256.size inb).emb x) := by
  have hx : (x 0).val < 1 := (x 0).isLt
  have e0 : ((Rect.unit (s := S2x256) ![j.val, 0] S1x256.size inb).emb x) 0 = j := Fin.ext (by show j.val + 1 * (x 0).val = j.val; omega)
  unfold dgateBlk
  rw [e0]
  refine congrArg (dgateRow x1 x2 x4 x6 (row x7 j)) (funext fun a => Fin.ext ?_)
  match a with
  | ⟨0, _⟩ => show (x 0).val = 0; omega
  | ⟨1, _⟩ => show (x 1).val = 0 + 1 * (x 1).val; omega

/-- A run of 256 columns of the gradient of `B` after the step. -/
def dbChunk (x1 : Vec F S256x896 .bf16) (x4 : Vec F S128x896 .bf16) (x7 : Vec F S2x256 .i32) (x9 : Vec F S256x2 .f32)
    (v : Vec F S256x256 .bf16) (prev : Vec F S128x256 .f32) : Vec F S128x256 .f32 :=
  k0_pay355 (hjOf x1 x4 (row x7 0)) (hjOf x1 x4 (row x7 1)) (col x9 0) (col x9 1) v prev
/-- The gradient of `B` after the step, over what it was before. -/
def dbStep (x1 : Vec F S256x896 .bf16) (x2 : Vec F S256x4864 .bf16) (x4 : Vec F S128x896 .bf16) (x7 : Vec F S2x256 .i32)
    (x9 : Vec F S256x2 .f32) (prev : Vec F S128x4864 .f32) : Vec F S128x4864 .f32 :=
  side 256 (by decide) fun k => dbChunk x1 x4 x7 x9 (cols 256 x2 k) (cols 256 prev k)

/-- The gradient of `A` after the step, over what it was before. -/
def daStep (x1 : Vec F S256x896 .bf16) (x2 : Vec F S256x4864 .bf16) (x6 : Vec F S128x4864 .bf16) (x7 : Vec F S2x256 .i32)
    (x8 : Vec F S2x256 .f32) (prev : Vec F S128x896 .f32) : Vec F S128x896 .f32 :=
  k0_pay702 x1 (maskOf (F := F) (row x7 1)) (utOf x6 x2) (guOf x6 x2 (row x7 0) (row x8 0)) (row x8 1) prev

/-! ## The frozen layer -/

/-- The dequantised weights, transposed. -/
def wtBlk (x0 : Vec F S38x7 .f32) (x3 : Vec F S4864x896 .fp8e4m3) : Vec F S896x4864 .bf16 :=
  fun y => k0_pay3 (wblk x3 ((y 1).val / 128) ((y 0).val / 128))
      (x0 (ix2 ⟨(y 1).val / 128, by have : (y 1).val < 4864 := (y 1).isLt; omega⟩ ⟨(y 0).val / 128, by have : (y 0).val < 896 := (y 0).isLt; omega⟩))
    (ix2 ⟨(y 0).val % 128, Nat.mod_lt _ (by decide)⟩ ⟨(y 1).val % 128, Nat.mod_lt _ (by decide)⟩)

/-- A store of a block of weights, scaled and transposed, at the transposed place. -/
theorem wt_piece {κ κ' : Kind} {sp sp' : Space} (arg1 : Memref sig κ sp S38x7 .f32) (harg1 : arg1.IsWhole) (x0 : Vec F S38x7 .f32)
    (arg4 : Memref sig κ' sp' S4864x896 .fp8e4m3) (harg4 : arg4.IsWhole) (x3 : Vec F S4864x896 .fp8e4m3)
    (a b o i : ℕ) (ha : a = 128 * o) (hb : b = 128 * i) (inb inb' inb'' h) (y : S128x128.Idx) :
    k0_pay3 (View.readAt (Elt F) arg4.view (Rect.unit (s := S4864x896) ![a, b] S128x128.size inb).toLoadRect (harg4.unread x3))
        (View.readAt (Elt F) arg1.view (Rect.unit (s := S38x7) ![o, i] S1x1.size inb').toLoadRect (harg1.unread x0) (Shape.Idx.first h)) y
      = wtBlk x0 x3 ((Rect.unit (s := S896x4864) ![b, a] S128x128.size inb'').emb y) := by
  have ho : o + 1 ≤ 38 := inb' 0
  have hi : i + 1 ≤ 7 := inb' 1
  rw [load_wblk arg4 harg4 x3 a b o i ha hb inb, load_entry arg1 harg1 x0 o i ho hi inb' h]
  subst ha hb
  have h0 : (y 0).val < 128 := (y 0).isLt
  have h1 : (y 1).val < 128 := (y 1).isLt
  have e0 : (((Rect.unit (s := S896x4864) ![128 * i, 128 * o] S128x128.size inb'').emb y) 0).val = 128 * i + 1 * (y 0).val := rfl
  have e1 : (((Rect.unit (s := S896x4864) ![128 * i, 128 * o] S128x128.size inb'').emb y) 1).val = 128 * o + 1 * (y 1).val := rfl
  have d0 : (((Rect.unit (s := S896x4864) ![128 * i, 128 * o] S128x128.size inb'').emb y) 0).val / 128 = i := by rw [e0]; omega
  have d1 : (((Rect.unit (s := S896x4864) ![128 * i, 128 * o] S128x128.size inb'').emb y) 1).val / 128 = o := by rw [e1]; omega
  unfold wtBlk
  simp only [d0, d1]
  refine congrArg (k0_pay3 _ _) (funext fun a => Fin.ext ?_)
  match a with
  | ⟨0, _⟩ => show (y 0).val = (128 * i + 1 * (y 0).val) % 128; omega
  | ⟨1, _⟩ => show (y 1).val = (128 * o + 1 * (y 1).val) % 128; omega

/-- The gradient of `x`. -/
def dxBlk (wt : Vec F S896x4864 .bf16) (x2 : Vec F S256x4864 .bf16) (x5 : Vec F S896x128 .bf16) (x6 : Vec F S128x4864 .bf16)
    (x7 : Vec F S2x256 .i32) (x8 : Vec F S2x256 .f32) : Vec F S256x896 .bf16 :=
  k0_pay703 (maskOf (F := F) (row x7 1)) (utOf x6 x2) (guOf x6 x2 (row x7 0) (row x8 0)) (row x8 1) wt (dywBlk x2) x5 x5

end Cert.Block
-- ==== Proof.CaseA.lean ====
/- What the first grid step of a core leaves in its windows and scratch arrays, from its blocks. -/
module

public import proofs.«01_k».proof.Proof.Block
public import proofs.«01_k».proof.Proof.Gen.KernelIdeal.Frame
public import Idealize.ShloMosaic.Lib.Pipeline.ReadBack

@[expose] public section

set_option maxRecDepth 16384
set_option maxHeartbeats 4000000

noncomputable section

namespace Cert.CaseA

open Cert.KernelIdeal Cert.KernelIdeal.Gen Cert.Block Idealize.ShloMosaic Idealize.ShloMosaic.TcCoe Idealize.ShloMosaic.ValueIdx

variable {F : FTy → Type} [FloatOps F]
variable (c : Dev nD) (i : grid0.Coords) (arg1 : Memref sig .tc .smem S38x7 .f32) (harg1 : arg1.IsWhole) (arg2 : Memref sig .tc .vmem S256x896 .bf16) (harg2 : arg2.IsWhole) (arg3 : Memref sig .tc .vmem S256x4864 .bf16) (harg3 : arg3.IsWhole) (arg4 : Memref sig .tc .vmem S4864x896 .fp8e4m3) (harg4 : arg4.IsWhole) (arg5 : Memref sig .tc .vmem S128x896 .bf16) (harg5 : arg5.IsWhole) (arg6 : Memref sig .tc .vmem S896x128 .bf16) (harg6 : arg6.IsWhole) (arg7 : Memref sig .tc .vmem S128x4864 .bf16) (harg7 : arg7.IsWhole) (arg8 : Memref sig .tc .vmem S2x256 .i32) (harg8 : arg8.IsWhole) (arg9 : Memref sig .tc .vmem S2x256 .f32) (harg9 : arg9.IsWhole) (arg10 : Memref sig .tc .vmem S256x2 .f32) (harg10 : arg10.IsWhole) (arg11 : Memref sig .tc .vmem S256x896 .bf16) (harg11 : arg11.IsWhole) (arg12 : Memref sig .tc .vmem S128x896 .f32) (harg12 : arg12.IsWhole) (arg13 : Memref sig .tc .vmem S128x4864 .f32) (harg13 : arg13.IsWhole) (arg14 : Memref sig .tc .vmem S2x256 .f32) (harg14 : arg14.IsWhole) (arg15 : Memref sig .tc .vmem S256x4864 .fp8e5m2) (harg15 : arg15.IsWhole) (arg16 : Memref sig .tc .vmem S256x38 .f32) (harg16 : arg16.IsWhole) (arg17 : Memref sig .tc .vmem S896x4864 .bf16) (harg17 : arg17.IsWhole) (arg18 : Memref sig .tc .vmem S256x4864 .bf16) (harg18 : arg18.IsWhole) (arg19 : Memref sig .tc .vmem S128x4864 .f32) (harg19 : arg19.IsWhole) (arg20 : Memref sig .tc .vmem S128x896 .f32) (harg20 : arg20.IsWhole) (hc0 : cond0_0 i) (hc1 : ¬cond0_1 i)
  (x0 : Vec F S38x7 .f32) (x1 : Vec F S256x896 .bf16) (x2 : Vec F S256x4864 .bf16) (x3 : Vec F S4864x896 .fp8e4m3) (x4 : Vec F S128x896 .bf16) (x5 : Vec F S896x128 .bf16) (x6 : Vec F S128x4864 .bf16) (x7 : Vec F S2x256 .i32) (x8 : Vec F S2x256 .f32) (x9 : Vec F S256x2 .f32)

/-! ## Values kept between stores -/

/-- The block of `x`. -/
theorem keep_x : kernelRun0_A.sl.r_336 c arg2 harg2 x1 = x1 := load_whole arg2 harg2 x1 inb_S256x896_S256x896_0_0
/-- `a2 · xᵀ`. -/
theorem keep_ht : kernelRun0_A.sl.r_337 c arg2 harg2 arg5 harg5 x1 x4 = htOf x1 x4 := congrArg₂ htOf (load_whole arg2 harg2 x1 inb_S256x896_S256x896_0_0) (load_whole arg5 harg5 x4 inb_S128x896_S128x896_0_0)
/-- Where the rows belong to slot 0's adapter. -/
theorem keep_mask0 : kernelRun0_A.sl.r_338 c arg8 harg8 x7 = maskOf (F := F) (row x7 0) := congrArg (maskOf (F := F)) (load_row arg8 harg8 x7 0 inb_S2x256_S1x256_0_0)
/-- Where the rows belong to slot 1's adapter. -/
theorem keep_mask1 : kernelRun0_A.sl.r_339 c arg8 harg8 x7 = maskOf (F := F) (row x7 1) := congrArg (maskOf (F := F)) (load_row arg8 harg8 x7 1 inb_S2x256_S1x256_1_0)
/-- Slot 0's rows of `a2 · xᵀ`. -/
theorem keep_h0 : kernelRun0_A.sl.r_340 c arg2 harg2 arg5 harg5 arg8 harg8 x1 x4 x7 = hjOf x1 x4 (row x7 0) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 0 inb_S2x256_S1x256_0_0))
/-- Slot 1's rows of `a2 · xᵀ`. -/
theorem keep_h1 : kernelRun0_A.sl.r_341 c arg2 harg2 arg5 harg5 arg8 harg8 x1 x4 x7 = hjOf x1 x4 (row x7 1) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 1 inb_S2x256_S1x256_1_0))
/-- Slot 0's gates. -/
theorem keep_g0 : kernelRun0_A.sl.r_342 c arg10 harg10 x9 = col x9 0 := load_col arg10 harg10 x9 0 inb_S256x2_S256x1_0_0
/-- Slot 1's gates. -/
theorem keep_g1 : kernelRun0_A.sl.r_343 c arg10 harg10 x9 = col x9 1 := load_col arg10 harg10 x9 1 inb_S256x2_S256x1_0_1
/-- `bt · dyᵀ`. -/
theorem keep_ut : kernelRun0_A.sl.r_553 c arg3 harg3 arg7 harg7 x2 x6 = utOf x6 x2 := congrArg₂ utOf (load_whole arg7 harg7 x6 inb_S128x4864_S128x4864_0_0) (load_whole arg3 harg3 x2 inb_S256x4864_S256x4864_0_0)
/-- Slot 0's gated rows of `bt · dyᵀ`. -/
theorem keep_gu : kernelRun0_A.sl.r_554 c arg3 harg3 arg7 harg7 arg8 harg8 arg9 harg9 x2 x6 x7 x8 = guOf x6 x2 (row x7 0) (row x8 0) :=
  (congrArg₂ (fun a b => guOf a b _ _) (load_whole arg7 harg7 x6 inb_S128x4864_S128x4864_0_0) (load_whole arg3 harg3 x2 inb_S256x4864_S256x4864_0_0)).trans
    (congrArg₂ (guOf x6 x2) (load_row arg8 harg8 x7 0 inb_S2x256_S1x256_0_0) (load_row arg9 harg9 x8 0 inb_S2x256_S1x256_0_0))
/-- The groups' scales on their lanes. -/
theorem keep_scale : kernelRun0_A.sl.r_550 c arg3 harg3 x2 = scaleLanes (fun g _ => cols 128 x2 g) 38 (Nat.le_refl _) := by
  have e : ∀ (f f' : (g : ℕ) → g < 38 → Vec F S256x128 .bf16), f = f' → scaleLanes f 38 (Nat.le_refl _) = scaleLanes f' 38 (Nat.le_refl _) :=
    fun f f' h => congrArg (fun f => scaleLanes f 38 (Nat.le_refl _)) h
  refine Eq.trans ?_ (e _ _ (funext fun g => funext fun hg => load_cols 128 arg3 harg3 x2 (128 * g) g rfl
    (fun a => match a with | ⟨0, _⟩ => (by decide : 0 + 256 ≤ 256) | ⟨1, _⟩ => (by omega : 128 * g + 128 ≤ 4864))))
  rfl
/-- The coded and scaled back block, as the stores leave it. -/
theorem keep_dyw : ∀ y, View.canon (kernelRun0_A.sl.HS1_38 c arg3 harg3 x2) y = dywBlk x2 y := by
  intro y
  refine View.canon_apply_of_pieces (dywBlk x2) _ ?_ y (View.cover_of_tiledL (kernelRun0_A.sl.HS1_38 c arg3 harg3 x2) S256x128.size (by sl_kernel_rfl) y)
  refine List.forall_mem_cons.2 ⟨fun x => cols_piece 128 (by decide) dywOf arg3 harg3 x2 4736 37 rfl inb_S256x4864_S256x128_0_4736 inb_S256x4864_S256x128_0_4736 x, ?_⟩
  refine List.forall_mem_cons.2 ⟨fun x => cols_piece 128 (by decide) dywOf arg3 harg3 x2 4608 36 rfl inb_S256x4864_S256x128_0_4608 inb_S256x4864_S256x128_0_4608 x, ?_⟩
  refine List.forall_mem_cons.2 ⟨fun x => cols_piece 128 (by decide) dywOf arg3 harg3 x2 4480 35 rfl inb_S256x4864_S256x128_0_4480 inb_S256x4864_S256x128_0_4480 x, ?_⟩
  refine List.forall_mem_cons.2 ⟨fun x => cols_piece 128 (by decide) dywOf arg3 harg3 x2 4352 34 rfl inb_S256x4864_S256x128_0_4352 inb_S256x4864_S256x128_0_4352 x, ?_⟩
  refine List.forall_mem_cons.2 ⟨fun x => cols_piece 128 (by decide) dywOf arg3 harg3 x2 4224 33 rfl inb_S256x4864_S256x128_0_4224 inb_S256x4864_S256x128_0_4224 x, ?_⟩
  refine List.forall_mem_cons.2 ⟨fun x => cols_piece 128 (by decide) dywOf arg3 harg3 x2 4096 32 rfl inb_S256x4864_S256x128_0_4096 inb_S256x4864_S256x128_0_4096 x, ?_⟩
  refine List.forall_mem_cons.2 ⟨fun x => cols_piece 128 (by decide) dywOf arg3 harg3 x2 3968 31 rfl inb_S256x4864_S256x128_0_3968 inb_S256x4864_S256x128_0_3968 x, ?_⟩
  refine List.forall_mem_cons.2 ⟨fun x => cols_piece 128 (by decide) dywOf arg3 harg3 x2 3840 30 rfl inb_S256x4864_S256x128_0_3840 inb_S256x4864_S256x128_0_3840 x, ?_⟩
  refine List.forall_mem_cons.2 ⟨fun x => cols_piece 128 (by decide) dywOf arg3 harg3 x2 3712 29 rfl inb_S256x4864_S256x128_0_3712 inb_S256x4864_S256x128_0_3712 x, ?_⟩
  refine List.forall_mem_cons.2 ⟨fun x => cols_piece 128 (by decide) dywOf arg3 harg3 x2 3584 28 rfl inb_S256x4864_S256x128_0_3584 inb_S256x4864_S256x128_0_3584 x, ?_⟩
  refine List.forall_mem_cons.2 ⟨fun x => cols_piece 128 (by decide) dywOf arg3 harg3 x2 3456 27 rfl inb_S256x4864_S256x128_0_3456 inb_S256x4864_S256x128_0_3456 x, ?_⟩
  refine List.forall_mem_cons.2 ⟨fun x => cols_piece 128 (by decide) dywOf arg3 harg3 x2 3328 26 rfl inb_S256x4864_S256x128_0_3328 inb_S256x4864_S256x128_0_3328 x, ?_⟩
  refine List.forall_mem_cons.2 ⟨fun x => cols_piece 128 (by decide) dywOf arg3 harg3 x2 3200 25 rfl inb_S256x4864_S256x128_0_3200 inb_S256x4864_S256x128_0_3200 x, ?_⟩
  refine List.forall_mem_cons.2 ⟨fun x => cols_piece 128 (by decide) dywOf arg3 harg3 x2 3072 24 rfl inb_S256x4864_S256x128_0_3072 inb_S256x4864_S256x128_0_3072 x, ?_⟩
  refine List.forall_mem_cons.2 ⟨fun x => cols_piece 128 (by decide) dywOf arg3 harg3 x2 2944 23 rfl inb_S256x4864_S256x128_0_2944 inb_S256x4864_S256x128_0_2944 x, ?_⟩
  refine List.forall_mem_cons.2 ⟨fun x => cols_piece 128 (by decide) dywOf arg3 harg3 x2 2816 22 rfl inb_S256x4864_S256x128_0_2816 inb_S256x4864_S256x128_0_2816 x, ?_⟩
  refine List.forall_mem_cons.2 ⟨fun x => cols_piece 128 (by decide) dywOf arg3 harg3 x2 2688 21 rfl inb_S256x4864_S256x128_0_2688 inb_S256x4864_S256x128_0_2688 x, ?_⟩
  refine List.forall_mem_cons.2 ⟨fun x => cols_piece 128 (by decide) dywOf arg3 harg3 x2 2560 20 rfl inb_S256x4864_S256x128_0_2560 inb_S256x4864_S256x128_0_2560 x, ?_⟩
  refine List.forall_mem_cons.2 ⟨fun x => cols_piece 128 (by decide) dywOf arg3 harg3 x2 2432 19 rfl inb_S256x4864_S256x128_0_2432 inb_S256x4864_S256x128_0_2432 x, ?_⟩
  refine List.forall_mem_cons.2 ⟨fun x => cols_piece 128 (by decide) dywOf arg3 harg3 x2 2304 18 rfl inb_S256x4864_S256x128_0_2304 inb_S256x4864_S256x128_0_2304 x, ?_⟩
  refine List.forall_mem_cons.2 ⟨fun x => cols_piece 128 (by decide) dywOf arg3 harg3 x2 2176 17 rfl inb_S256x4864_S256x128_0_2176 inb_S256x4864_S256x128_0_2176 x, ?_⟩
  refine List.forall_mem_cons.2 ⟨fun x => cols_piece 128 (by decide) dywOf arg3 harg3 x2 2048 16 rfl inb_S256x4864_S256x128_0_2048 inb_S256x4864_S256x128_0_2048 x, ?_⟩
  refine List.forall_mem_cons.2 ⟨fun x => cols_piece 128 (by decide) dywOf arg3 harg3 x2 1920 15 rfl inb_S256x4864_S256x128_0_1920 inb_S256x4864_S256x128_0_1920 x, ?_⟩
  refine List.forall_mem_cons.2 ⟨fun x => cols_piece 128 (by decide) dywOf arg3 harg3 x2 1792 14 rfl inb_S256x4864_S256x128_0_1792 inb_S256x4864_S256x128_0_1792 x, ?_⟩
  refine List.forall_mem_cons.2 ⟨fun x => cols_piece 128 (by decide) dywOf arg3 harg3 x2 1664 13 rfl inb_S256x4864_S256x128_0_1664 inb_S256x4864_S256x128_0_1664 x, ?_⟩
  refine List.forall_mem_cons.2 ⟨fun x => cols_piece 128 (by decide) dywOf arg3 harg3 x2 1536 12 rfl inb_S256x4864_S256x128_0_1536 inb_S256x4864_S256x128_0_1536 x, ?_⟩
  refine List.forall_mem_cons.2 ⟨fun x => cols_piece 128 (by decide) dywOf arg3 harg3 x2 1408 11 rfl inb_S256x4864_S256x128_0_1408 inb_S256x4864_S256x128_0_1408 x, ?_⟩
  refine List.forall_mem_cons.2 ⟨fun x => cols_piece 128 (by decide) dywOf arg3 harg3 x2 1280 10 rfl inb_S256x4864_S256x128_0_1280 inb_S256x4864_S256x128_0_1280 x, ?_⟩
  refine List.forall_mem_cons.2 ⟨fun x => cols_piece 128 (by decide) dywOf arg3 harg3 x2 1152 9 rfl inb_S256x4864_S256x128_0_1152 inb_S256x4864_S256x128_0_1152 x, ?_⟩
  refine List.forall_mem_cons.2 ⟨fun x => cols_piece 128 (by decide) dywOf arg3 harg3 x2 1024 8 rfl inb_S256x4864_S256x128_0_1024 inb_S256x4864_S256x128_0_1024 x, ?_⟩
  refine List.forall_mem_cons.2 ⟨fun x => cols_piece 128 (by decide) dywOf arg3 harg3 x2 896 7 rfl inb_S256x4864_S256x128_0_896 inb_S256x4864_S256x128_0_896 x, ?_⟩
  refine List.forall_mem_cons.2 ⟨fun x => cols_piece 128 (by decide) dywOf arg3 harg3 x2 768 6 rfl inb_S256x4864_S256x128_0_768 inb_S256x4864_S256x128_0_768 x, ?_⟩
  refine List.forall_mem_cons.2 ⟨fun x => cols_piece 128 (by decide) dywOf arg3 harg3 x2 640 5 rfl inb_S256x4864_S256x128_0_640 inb_S256x4864_S256x128_0_640 x, ?_⟩
  refine List.forall_mem_cons.2 ⟨fun x => cols_piece 128 (by decide) dywOf arg3 harg3 x2 512 4 rfl inb_S256x4864_S256x128_0_512 inb_S256x4864_S256x128_0_512 x, ?_⟩
  refine List.forall_mem_cons.2 ⟨fun x => cols_piece 128 (by decide) dywOf arg3 harg3 x2 384 3 rfl inb_S256x4864_S256x128_0_384 inb_S256x4864_S256x128_0_384 x, ?_⟩
  refine List.forall_mem_cons.2 ⟨fun x => cols_piece 128 (by decide) dywOf arg3 harg3 x2 256 2 rfl inb_S256x4864_S256x128_0_256 inb_S256x4864_S256x128_0_256 x, ?_⟩
  refine List.forall_mem_cons.2 ⟨fun x => cols_piece 128 (by decide) dywOf arg3 harg3 x2 128 1 rfl inb_S256x4864_S256x128_0_128 inb_S256x4864_S256x128_0_128 x, ?_⟩
  refine List.forall_mem_cons.2 ⟨fun x => cols_piece 128 (by decide) dywOf arg3 harg3 x2 0 0 rfl inb_S256x4864_S256x128_0_0 inb_S256x4864_S256x128_0_0 x, ?_⟩
  exact fun p hp => absurd hp List.not_mem_nil
theorem keep_dyw' : kernelRun0_A.sl.v3019 c arg3 harg3 arg18 x2 = dywBlk x2 := read_whole arg18 _ _ (keep_dyw c arg3 harg3 x2) inb_S256x4864_S256x4864_0_0

/-! ## The windows -/

/-- The codes of `dy`. -/
theorem codes : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = codesBlk x2 := by
  unfold out0_A_14
  rw [View.read_writes_junk_eq_canon]
  funext y
  refine View.canon_apply_of_pieces (codesBlk x2) _ ?_ y (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 y)
  refine List.forall_mem_cons.2 ⟨fun x => cols_piece 128 (by decide) codesOf arg3 harg3 x2 4736 37 rfl inb_S256x4864_S256x128_0_4736 inb_S256x4864_S256x128_0_4736 x, ?_⟩
  refine List.forall_mem_cons.2 ⟨fun x => cols_piece 128 (by decide) codesOf arg3 harg3 x2 4608 36 rfl inb_S256x4864_S256x128_0_4608 inb_S256x4864_S256x128_0_4608 x, ?_⟩
  refine List.forall_mem_cons.2 ⟨fun x => cols_piece 128 (by decide) codesOf arg3 harg3 x2 4480 35 rfl inb_S256x4864_S256x128_0_4480 inb_S256x4864_S256x128_0_4480 x, ?_⟩
  refine List.forall_mem_cons.2 ⟨fun x => cols_piece 128 (by decide) codesOf arg3 harg3 x2 4352 34 rfl inb_S256x4864_S256x128_0_4352 inb_S256x4864_S256x128_0_4352 x, ?_⟩
  refine List.forall_mem_cons.2 ⟨fun x => cols_piece 128 (by decide) codesOf arg3 harg3 x2 4224 33 rfl inb_S256x4864_S256x128_0_4224 inb_S256x4864_S256x128_0_4224 x, ?_⟩
  refine List.forall_mem_cons.2 ⟨fun x => cols_piece 128 (by decide) codesOf arg3 harg3 x2 4096 32 rfl inb_S256x4864_S256x128_0_4096 inb_S256x4864_S256x128_0_4096 x, ?_⟩
  refine List.forall_mem_cons.2 ⟨fun x => cols_piece 128 (by decide) codesOf arg3 harg3 x2 3968 31 rfl inb_S256x4864_S256x128_0_3968 inb_S256x4864_S256x128_0_3968 x, ?_⟩
  refine List.forall_mem_cons.2 ⟨fun x => cols_piece 128 (by decide) codesOf arg3 harg3 x2 3840 30 rfl inb_S256x4864_S256x128_0_3840 inb_S256x4864_S256x128_0_3840 x, ?_⟩
  refine List.forall_mem_cons.2 ⟨fun x => cols_piece 128 (by decide) codesOf arg3 harg3 x2 3712 29 rfl inb_S256x4864_S256x128_0_3712 inb_S256x4864_S256x128_0_3712 x, ?_⟩
  refine List.forall_mem_cons.2 ⟨fun x => cols_piece 128 (by decide) codesOf arg3 harg3 x2 3584 28 rfl inb_S256x4864_S256x128_0_3584 inb_S256x4864_S256x128_0_3584 x, ?_⟩
  refine List.forall_mem_cons.2 ⟨fun x => cols_piece 128 (by decide) codesOf arg3 harg3 x2 3456 27 rfl inb_S256x4864_S256x128_0_3456 inb_S256x4864_S256x128_0_3456 x, ?_⟩
  refine List.forall_mem_cons.2 ⟨fun x => cols_piece 128 (by decide) codesOf arg3 harg3 x2 3328 26 rfl inb_S256x4864_S256x128_0_3328 inb_S256x4864_S256x128_0_3328 x, ?_⟩
  refine List.forall_mem_cons.2 ⟨fun x => cols_piece 128 (by decide) codesOf arg3 harg3 x2 3200 25 rfl inb_S256x4864_S256x128_0_3200 inb_S256x4864_S256x128_0_3200 x, ?_⟩
  refine List.forall_mem_cons.2 ⟨fun x => cols_piece 128 (by decide) codesOf arg3 harg3 x2 3072 24 rfl inb_S256x4864_S256x128_0_3072 inb_S256x4864_S256x128_0_3072 x, ?_⟩
  refine List.forall_mem_cons.2 ⟨fun x => cols_piece 128 (by decide) codesOf arg3 harg3 x2 2944 23 rfl inb_S256x4864_S256x128_0_2944 inb_S256x4864_S256x128_0_2944 x, ?_⟩
  refine List.forall_mem_cons.2 ⟨fun x => cols_piece 128 (by decide) codesOf arg3 harg3 x2 2816 22 rfl inb_S256x4864_S256x128_0_2816 inb_S256x4864_S256x128_0_2816 x, ?_⟩
  refine List.forall_mem_cons.2 ⟨fun x => cols_piece 128 (by decide) codesOf arg3 harg3 x2 2688 21 rfl inb_S256x4864_S256x128_0_2688 inb_S256x4864_S256x128_0_2688 x, ?_⟩
  refine List.forall_mem_cons.2 ⟨fun x => cols_piece 128 (by decide) codesOf arg3 harg3 x2 2560 20 rfl inb_S256x4864_S256x128_0_2560 inb_S256x4864_S256x128_0_2560 x, ?_⟩
  refine List.forall_mem_cons.2 ⟨fun x => cols_piece 128 (by decide) codesOf arg3 harg3 x2 2432 19 rfl inb_S256x4864_S256x128_0_2432 inb_S256x4864_S256x128_0_2432 x, ?_⟩
  refine List.forall_mem_cons.2 ⟨fun x => cols_piece 128 (by decide) codesOf arg3 harg3 x2 2304 18 rfl inb_S256x4864_S256x128_0_2304 inb_S256x4864_S256x128_0_2304 x, ?_⟩
  refine List.forall_mem_cons.2 ⟨fun x => cols_piece 128 (by decide) codesOf arg3 harg3 x2 2176 17 rfl inb_S256x4864_S256x128_0_2176 inb_S256x4864_S256x128_0_2176 x, ?_⟩
  refine List.forall_mem_cons.2 ⟨fun x => cols_piece 128 (by decide) codesOf arg3 harg3 x2 2048 16 rfl inb_S256x4864_S256x128_0_2048 inb_S256x4864_S256x128_0_2048 x, ?_⟩
  refine List.forall_mem_cons.2 ⟨fun x => cols_piece 128 (by decide) codesOf arg3 harg3 x2 1920 15 rfl inb_S256x4864_S256x128_0_1920 inb_S256x4864_S256x128_0_1920 x, ?_⟩
  refine List.forall_mem_cons.2 ⟨fun x => cols_piece 128 (by decide) codesOf arg3 harg3 x2 1792 14 rfl inb_S256x4864_S256x128_0_1792 inb_S256x4864_S256x128_0_1792 x, ?_⟩
  refine List.forall_mem_cons.2 ⟨fun x => cols_piece 128 (by decide) codesOf arg3 harg3 x2 1664 13 rfl inb_S256x4864_S256x128_0_1664 inb_S256x4864_S256x128_0_1664 x, ?_⟩
  refine List.forall_mem_cons.2 ⟨fun x => cols_piece 128 (by decide) codesOf arg3 harg3 x2 1536 12 rfl inb_S256x4864_S256x128_0_1536 inb_S256x4864_S256x128_0_1536 x, ?_⟩
  refine List.forall_mem_cons.2 ⟨fun x => cols_piece 128 (by decide) codesOf arg3 harg3 x2 1408 11 rfl inb_S256x4864_S256x128_0_1408 inb_S256x4864_S256x128_0_1408 x, ?_⟩
  refine List.forall_mem_cons.2 ⟨fun x => cols_piece 128 (by decide) codesOf arg3 harg3 x2 1280 10 rfl inb_S256x4864_S256x128_0_1280 inb_S256x4864_S256x128_0_1280 x, ?_⟩
  refine List.forall_mem_cons.2 ⟨fun x => cols_piece 128 (by decide) codesOf arg3 harg3 x2 1152 9 rfl inb_S256x4864_S256x128_0_1152 inb_S256x4864_S256x128_0_1152 x, ?_⟩
  refine List.forall_mem_cons.2 ⟨fun x => cols_piece 128 (by decide) codesOf arg3 harg3 x2 1024 8 rfl inb_S256x4864_S256x128_0_1024 inb_S256x4864_S256x128_0_1024 x, ?_⟩
  refine List.forall_mem_cons.2 ⟨fun x => cols_piece 128 (by decide) codesOf arg3 harg3 x2 896 7 rfl inb_S256x4864_S256x128_0_896 inb_S256x4864_S256x128_0_896 x, ?_⟩
  refine List.forall_mem_cons.2 ⟨fun x => cols_piece 128 (by decide) codesOf arg3 harg3 x2 768 6 rfl inb_S256x4864_S256x128_0_768 inb_S256x4864_S256x128_0_768 x, ?_⟩
  refine List.forall_mem_cons.2 ⟨fun x => cols_piece 128 (by decide) codesOf arg3 harg3 x2 640 5 rfl inb_S256x4864_S256x128_0_640 inb_S256x4864_S256x128_0_640 x, ?_⟩
  refine List.forall_mem_cons.2 ⟨fun x => cols_piece 128 (by decide) codesOf arg3 harg3 x2 512 4 rfl inb_S256x4864_S256x128_0_512 inb_S256x4864_S256x128_0_512 x, ?_⟩
  refine List.forall_mem_cons.2 ⟨fun x => cols_piece 128 (by decide) codesOf arg3 harg3 x2 384 3 rfl inb_S256x4864_S256x128_0_384 inb_S256x4864_S256x128_0_384 x, ?_⟩
  refine List.forall_mem_cons.2 ⟨fun x => cols_piece 128 (by decide) codesOf arg3 harg3 x2 256 2 rfl inb_S256x4864_S256x128_0_256 inb_S256x4864_S256x128_0_256 x, ?_⟩
  refine List.forall_mem_cons.2 ⟨fun x => cols_piece 128 (by decide) codesOf arg3 harg3 x2 128 1 rfl inb_S256x4864_S256x128_0_128 inb_S256x4864_S256x128_0_128 x, ?_⟩
  refine List.forall_mem_cons.2 ⟨fun x => cols_piece 128 (by decide) codesOf arg3 harg3 x2 0 0 rfl inb_S256x4864_S256x128_0_0 inb_S256x4864_S256x128_0_0 x, ?_⟩
  exact fun p hp => absurd hp List.not_mem_nil

/-- The scales of `dy`. -/
theorem scale : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = scaleBlk x2 := by
  unfold out0_A_15
  rw [View.read_writes_junk_eq_canon]
  exact (canon_whole .f32 (k0_pay694 (kernelRun0_A.sl.r_550 c arg3 harg3 x2)) [] inb_S256x38_S256x38_0_0).trans (congrArg k0_pay694 (keep_scale c arg3 harg3 x2))

/-- The gradient of the gates. -/
theorem dgate : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = dgateBlk x1 x2 x4 x6 x7 := by
  unfold out0_A_13
  rw [View.read_writes_junk_eq_canon]
  funext y
  refine View.canon_apply_of_pieces (dgateBlk x1 x2 x4 x6 x7) _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 y)
  have e1 : k0_pay700 (kernelRun0_A.sl.r_555 c arg2 harg2 arg3 harg3 arg5 harg5 arg7 harg7 arg8 harg8 x1 x2 x4 x6 x7) = dgateRow x1 x2 x4 x6 (row x7 1) := by
    refine Eq.trans (b := k0_pay697 (kernelRun0_A.sl.r_337 c arg2 harg2 arg5 harg5 x1 x4) (kernelRun0_A.sl.r_339 c arg8 harg8 x7) _ _) rfl ?_
    rw [keep_ht, keep_mask1]
    exact congrArg₂ (k0_pay697 _ _) (load_whole arg7 harg7 x6 inb_S128x4864_S128x4864_0_0) (load_whole arg3 harg3 x2 inb_S256x4864_S256x4864_0_0)
  have e0 : ∀ x, k0_pay697 (kernelRun0_A.sl.r_337 c arg2 harg2 arg5 harg5 x1 x4) (kernelRun0_A.sl.r_338 c arg8 harg8 x7)
      (View.readAt (Elt F) arg7.view (Rect.unit ![0, 0] S128x4864.size inb_S128x4864_S128x4864_0_0).toLoadRect (harg7.unread x6))
      (View.readAt (Elt F) arg3.view (Rect.unit ![0, 0] S256x4864.size inb_S256x4864_S256x4864_0_0).toLoadRect (harg3.unread x2)) x
      = dgateRow x1 x2 x4 x6 (row x7 0) x := by
    intro x
    rw [keep_ht, keep_mask0]
    exact congrFun (congrArg₂ (k0_pay697 _ _) (load_whole arg7 harg7 x6 inb_S128x4864_S128x4864_0_0) (load_whole arg3 harg3 x2 inb_S256x4864_S256x4864_0_0)) x
  refine List.forall_mem_cons.2 ⟨fun x => (congrFun e1 x).trans (dgate_emb x1 x2 x4 x6 x7 1 inb_S2x256_S1x256_1_0 x), ?_⟩
  refine List.forall_mem_cons.2 ⟨fun x => (e0 x).trans (dgate_emb x1 x2 x4 x6 x7 0 inb_S2x256_S1x256_0_0 x), ?_⟩
  exact fun p hp => absurd hp List.not_mem_nil

/-- The dequantised weights, as the stores leave them. -/
theorem keep_wt : ∀ y, View.canon (kernelRun0_A.sl.HS0_266 c arg1 harg1 arg4 harg4 x0 x3) y = wtBlk x0 x3 y := by
  intro y
  refine View.canon_apply_of_pieces (wtBlk x0 x3) _ ?_ y (View.cover_of_tiledL (kernelRun0_A.sl.HS0_266 c arg1 harg1 arg4 harg4 x0 x3) S128x128.size (by sl_kernel_rfl) y)
  refine List.forall_mem_cons.2 ⟨fun x => wt_piece arg1 harg1 x0 arg4 harg4 x3 4736 768 37 6 rfl rfl inb_S4864x896_S128x128_4736_768 inb_S38x7_S1x1_37_6 inb_S896x4864_S128x128_768_4736 _ x, ?_⟩
  refine List.forall_mem_cons.2 ⟨fun x => wt_piece arg1 harg1 x0 arg4 harg4 x3 4736 640 37 5 rfl rfl inb_S4864x896_S128x128_4736_640 inb_S38x7_S1x1_37_5 inb_S896x4864_S128x128_640_4736 _ x, ?_⟩
  refine List.forall_mem_cons.2 ⟨fun x => wt_piece arg1 harg1 x0 arg4 harg4 x3 4736 512 37 4 rfl rfl inb_S4864x896_S128x128_4736_512 inb_S38x7_S1x1_37_4 inb_S896x4864_S128x128_512_4736 _ x, ?_⟩
  refine List.forall_mem_cons.2 ⟨fun x => wt_piece arg1 harg1 x0 arg4 harg4 x3 4736 384 37 3 rfl rfl inb_S4864x896_S128x128_4736_384 inb_S38x7_S1x1_37_3 inb_S896x4864_S128x128_384_4736 _ x, ?_⟩
  refine List.forall_mem_cons.2 ⟨fun x => wt_piece arg1 harg1 x0 arg4 harg4 x3 4736 256 37 2 rfl rfl inb_S4864x896_S128x128_4736_256 inb_S38x7_S1x1_37_2 inb_S896x4864_S128x128_256_4736 _ x, ?_⟩
  refine List.forall_mem_cons.2 ⟨fun x => wt_piece arg1 harg1 x0 arg4 harg4 x3 4736 128 37 1 rfl rfl inb_S4864x896_S128x128_4736_128 inb_S38x7_S1x1_37_1 inb_S896x4864_S128x128_128_4736 _ x, ?_⟩
  refine List.forall_mem_cons.2 ⟨fun x => wt_piece arg1 harg1 x0 arg4 harg4 x3 4736 0 37 0 rfl rfl inb_S4864x896_S128x128_4736_0 inb_S38x7_S1x1_37_0 inb_S896x4864_S128x128_0_4736 _ x, ?_⟩
  refine List.forall_mem_cons.2 ⟨fun x => wt_piece arg1 harg1 x0 arg4 harg4 x3 4608 768 36 6 rfl rfl inb_S4864x896_S128x128_4608_768 inb_S38x7_S1x1_36_6 inb_S896x4864_S128x128_768_4608 _ x, ?_⟩
  refine List.forall_mem_cons.2 ⟨fun x => wt_piece arg1 harg1 x0 arg4 harg4 x3 4608 640 36 5 rfl rfl inb_S4864x896_S128x128_4608_640 inb_S38x7_S1x1_36_5 inb_S896x4864_S128x128_640_4608 _ x, ?_⟩
  refine List.forall_mem_cons.2 ⟨fun x => wt_piece arg1 harg1 x0 arg4 harg4 x3 4608 512 36 4 rfl rfl inb_S4864x896_S128x128_4608_512 inb_S38x7_S1x1_36_4 inb_S896x4864_S128x128_512_4608 _ x, ?_⟩
  refine List.forall_mem_cons.2 ⟨fun x => wt_piece arg1 harg1 x0 arg4 harg4 x3 4608 384 36 3 rfl rfl inb_S4864x896_S128x128_4608_384 inb_S38x7_S1x1_36_3 inb_S896x4864_S128x128_384_4608 _ x, ?_⟩
  refine List.forall_mem_cons.2 ⟨fun x => wt_piece arg1 harg1 x0 arg4 harg4 x3 4608 256 36 2 rfl rfl inb_S4864x896_S128x128_4608_256 inb_S38x7_S1x1_36_2 inb_S896x4864_S128x128_256_4608 _ x, ?_⟩
  refine List.forall_mem_cons.2 ⟨fun x => wt_piece arg1 harg1 x0 arg4 harg4 x3 4608 128 36 1 rfl rfl inb_S4864x896_S128x128_4608_128 inb_S38x7_S1x1_36_1 inb_S896x4864_S128x128_128_4608 _ x, ?_⟩
  refine List.forall_mem_cons.2 ⟨fun x => wt_piece arg1 harg1 x0 arg4 harg4 x3 4608 0 36 0 rfl rfl inb_S4864x896_S128x128_4608_0 inb_S38x7_S1x1_36_0 inb_S896x4864_S128x128_0_4608 _ x, ?_⟩
  refine List.forall_mem_cons.2 ⟨fun x => wt_piece arg1 harg1 x0 arg4 harg4 x3 4480 768 35 6 rfl rfl inb_S4864x896_S128x128_4480_768 inb_S38x7_S1x1_35_6 inb_S896x4864_S128x128_768_4480 _ x, ?_⟩
  refine List.forall_mem_cons.2 ⟨fun x => wt_piece arg1 harg1 x0 arg4 harg4 x3 4480 640 35 5 rfl rfl inb_S4864x896_S128x128_4480_640 inb_S38x7_S1x1_35_5 inb_S896x4864_S128x128_640_4480 _ x, ?_⟩
  refine List.forall_mem_cons.2 ⟨fun x => wt_piece arg1 harg1 x0 arg4 harg4 x3 4480 512 35 4 rfl rfl inb_S4864x896_S128x128_4480_512 inb_S38x7_S1x1_35_4 inb_S896x4864_S128x128_512_4480 _ x, ?_⟩
  refine List.forall_mem_cons.2 ⟨fun x => wt_piece arg1 harg1 x0 arg4 harg4 x3 4480 384 35 3 rfl rfl inb_S4864x896_S128x128_4480_384 inb_S38x7_S1x1_35_3 inb_S896x4864_S128x128_384_4480 _ x, ?_⟩
  refine List.forall_mem_cons.2 ⟨fun x => wt_piece arg1 harg1 x0 arg4 harg4 x3 4480 256 35 2 rfl rfl inb_S4864x896_S128x128_4480_256 inb_S38x7_S1x1_35_2 inb_S896x4864_S128x128_256_4480 _ x, ?_⟩
  refine List.forall_mem_cons.2 ⟨fun x => wt_piece arg1 harg1 x0 arg4 harg4 x3 4480 128 35 1 rfl rfl inb_S4864x896_S128x128_4480_128 inb_S38x7_S1x1_35_1 inb_S896x4864_S128x128_128_4480 _ x, ?_⟩
  refine List.forall_mem_cons.2 ⟨fun x => wt_piece arg1 harg1 x0 arg4 harg4 x3 4480 0 35 0 rfl rfl inb_S4864x896_S128x128_4480_0 inb_S38x7_S1x1_35_0 inb_S896x4864_S128x128_0_4480 _ x, ?_⟩
  refine List.forall_mem_cons.2 ⟨fun x => wt_piece arg1 harg1 x0 arg4 harg4 x3 4352 768 34 6 rfl rfl inb_S4864x896_S128x128_4352_768 inb_S38x7_S1x1_34_6 inb_S896x4864_S128x128_768_4352 _ x, ?_⟩
  refine List.forall_mem_cons.2 ⟨fun x => wt_piece arg1 harg1 x0 arg4 harg4 x3 4352 640 34 5 rfl rfl inb_S4864x896_S128x128_4352_640 inb_S38x7_S1x1_34_5 inb_S896x4864_S128x128_640_4352 _ x, ?_⟩
  refine List.forall_mem_cons.2 ⟨fun x => wt_piece arg1 harg1 x0 arg4 harg4 x3 4352 512 34 4 rfl rfl inb_S4864x896_S128x128_4352_512 inb_S38x7_S1x1_34_4 inb_S896x4864_S128x128_512_4352 _ x, ?_⟩
  refine List.forall_mem_cons.2 ⟨fun x => wt_piece arg1 harg1 x0 arg4 harg4 x3 4352 384 34 3 rfl rfl inb_S4864x896_S128x128_4352_384 inb_S38x7_S1x1_34_3 inb_S896x4864_S128x128_384_4352 _ x, ?_⟩
  refine List.forall_mem_cons.2 ⟨fun x => wt_piece arg1 harg1 x0 arg4 harg4 x3 4352 256 34 2 rfl rfl inb_S4864x896_S128x128_4352_256 inb_S38x7_S1x1_34_2 inb_S896x4864_S128x128_256_4352 _ x, ?_⟩
  refine List.forall_mem_cons.2 ⟨fun x => wt_piece arg1 harg1 x0 arg4 harg4 x3 4352 128 34 1 rfl rfl inb_S4864x896_S128x128_4352_128 inb_S38x7_S1x1_34_1 inb_S896x4864_S128x128_128_4352 _ x, ?_⟩
  refine List.forall_mem_cons.2 ⟨fun x => wt_piece arg1 harg1 x0 arg4 harg4 x3 4352 0 34 0 rfl rfl inb_S4864x896_S128x128_4352_0 inb_S38x7_S1x1_34_0 inb_S896x4864_S128x128_0_4352 _ x, ?_⟩
  refine List.forall_mem_cons.2 ⟨fun x => wt_piece arg1 harg1 x0 arg4 harg4 x3 4224 768 33 6 rfl rfl inb_S4864x896_S128x128_4224_768 inb_S38x7_S1x1_33_6 inb_S896x4864_S128x128_768_4224 _ x, ?_⟩
  refine List.forall_mem_cons.2 ⟨fun x => wt_piece arg1 harg1 x0 arg4 harg4 x3 4224 640 33 5 rfl rfl inb_S4864x896_S128x128_4224_640 inb_S38x7_S1x1_33_5 inb_S896x4864_S128x128_640_4224 _ x, ?_⟩
  refine List.forall_mem_cons.2 ⟨fun x => wt_piece arg1 harg1 x0 arg4 harg4 x3 4224 512 33 4 rfl rfl inb_S4864x896_S128x128_4224_512 inb_S38x7_S1x1_33_4 inb_S896x4864_S128x128_512_4224 _ x, ?_⟩
  refine List.forall_mem_cons.2 ⟨fun x => wt_piece arg1 harg1 x0 arg4 harg4 x3 4224 384 33 3 rfl rfl inb_S4864x896_S128x128_4224_384 inb_S38x7_S1x1_33_3 inb_S896x4864_S128x128_384_4224 _ x, ?_⟩
  refine List.forall_mem_cons.2 ⟨fun x => wt_piece arg1 harg1 x0 arg4 harg4 x3 4224 256 33 2 rfl rfl inb_S4864x896_S128x128_4224_256 inb_S38x7_S1x1_33_2 inb_S896x4864_S128x128_256_4224 _ x, ?_⟩
  refine List.forall_mem_cons.2 ⟨fun x => wt_piece arg1 harg1 x0 arg4 harg4 x3 4224 128 33 1 rfl rfl inb_S4864x896_S128x128_4224_128 inb_S38x7_S1x1_33_1 inb_S896x4864_S128x128_128_4224 _ x, ?_⟩
  refine List.forall_mem_cons.2 ⟨fun x => wt_piece arg1 harg1 x0 arg4 harg4 x3 4224 0 33 0 rfl rfl inb_S4864x896_S128x128_4224_0 inb_S38x7_S1x1_33_0 inb_S896x4864_S128x128_0_4224 _ x, ?_⟩
  refine List.forall_mem_cons.2 ⟨fun x => wt_piece arg1 harg1 x0 arg4 harg4 x3 4096 768 32 6 rfl rfl inb_S4864x896_S128x128_4096_768 inb_S38x7_S1x1_32_6 inb_S896x4864_S128x128_768_4096 _ x, ?_⟩
  refine List.forall_mem_cons.2 ⟨fun x => wt_piece arg1 harg1 x0 arg4 harg4 x3 4096 640 32 5 rfl rfl inb_S4864x896_S128x128_4096_640 inb_S38x7_S1x1_32_5 inb_S896x4864_S128x128_640_4096 _ x, ?_⟩
  refine List.forall_mem_cons.2 ⟨fun x => wt_piece arg1 harg1 x0 arg4 harg4 x3 4096 512 32 4 rfl rfl inb_S4864x896_S128x128_4096_512 inb_S38x7_S1x1_32_4 inb_S896x4864_S128x128_512_4096 _ x, ?_⟩
  refine List.forall_mem_cons.2 ⟨fun x => wt_piece arg1 harg1 x0 arg4 harg4 x3 4096 384 32 3 rfl rfl inb_S4864x896_S128x128_4096_384 inb_S38x7_S1x1_32_3 inb_S896x4864_S128x128_384_4096 _ x, ?_⟩
  refine List.forall_mem_cons.2 ⟨fun x => wt_piece arg1 harg1 x0 arg4 harg4 x3 4096 256 32 2 rfl rfl inb_S4864x896_S128x128_4096_256 inb_S38x7_S1x1_32_2 inb_S896x4864_S128x128_256_4096 _ x, ?_⟩
  refine List.forall_mem_cons.2 ⟨fun x => wt_piece arg1 harg1 x0 arg4 harg4 x3 4096 128 32 1 rfl rfl inb_S4864x896_S128x128_4096_128 inb_S38x7_S1x1_32_1 inb_S896x4864_S128x128_128_4096 _ x, ?_⟩
  refine List.forall_mem_cons.2 ⟨fun x => wt_piece arg1 harg1 x0 arg4 harg4 x3 4096 0 32 0 rfl rfl inb_S4864x896_S128x128_4096_0 inb_S38x7_S1x1_32_0 inb_S896x4864_S128x128_0_4096 _ x, ?_⟩
  refine List.forall_mem_cons.2 ⟨fun x => wt_piece arg1 harg1 x0 arg4 harg4 x3 3968 768 31 6 rfl rfl inb_S4864x896_S128x128_3968_768 inb_S38x7_S1x1_31_6 inb_S896x4864_S128x128_768_3968 _ x, ?_⟩
  refine List.forall_mem_cons.2 ⟨fun x => wt_piece arg1 harg1 x0 arg4 harg4 x3 3968 640 31 5 rfl rfl inb_S4864x896_S128x128_3968_640 inb_S38x7_S1x1_31_5 inb_S896x4864_S128x128_640_3968 _ x, ?_⟩
  refine List.forall_mem_cons.2 ⟨fun x => wt_piece arg1 harg1 x0 arg4 harg4 x3 3968 512 31 4 rfl rfl inb_S4864x896_S128x128_3968_512 inb_S38x7_S1x1_31_4 inb_S896x4864_S128x128_512_3968 _ x, ?_⟩
  refine List.forall_mem_cons.2 ⟨fun x => wt_piece arg1 harg1 x0 arg4 harg4 x3 3968 384 31 3 rfl rfl inb_S4864x896_S128x128_3968_384 inb_S38x7_S1x1_31_3 inb_S896x4864_S128x128_384_3968 _ x, ?_⟩
  refine List.forall_mem_cons.2 ⟨fun x => wt_piece arg1 harg1 x0 arg4 harg4 x3 3968 256 31 2 rfl rfl inb_S4864x896_S128x128_3968_256 inb_S38x7_S1x1_31_2 inb_S896x4864_S128x128_256_3968 _ x, ?_⟩
  refine List.forall_mem_cons.2 ⟨fun x => wt_piece arg1 harg1 x0 arg4 harg4 x3 3968 128 31 1 rfl rfl inb_S4864x896_S128x128_3968_128 inb_S38x7_S1x1_31_1 inb_S896x4864_S128x128_128_3968 _ x, ?_⟩
  refine List.forall_mem_cons.2 ⟨fun x => wt_piece arg1 harg1 x0 arg4 harg4 x3 3968 0 31 0 rfl rfl inb_S4864x896_S128x128_3968_0 inb_S38x7_S1x1_31_0 inb_S896x4864_S128x128_0_3968 _ x, ?_⟩
  refine List.forall_mem_cons.2 ⟨fun x => wt_piece arg1 harg1 x0 arg4 harg4 x3 3840 768 30 6 rfl rfl inb_S4864x896_S128x128_3840_768 inb_S38x7_S1x1_30_6 inb_S896x4864_S128x128_768_3840 _ x, ?_⟩
  refine List.forall_mem_cons.2 ⟨fun x => wt_piece arg1 harg1 x0 arg4 harg4 x3 3840 640 30 5 rfl rfl inb_S4864x896_S128x128_3840_640 inb_S38x7_S1x1_30_5 inb_S896x4864_S128x128_640_3840 _ x, ?_⟩
  refine List.forall_mem_cons.2 ⟨fun x => wt_piece arg1 harg1 x0 arg4 harg4 x3 3840 512 30 4 rfl rfl inb_S4864x896_S128x128_3840_512 inb_S38x7_S1x1_30_4 inb_S896x4864_S128x128_512_3840 _ x, ?_⟩
  refine List.forall_mem_cons.2 ⟨fun x => wt_piece arg1 harg1 x0 arg4 harg4 x3 3840 384 30 3 rfl rfl inb_S4864x896_S128x128_3840_384 inb_S38x7_S1x1_30_3 inb_S896x4864_S128x128_384_3840 _ x, ?_⟩
  refine List.forall_mem_cons.2 ⟨fun x => wt_piece arg1 harg1 x0 arg4 harg4 x3 3840 256 30 2 rfl rfl inb_S4864x896_S128x128_3840_256 inb_S38x7_S1x1_30_2 inb_S896x4864_S128x128_256_3840 _ x, ?_⟩
  refine List.forall_mem_cons.2 ⟨fun x => wt_piece arg1 harg1 x0 arg4 harg4 x3 3840 128 30 1 rfl rfl inb_S4864x896_S128x128_3840_128 inb_S38x7_S1x1_30_1 inb_S896x4864_S128x128_128_3840 _ x, ?_⟩
  refine List.forall_mem_cons.2 ⟨fun x => wt_piece arg1 harg1 x0 arg4 harg4 x3 3840 0 30 0 rfl rfl inb_S4864x896_S128x128_3840_0 inb_S38x7_S1x1_30_0 inb_S896x4864_S128x128_0_3840 _ x, ?_⟩
  refine List.forall_mem_cons.2 ⟨fun x => wt_piece arg1 harg1 x0 arg4 harg4 x3 3712 768 29 6 rfl rfl inb_S4864x896_S128x128_3712_768 inb_S38x7_S1x1_29_6 inb_S896x4864_S128x128_768_3712 _ x, ?_⟩
  refine List.forall_mem_cons.2 ⟨fun x => wt_piece arg1 harg1 x0 arg4 harg4 x3 3712 640 29 5 rfl rfl inb_S4864x896_S128x128_3712_640 inb_S38x7_S1x1_29_5 inb_S896x4864_S128x128_640_3712 _ x, ?_⟩
  refine List.forall_mem_cons.2 ⟨fun x => wt_piece arg1 harg1 x0 arg4 harg4 x3 3712 512 29 4 rfl rfl inb_S4864x896_S128x128_3712_512 inb_S38x7_S1x1_29_4 inb_S896x4864_S128x128_512_3712 _ x, ?_⟩
  refine List.forall_mem_cons.2 ⟨fun x => wt_piece arg1 harg1 x0 arg4 harg4 x3 3712 384 29 3 rfl rfl inb_S4864x896_S128x128_3712_384 inb_S38x7_S1x1_29_3 inb_S896x4864_S128x128_384_3712 _ x, ?_⟩
  refine List.forall_mem_cons.2 ⟨fun x => wt_piece arg1 harg1 x0 arg4 harg4 x3 3712 256 29 2 rfl rfl inb_S4864x896_S128x128_3712_256 inb_S38x7_S1x1_29_2 inb_S896x4864_S128x128_256_3712 _ x, ?_⟩
  refine List.forall_mem_cons.2 ⟨fun x => wt_piece arg1 harg1 x0 arg4 harg4 x3 3712 128 29 1 rfl rfl inb_S4864x896_S128x128_3712_128 inb_S38x7_S1x1_29_1 inb_S896x4864_S128x128_128_3712 _ x, ?_⟩
  refine List.forall_mem_cons.2 ⟨fun x => wt_piece arg1 harg1 x0 arg4 harg4 x3 3712 0 29 0 rfl rfl inb_S4864x896_S128x128_3712_0 inb_S38x7_S1x1_29_0 inb_S896x4864_S128x128_0_3712 _ x, ?_⟩
  refine List.forall_mem_cons.2 ⟨fun x => wt_piece arg1 harg1 x0 arg4 harg4 x3 3584 768 28 6 rfl rfl inb_S4864x896_S128x128_3584_768 inb_S38x7_S1x1_28_6 inb_S896x4864_S128x128_768_3584 _ x, ?_⟩
  refine List.forall_mem_cons.2 ⟨fun x => wt_piece arg1 harg1 x0 arg4 harg4 x3 3584 640 28 5 rfl rfl inb_S4864x896_S128x128_3584_640 inb_S38x7_S1x1_28_5 inb_S896x4864_S128x128_640_3584 _ x, ?_⟩
  refine List.forall_mem_cons.2 ⟨fun x => wt_piece arg1 harg1 x0 arg4 harg4 x3 3584 512 28 4 rfl rfl inb_S4864x896_S128x128_3584_512 inb_S38x7_S1x1_28_4 inb_S896x4864_S128x128_512_3584 _ x, ?_⟩
  refine List.forall_mem_cons.2 ⟨fun x => wt_piece arg1 harg1 x0 arg4 harg4 x3 3584 384 28 3 rfl rfl inb_S4864x896_S128x128_3584_384 inb_S38x7_S1x1_28_3 inb_S896x4864_S128x128_384_3584 _ x, ?_⟩
  refine List.forall_mem_cons.2 ⟨fun x => wt_piece arg1 harg1 x0 arg4 harg4 x3 3584 256 28 2 rfl rfl inb_S4864x896_S128x128_3584_256 inb_S38x7_S1x1_28_2 inb_S896x4864_S128x128_256_3584 _ x, ?_⟩
  refine List.forall_mem_cons.2 ⟨fun x => wt_piece arg1 harg1 x0 arg4 harg4 x3 3584 128 28 1 rfl rfl inb_S4864x896_S128x128_3584_128 inb_S38x7_S1x1_28_1 inb_S896x4864_S128x128_128_3584 _ x, ?_⟩
  refine List.forall_mem_cons.2 ⟨fun x => wt_piece arg1 harg1 x0 arg4 harg4 x3 3584 0 28 0 rfl rfl inb_S4864x896_S128x128_3584_0 inb_S38x7_S1x1_28_0 inb_S896x4864_S128x128_0_3584 _ x, ?_⟩
  refine List.forall_mem_cons.2 ⟨fun x => wt_piece arg1 harg1 x0 arg4 harg4 x3 3456 768 27 6 rfl rfl inb_S4864x896_S128x128_3456_768 inb_S38x7_S1x1_27_6 inb_S896x4864_S128x128_768_3456 _ x, ?_⟩
  refine List.forall_mem_cons.2 ⟨fun x => wt_piece arg1 harg1 x0 arg4 harg4 x3 3456 640 27 5 rfl rfl inb_S4864x896_S128x128_3456_640 inb_S38x7_S1x1_27_5 inb_S896x4864_S128x128_640_3456 _ x, ?_⟩
  refine List.forall_mem_cons.2 ⟨fun x => wt_piece arg1 harg1 x0 arg4 harg4 x3 3456 512 27 4 rfl rfl inb_S4864x896_S128x128_3456_512 inb_S38x7_S1x1_27_4 inb_S896x4864_S128x128_512_3456 _ x, ?_⟩
  refine List.forall_mem_cons.2 ⟨fun x => wt_piece arg1 harg1 x0 arg4 harg4 x3 3456 384 27 3 rfl rfl inb_S4864x896_S128x128_3456_384 inb_S38x7_S1x1_27_3 inb_S896x4864_S128x128_384_3456 _ x, ?_⟩
  refine List.forall_mem_cons.2 ⟨fun x => wt_piece arg1 harg1 x0 arg4 harg4 x3 3456 256 27 2 rfl rfl inb_S4864x896_S128x128_3456_256 inb_S38x7_S1x1_27_2 inb_S896x4864_S128x128_256_3456 _ x, ?_⟩
  refine List.forall_mem_cons.2 ⟨fun x => wt_piece arg1 harg1 x0 arg4 harg4 x3 3456 128 27 1 rfl rfl inb_S4864x896_S128x128_3456_128 inb_S38x7_S1x1_27_1 inb_S896x4864_S128x128_128_3456 _ x, ?_⟩
  refine List.forall_mem_cons.2 ⟨fun x => wt_piece arg1 harg1 x0 arg4 harg4 x3 3456 0 27 0 rfl rfl inb_S4864x896_S128x128_3456_0 inb_S38x7_S1x1_27_0 inb_S896x4864_S128x128_0_3456 _ x, ?_⟩
  refine List.forall_mem_cons.2 ⟨fun x => wt_piece arg1 harg1 x0 arg4 harg4 x3 3328 768 26 6 rfl rfl inb_S4864x896_S128x128_3328_768 inb_S38x7_S1x1_26_6 inb_S896x4864_S128x128_768_3328 _ x, ?_⟩
  refine List.forall_mem_cons.2 ⟨fun x => wt_piece arg1 harg1 x0 arg4 harg4 x3 3328 640 26 5 rfl rfl inb_S4864x896_S128x128_3328_640 inb_S38x7_S1x1_26_5 inb_S896x4864_S128x128_640_3328 _ x, ?_⟩
  refine List.forall_mem_cons.2 ⟨fun x => wt_piece arg1 harg1 x0 arg4 harg4 x3 3328 512 26 4 rfl rfl inb_S4864x896_S128x128_3328_512 inb_S38x7_S1x1_26_4 inb_S896x4864_S128x128_512_3328 _ x, ?_⟩
  refine List.forall_mem_cons.2 ⟨fun x => wt_piece arg1 harg1 x0 arg4 harg4 x3 3328 384 26 3 rfl rfl inb_S4864x896_S128x128_3328_384 inb_S38x7_S1x1_26_3 inb_S896x4864_S128x128_384_3328 _ x, ?_⟩
  refine List.forall_mem_cons.2 ⟨fun x => wt_piece arg1 harg1 x0 arg4 harg4 x3 3328 256 26 2 rfl rfl inb_S4864x896_S128x128_3328_256 inb_S38x7_S1x1_26_2 inb_S896x4864_S128x128_256_3328 _ x, ?_⟩
  refine List.forall_mem_cons.2 ⟨fun x => wt_piece arg1 harg1 x0 arg4 harg4 x3 3328 128 26 1 rfl rfl inb_S4864x896_S128x128_3328_128 inb_S38x7_S1x1_26_1 inb_S896x4864_S128x128_128_3328 _ x, ?_⟩
  refine List.forall_mem_cons.2 ⟨fun x => wt_piece arg1 harg1 x0 arg4 harg4 x3 3328 0 26 0 rfl rfl inb_S4864x896_S128x128_3328_0 inb_S38x7_S1x1_26_0 inb_S896x4864_S128x128_0_3328 _ x, ?_⟩
  refine List.forall_mem_cons.2 ⟨fun x => wt_piece arg1 harg1 x0 arg4 harg4 x3 3200 768 25 6 rfl rfl inb_S4864x896_S128x128_3200_768 inb_S38x7_S1x1_25_6 inb_S896x4864_S128x128_768_3200 _ x, ?_⟩
  refine List.forall_mem_cons.2 ⟨fun x => wt_piece arg1 harg1 x0 arg4 harg4 x3 3200 640 25 5 rfl rfl inb_S4864x896_S128x128_3200_640 inb_S38x7_S1x1_25_5 inb_S896x4864_S128x128_640_3200 _ x, ?_⟩
  refine List.forall_mem_cons.2 ⟨fun x => wt_piece arg1 harg1 x0 arg4 harg4 x3 3200 512 25 4 rfl rfl inb_S4864x896_S128x128_3200_512 inb_S38x7_S1x1_25_4 inb_S896x4864_S128x128_512_3200 _ x, ?_⟩
  refine List.forall_mem_cons.2 ⟨fun x => wt_piece arg1 harg1 x0 arg4 harg4 x3 3200 384 25 3 rfl rfl inb_S4864x896_S128x128_3200_384 inb_S38x7_S1x1_25_3 inb_S896x4864_S128x128_384_3200 _ x, ?_⟩
  refine List.forall_mem_cons.2 ⟨fun x => wt_piece arg1 harg1 x0 arg4 harg4 x3 3200 256 25 2 rfl rfl inb_S4864x896_S128x128_3200_256 inb_S38x7_S1x1_25_2 inb_S896x4864_S128x128_256_3200 _ x, ?_⟩
  refine List.forall_mem_cons.2 ⟨fun x => wt_piece arg1 harg1 x0 arg4 harg4 x3 3200 128 25 1 rfl rfl inb_S4864x896_S128x128_3200_128 inb_S38x7_S1x1_25_1 inb_S896x4864_S128x128_128_3200 _ x, ?_⟩
  refine List.forall_mem_cons.2 ⟨fun x => wt_piece arg1 harg1 x0 arg4 harg4 x3 3200 0 25 0 rfl rfl inb_S4864x896_S128x128_3200_0 inb_S38x7_S1x1_25_0 inb_S896x4864_S128x128_0_3200 _ x, ?_⟩
  refine List.forall_mem_cons.2 ⟨fun x => wt_piece arg1 harg1 x0 arg4 harg4 x3 3072 768 24 6 rfl rfl inb_S4864x896_S128x128_3072_768 inb_S38x7_S1x1_24_6 inb_S896x4864_S128x128_768_3072 _ x, ?_⟩
  refine List.forall_mem_cons.2 ⟨fun x => wt_piece arg1 harg1 x0 arg4 harg4 x3 3072 640 24 5 rfl rfl inb_S4864x896_S128x128_3072_640 inb_S38x7_S1x1_24_5 inb_S896x4864_S128x128_640_3072 _ x, ?_⟩
  refine List.forall_mem_cons.2 ⟨fun x => wt_piece arg1 harg1 x0 arg4 harg4 x3 3072 512 24 4 rfl rfl inb_S4864x896_S128x128_3072_512 inb_S38x7_S1x1_24_4 inb_S896x4864_S128x128_512_3072 _ x, ?_⟩
  refine List.forall_mem_cons.2 ⟨fun x => wt_piece arg1 harg1 x0 arg4 harg4 x3 3072 384 24 3 rfl rfl inb_S4864x896_S128x128_3072_384 inb_S38x7_S1x1_24_3 inb_S896x4864_S128x128_384_3072 _ x, ?_⟩
  refine List.forall_mem_cons.2 ⟨fun x => wt_piece arg1 harg1 x0 arg4 harg4 x3 3072 256 24 2 rfl rfl inb_S4864x896_S128x128_3072_256 inb_S38x7_S1x1_24_2 inb_S896x4864_S128x128_256_3072 _ x, ?_⟩
  refine List.forall_mem_cons.2 ⟨fun x => wt_piece arg1 harg1 x0 arg4 harg4 x3 3072 128 24 1 rfl rfl inb_S4864x896_S128x128_3072_128 inb_S38x7_S1x1_24_1 inb_S896x4864_S128x128_128_3072 _ x, ?_⟩
  refine List.forall_mem_cons.2 ⟨fun x => wt_piece arg1 harg1 x0 arg4 harg4 x3 3072 0 24 0 rfl rfl inb_S4864x896_S128x128_3072_0 inb_S38x7_S1x1_24_0 inb_S896x4864_S128x128_0_3072 _ x, ?_⟩
  refine List.forall_mem_cons.2 ⟨fun x => wt_piece arg1 harg1 x0 arg4 harg4 x3 2944 768 23 6 rfl rfl inb_S4864x896_S128x128_2944_768 inb_S38x7_S1x1_23_6 inb_S896x4864_S128x128_768_2944 _ x, ?_⟩
  refine List.forall_mem_cons.2 ⟨fun x => wt_piece arg1 harg1 x0 arg4 harg4 x3 2944 640 23 5 rfl rfl inb_S4864x896_S128x128_2944_640 inb_S38x7_S1x1_23_5 inb_S896x4864_S128x128_640_2944 _ x, ?_⟩
  refine List.forall_mem_cons.2 ⟨fun x => wt_piece arg1 harg1 x0 arg4 harg4 x3 2944 512 23 4 rfl rfl inb_S4864x896_S128x128_2944_512 inb_S38x7_S1x1_23_4 inb_S896x4864_S128x128_512_2944 _ x, ?_⟩
  refine List.forall_mem_cons.2 ⟨fun x => wt_piece arg1 harg1 x0 arg4 harg4 x3 2944 384 23 3 rfl rfl inb_S4864x896_S128x128_2944_384 inb_S38x7_S1x1_23_3 inb_S896x4864_S128x128_384_2944 _ x, ?_⟩
  refine List.forall_mem_cons.2 ⟨fun x => wt_piece arg1 harg1 x0 arg4 harg4 x3 2944 256 23 2 rfl rfl inb_S4864x896_S128x128_2944_256 inb_S38x7_S1x1_23_2 inb_S896x4864_S128x128_256_2944 _ x, ?_⟩
  refine List.forall_mem_cons.2 ⟨fun x => wt_piece arg1 harg1 x0 arg4 harg4 x3 2944 128 23 1 rfl rfl inb_S4864x896_S128x128_2944_128 inb_S38x7_S1x1_23_1 inb_S896x4864_S128x128_128_2944 _ x, ?_⟩
  refine List.forall_mem_cons.2 ⟨fun x => wt_piece arg1 harg1 x0 arg4 harg4 x3 2944 0 23 0 rfl rfl inb_S4864x896_S128x128_2944_0 inb_S38x7_S1x1_23_0 inb_S896x4864_S128x128_0_2944 _ x, ?_⟩
  refine List.forall_mem_cons.2 ⟨fun x => wt_piece arg1 harg1 x0 arg4 harg4 x3 2816 768 22 6 rfl rfl inb_S4864x896_S128x128_2816_768 inb_S38x7_S1x1_22_6 inb_S896x4864_S128x128_768_2816 _ x, ?_⟩
  refine List.forall_mem_cons.2 ⟨fun x => wt_piece arg1 harg1 x0 arg4 harg4 x3 2816 640 22 5 rfl rfl inb_S4864x896_S128x128_2816_640 inb_S38x7_S1x1_22_5 inb_S896x4864_S128x128_640_2816 _ x, ?_⟩
  refine List.forall_mem_cons.2 ⟨fun x => wt_piece arg1 harg1 x0 arg4 harg4 x3 2816 512 22 4 rfl rfl inb_S4864x896_S128x128_2816_512 inb_S38x7_S1x1_22_4 inb_S896x4864_S128x128_512_2816 _ x, ?_⟩
  refine List.forall_mem_cons.2 ⟨fun x => wt_piece arg1 harg1 x0 arg4 harg4 x3 2816 384 22 3 rfl rfl inb_S4864x896_S128x128_2816_384 inb_S38x7_S1x1_22_3 inb_S896x4864_S128x128_384_2816 _ x, ?_⟩
  refine List.forall_mem_cons.2 ⟨fun x => wt_piece arg1 harg1 x0 arg4 harg4 x3 2816 256 22 2 rfl rfl inb_S4864x896_S128x128_2816_256 inb_S38x7_S1x1_22_2 inb_S896x4864_S128x128_256_2816 _ x, ?_⟩
  refine List.forall_mem_cons.2 ⟨fun x => wt_piece arg1 harg1 x0 arg4 harg4 x3 2816 128 22 1 rfl rfl inb_S4864x896_S128x128_2816_128 inb_S38x7_S1x1_22_1 inb_S896x4864_S128x128_128_2816 _ x, ?_⟩
  refine List.forall_mem_cons.2 ⟨fun x => wt_piece arg1 harg1 x0 arg4 harg4 x3 2816 0 22 0 rfl rfl inb_S4864x896_S128x128_2816_0 inb_S38x7_S1x1_22_0 inb_S896x4864_S128x128_0_2816 _ x, ?_⟩
  refine List.forall_mem_cons.2 ⟨fun x => wt_piece arg1 harg1 x0 arg4 harg4 x3 2688 768 21 6 rfl rfl inb_S4864x896_S128x128_2688_768 inb_S38x7_S1x1_21_6 inb_S896x4864_S128x128_768_2688 _ x, ?_⟩
  refine List.forall_mem_cons.2 ⟨fun x => wt_piece arg1 harg1 x0 arg4 harg4 x3 2688 640 21 5 rfl rfl inb_S4864x896_S128x128_2688_640 inb_S38x7_S1x1_21_5 inb_S896x4864_S128x128_640_2688 _ x, ?_⟩
  refine List.forall_mem_cons.2 ⟨fun x => wt_piece arg1 harg1 x0 arg4 harg4 x3 2688 512 21 4 rfl rfl inb_S4864x896_S128x128_2688_512 inb_S38x7_S1x1_21_4 inb_S896x4864_S128x128_512_2688 _ x, ?_⟩
  refine List.forall_mem_cons.2 ⟨fun x => wt_piece arg1 harg1 x0 arg4 harg4 x3 2688 384 21 3 rfl rfl inb_S4864x896_S128x128_2688_384 inb_S38x7_S1x1_21_3 inb_S896x4864_S128x128_384_2688 _ x, ?_⟩
  refine List.forall_mem_cons.2 ⟨fun x => wt_piece arg1 harg1 x0 arg4 harg4 x3 2688 256 21 2 rfl rfl inb_S4864x896_S128x128_2688_256 inb_S38x7_S1x1_21_2 inb_S896x4864_S128x128_256_2688 _ x, ?_⟩
  refine List.forall_mem_cons.2 ⟨fun x => wt_piece arg1 harg1 x0 arg4 harg4 x3 2688 128 21 1 rfl rfl inb_S4864x896_S128x128_2688_128 inb_S38x7_S1x1_21_1 inb_S896x4864_S128x128_128_2688 _ x, ?_⟩
  refine List.forall_mem_cons.2 ⟨fun x => wt_piece arg1 harg1 x0 arg4 harg4 x3 2688 0 21 0 rfl rfl inb_S4864x896_S128x128_2688_0 inb_S38x7_S1x1_21_0 inb_S896x4864_S128x128_0_2688 _ x, ?_⟩
  refine List.forall_mem_cons.2 ⟨fun x => wt_piece arg1 harg1 x0 arg4 harg4 x3 2560 768 20 6 rfl rfl inb_S4864x896_S128x128_2560_768 inb_S38x7_S1x1_20_6 inb_S896x4864_S128x128_768_2560 _ x, ?_⟩
  refine List.forall_mem_cons.2 ⟨fun x => wt_piece arg1 harg1 x0 arg4 harg4 x3 2560 640 20 5 rfl rfl inb_S4864x896_S128x128_2560_640 inb_S38x7_S1x1_20_5 inb_S896x4864_S128x128_640_2560 _ x, ?_⟩
  refine List.forall_mem_cons.2 ⟨fun x => wt_piece arg1 harg1 x0 arg4 harg4 x3 2560 512 20 4 rfl rfl inb_S4864x896_S128x128_2560_512 inb_S38x7_S1x1_20_4 inb_S896x4864_S128x128_512_2560 _ x, ?_⟩
  refine List.forall_mem_cons.2 ⟨fun x => wt_piece arg1 harg1 x0 arg4 harg4 x3 2560 384 20 3 rfl rfl inb_S4864x896_S128x128_2560_384 inb_S38x7_S1x1_20_3 inb_S896x4864_S128x128_384_2560 _ x, ?_⟩
  refine List.forall_mem_cons.2 ⟨fun x => wt_piece arg1 harg1 x0 arg4 harg4 x3 2560 256 20 2 rfl rfl inb_S4864x896_S128x128_2560_256 inb_S38x7_S1x1_20_2 inb_S896x4864_S128x128_256_2560 _ x, ?_⟩
  refine List.forall_mem_cons.2 ⟨fun x => wt_piece arg1 harg1 x0 arg4 harg4 x3 2560 128 20 1 rfl rfl inb_S4864x896_S128x128_2560_128 inb_S38x7_S1x1_20_1 inb_S896x4864_S128x128_128_2560 _ x, ?_⟩
  refine List.forall_mem_cons.2 ⟨fun x => wt_piece arg1 harg1 x0 arg4 harg4 x3 2560 0 20 0 rfl rfl inb_S4864x896_S128x128_2560_0 inb_S38x7_S1x1_20_0 inb_S896x4864_S128x128_0_2560 _ x, ?_⟩
  refine List.forall_mem_cons.2 ⟨fun x => wt_piece arg1 harg1 x0 arg4 harg4 x3 2432 768 19 6 rfl rfl inb_S4864x896_S128x128_2432_768 inb_S38x7_S1x1_19_6 inb_S896x4864_S128x128_768_2432 _ x, ?_⟩
  refine List.forall_mem_cons.2 ⟨fun x => wt_piece arg1 harg1 x0 arg4 harg4 x3 2432 640 19 5 rfl rfl inb_S4864x896_S128x128_2432_640 inb_S38x7_S1x1_19_5 inb_S896x4864_S128x128_640_2432 _ x, ?_⟩
  refine List.forall_mem_cons.2 ⟨fun x => wt_piece arg1 harg1 x0 arg4 harg4 x3 2432 512 19 4 rfl rfl inb_S4864x896_S128x128_2432_512 inb_S38x7_S1x1_19_4 inb_S896x4864_S128x128_512_2432 _ x, ?_⟩
  refine List.forall_mem_cons.2 ⟨fun x => wt_piece arg1 harg1 x0 arg4 harg4 x3 2432 384 19 3 rfl rfl inb_S4864x896_S128x128_2432_384 inb_S38x7_S1x1_19_3 inb_S896x4864_S128x128_384_2432 _ x, ?_⟩
  refine List.forall_mem_cons.2 ⟨fun x => wt_piece arg1 harg1 x0 arg4 harg4 x3 2432 256 19 2 rfl rfl inb_S4864x896_S128x128_2432_256 inb_S38x7_S1x1_19_2 inb_S896x4864_S128x128_256_2432 _ x, ?_⟩
  refine List.forall_mem_cons.2 ⟨fun x => wt_piece arg1 harg1 x0 arg4 harg4 x3 2432 128 19 1 rfl rfl inb_S4864x896_S128x128_2432_128 inb_S38x7_S1x1_19_1 inb_S896x4864_S128x128_128_2432 _ x, ?_⟩
  refine List.forall_mem_cons.2 ⟨fun x => wt_piece arg1 harg1 x0 arg4 harg4 x3 2432 0 19 0 rfl rfl inb_S4864x896_S128x128_2432_0 inb_S38x7_S1x1_19_0 inb_S896x4864_S128x128_0_2432 _ x, ?_⟩
  refine List.forall_mem_cons.2 ⟨fun x => wt_piece arg1 harg1 x0 arg4 harg4 x3 2304 768 18 6 rfl rfl inb_S4864x896_S128x128_2304_768 inb_S38x7_S1x1_18_6 inb_S896x4864_S128x128_768_2304 _ x, ?_⟩
  refine List.forall_mem_cons.2 ⟨fun x => wt_piece arg1 harg1 x0 arg4 harg4 x3 2304 640 18 5 rfl rfl inb_S4864x896_S128x128_2304_640 inb_S38x7_S1x1_18_5 inb_S896x4864_S128x128_640_2304 _ x, ?_⟩
  refine List.forall_mem_cons.2 ⟨fun x => wt_piece arg1 harg1 x0 arg4 harg4 x3 2304 512 18 4 rfl rfl inb_S4864x896_S128x128_2304_512 inb_S38x7_S1x1_18_4 inb_S896x4864_S128x128_512_2304 _ x, ?_⟩
  refine List.forall_mem_cons.2 ⟨fun x => wt_piece arg1 harg1 x0 arg4 harg4 x3 2304 384 18 3 rfl rfl inb_S4864x896_S128x128_2304_384 inb_S38x7_S1x1_18_3 inb_S896x4864_S128x128_384_2304 _ x, ?_⟩
  refine List.forall_mem_cons.2 ⟨fun x => wt_piece arg1 harg1 x0 arg4 harg4 x3 2304 256 18 2 rfl rfl inb_S4864x896_S128x128_2304_256 inb_S38x7_S1x1_18_2 inb_S896x4864_S128x128_256_2304 _ x, ?_⟩
  refine List.forall_mem_cons.2 ⟨fun x => wt_piece arg1 harg1 x0 arg4 harg4 x3 2304 128 18 1 rfl rfl inb_S4864x896_S128x128_2304_128 inb_S38x7_S1x1_18_1 inb_S896x4864_S128x128_128_2304 _ x, ?_⟩
  refine List.forall_mem_cons.2 ⟨fun x => wt_piece arg1 harg1 x0 arg4 harg4 x3 2304 0 18 0 rfl rfl inb_S4864x896_S128x128_2304_0 inb_S38x7_S1x1_18_0 inb_S896x4864_S128x128_0_2304 _ x, ?_⟩
  refine List.forall_mem_cons.2 ⟨fun x => wt_piece arg1 harg1 x0 arg4 harg4 x3 2176 768 17 6 rfl rfl inb_S4864x896_S128x128_2176_768 inb_S38x7_S1x1_17_6 inb_S896x4864_S128x128_768_2176 _ x, ?_⟩
  refine List.forall_mem_cons.2 ⟨fun x => wt_piece arg1 harg1 x0 arg4 harg4 x3 2176 640 17 5 rfl rfl inb_S4864x896_S128x128_2176_640 inb_S38x7_S1x1_17_5 inb_S896x4864_S128x128_640_2176 _ x, ?_⟩
  refine List.forall_mem_cons.2 ⟨fun x => wt_piece arg1 harg1 x0 arg4 harg4 x3 2176 512 17 4 rfl rfl inb_S4864x896_S128x128_2176_512 inb_S38x7_S1x1_17_4 inb_S896x4864_S128x128_512_2176 _ x, ?_⟩
  refine List.forall_mem_cons.2 ⟨fun x => wt_piece arg1 harg1 x0 arg4 harg4 x3 2176 384 17 3 rfl rfl inb_S4864x896_S128x128_2176_384 inb_S38x7_S1x1_17_3 inb_S896x4864_S128x128_384_2176 _ x, ?_⟩
  refine List.forall_mem_cons.2 ⟨fun x => wt_piece arg1 harg1 x0 arg4 harg4 x3 2176 256 17 2 rfl rfl inb_S4864x896_S128x128_2176_256 inb_S38x7_S1x1_17_2 inb_S896x4864_S128x128_256_2176 _ x, ?_⟩
  refine List.forall_mem_cons.2 ⟨fun x => wt_piece arg1 harg1 x0 arg4 harg4 x3 2176 128 17 1 rfl rfl inb_S4864x896_S128x128_2176_128 inb_S38x7_S1x1_17_1 inb_S896x4864_S128x128_128_2176 _ x, ?_⟩
  refine List.forall_mem_cons.2 ⟨fun x => wt_piece arg1 harg1 x0 arg4 harg4 x3 2176 0 17 0 rfl rfl inb_S4864x896_S128x128_2176_0 inb_S38x7_S1x1_17_0 inb_S896x4864_S128x128_0_2176 _ x, ?_⟩
  refine List.forall_mem_cons.2 ⟨fun x => wt_piece arg1 harg1 x0 arg4 harg4 x3 2048 768 16 6 rfl rfl inb_S4864x896_S128x128_2048_768 inb_S38x7_S1x1_16_6 inb_S896x4864_S128x128_768_2048 _ x, ?_⟩
  refine List.forall_mem_cons.2 ⟨fun x => wt_piece arg1 harg1 x0 arg4 harg4 x3 2048 640 16 5 rfl rfl inb_S4864x896_S128x128_2048_640 inb_S38x7_S1x1_16_5 inb_S896x4864_S128x128_640_2048 _ x, ?_⟩
  refine List.forall_mem_cons.2 ⟨fun x => wt_piece arg1 harg1 x0 arg4 harg4 x3 2048 512 16 4 rfl rfl inb_S4864x896_S128x128_2048_512 inb_S38x7_S1x1_16_4 inb_S896x4864_S128x128_512_2048 _ x, ?_⟩
  refine List.forall_mem_cons.2 ⟨fun x => wt_piece arg1 harg1 x0 arg4 harg4 x3 2048 384 16 3 rfl rfl inb_S4864x896_S128x128_2048_384 inb_S38x7_S1x1_16_3 inb_S896x4864_S128x128_384_2048 _ x, ?_⟩
  refine List.forall_mem_cons.2 ⟨fun x => wt_piece arg1 harg1 x0 arg4 harg4 x3 2048 256 16 2 rfl rfl inb_S4864x896_S128x128_2048_256 inb_S38x7_S1x1_16_2 inb_S896x4864_S128x128_256_2048 _ x, ?_⟩
  refine List.forall_mem_cons.2 ⟨fun x => wt_piece arg1 harg1 x0 arg4 harg4 x3 2048 128 16 1 rfl rfl inb_S4864x896_S128x128_2048_128 inb_S38x7_S1x1_16_1 inb_S896x4864_S128x128_128_2048 _ x, ?_⟩
  refine List.forall_mem_cons.2 ⟨fun x => wt_piece arg1 harg1 x0 arg4 harg4 x3 2048 0 16 0 rfl rfl inb_S4864x896_S128x128_2048_0 inb_S38x7_S1x1_16_0 inb_S896x4864_S128x128_0_2048 _ x, ?_⟩
  refine List.forall_mem_cons.2 ⟨fun x => wt_piece arg1 harg1 x0 arg4 harg4 x3 1920 768 15 6 rfl rfl inb_S4864x896_S128x128_1920_768 inb_S38x7_S1x1_15_6 inb_S896x4864_S128x128_768_1920 _ x, ?_⟩
  refine List.forall_mem_cons.2 ⟨fun x => wt_piece arg1 harg1 x0 arg4 harg4 x3 1920 640 15 5 rfl rfl inb_S4864x896_S128x128_1920_640 inb_S38x7_S1x1_15_5 inb_S896x4864_S128x128_640_1920 _ x, ?_⟩
  refine List.forall_mem_cons.2 ⟨fun x => wt_piece arg1 harg1 x0 arg4 harg4 x3 1920 512 15 4 rfl rfl inb_S4864x896_S128x128_1920_512 inb_S38x7_S1x1_15_4 inb_S896x4864_S128x128_512_1920 _ x, ?_⟩
  refine List.forall_mem_cons.2 ⟨fun x => wt_piece arg1 harg1 x0 arg4 harg4 x3 1920 384 15 3 rfl rfl inb_S4864x896_S128x128_1920_384 inb_S38x7_S1x1_15_3 inb_S896x4864_S128x128_384_1920 _ x, ?_⟩
  refine List.forall_mem_cons.2 ⟨fun x => wt_piece arg1 harg1 x0 arg4 harg4 x3 1920 256 15 2 rfl rfl inb_S4864x896_S128x128_1920_256 inb_S38x7_S1x1_15_2 inb_S896x4864_S128x128_256_1920 _ x, ?_⟩
  refine List.forall_mem_cons.2 ⟨fun x => wt_piece arg1 harg1 x0 arg4 harg4 x3 1920 128 15 1 rfl rfl inb_S4864x896_S128x128_1920_128 inb_S38x7_S1x1_15_1 inb_S896x4864_S128x128_128_1920 _ x, ?_⟩
  refine List.forall_mem_cons.2 ⟨fun x => wt_piece arg1 harg1 x0 arg4 harg4 x3 1920 0 15 0 rfl rfl inb_S4864x896_S128x128_1920_0 inb_S38x7_S1x1_15_0 inb_S896x4864_S128x128_0_1920 _ x, ?_⟩
  refine List.forall_mem_cons.2 ⟨fun x => wt_piece arg1 harg1 x0 arg4 harg4 x3 1792 768 14 6 rfl rfl inb_S4864x896_S128x128_1792_768 inb_S38x7_S1x1_14_6 inb_S896x4864_S128x128_768_1792 _ x, ?_⟩
  refine List.forall_mem_cons.2 ⟨fun x => wt_piece arg1 harg1 x0 arg4 harg4 x3 1792 640 14 5 rfl rfl inb_S4864x896_S128x128_1792_640 inb_S38x7_S1x1_14_5 inb_S896x4864_S128x128_640_1792 _ x, ?_⟩
  refine List.forall_mem_cons.2 ⟨fun x => wt_piece arg1 harg1 x0 arg4 harg4 x3 1792 512 14 4 rfl rfl inb_S4864x896_S128x128_1792_512 inb_S38x7_S1x1_14_4 inb_S896x4864_S128x128_512_1792 _ x, ?_⟩
  refine List.forall_mem_cons.2 ⟨fun x => wt_piece arg1 harg1 x0 arg4 harg4 x3 1792 384 14 3 rfl rfl inb_S4864x896_S128x128_1792_384 inb_S38x7_S1x1_14_3 inb_S896x4864_S128x128_384_1792 _ x, ?_⟩
  refine List.forall_mem_cons.2 ⟨fun x => wt_piece arg1 harg1 x0 arg4 harg4 x3 1792 256 14 2 rfl rfl inb_S4864x896_S128x128_1792_256 inb_S38x7_S1x1_14_2 inb_S896x4864_S128x128_256_1792 _ x, ?_⟩
  refine List.forall_mem_cons.2 ⟨fun x => wt_piece arg1 harg1 x0 arg4 harg4 x3 1792 128 14 1 rfl rfl inb_S4864x896_S128x128_1792_128 inb_S38x7_S1x1_14_1 inb_S896x4864_S128x128_128_1792 _ x, ?_⟩
  refine List.forall_mem_cons.2 ⟨fun x => wt_piece arg1 harg1 x0 arg4 harg4 x3 1792 0 14 0 rfl rfl inb_S4864x896_S128x128_1792_0 inb_S38x7_S1x1_14_0 inb_S896x4864_S128x128_0_1792 _ x, ?_⟩
  refine List.forall_mem_cons.2 ⟨fun x => wt_piece arg1 harg1 x0 arg4 harg4 x3 1664 768 13 6 rfl rfl inb_S4864x896_S128x128_1664_768 inb_S38x7_S1x1_13_6 inb_S896x4864_S128x128_768_1664 _ x, ?_⟩
  refine List.forall_mem_cons.2 ⟨fun x => wt_piece arg1 harg1 x0 arg4 harg4 x3 1664 640 13 5 rfl rfl inb_S4864x896_S128x128_1664_640 inb_S38x7_S1x1_13_5 inb_S896x4864_S128x128_640_1664 _ x, ?_⟩
  refine List.forall_mem_cons.2 ⟨fun x => wt_piece arg1 harg1 x0 arg4 harg4 x3 1664 512 13 4 rfl rfl inb_S4864x896_S128x128_1664_512 inb_S38x7_S1x1_13_4 inb_S896x4864_S128x128_512_1664 _ x, ?_⟩
  refine List.forall_mem_cons.2 ⟨fun x => wt_piece arg1 harg1 x0 arg4 harg4 x3 1664 384 13 3 rfl rfl inb_S4864x896_S128x128_1664_384 inb_S38x7_S1x1_13_3 inb_S896x4864_S128x128_384_1664 _ x, ?_⟩
  refine List.forall_mem_cons.2 ⟨fun x => wt_piece arg1 harg1 x0 arg4 harg4 x3 1664 256 13 2 rfl rfl inb_S4864x896_S128x128_1664_256 inb_S38x7_S1x1_13_2 inb_S896x4864_S128x128_256_1664 _ x, ?_⟩
  refine List.forall_mem_cons.2 ⟨fun x => wt_piece arg1 harg1 x0 arg4 harg4 x3 1664 128 13 1 rfl rfl inb_S4864x896_S128x128_1664_128 inb_S38x7_S1x1_13_1 inb_S896x4864_S128x128_128_1664 _ x, ?_⟩
  refine List.forall_mem_cons.2 ⟨fun x => wt_piece arg1 harg1 x0 arg4 harg4 x3 1664 0 13 0 rfl rfl inb_S4864x896_S128x128_1664_0 inb_S38x7_S1x1_13_0 inb_S896x4864_S128x128_0_1664 _ x, ?_⟩
  refine List.forall_mem_cons.2 ⟨fun x => wt_piece arg1 harg1 x0 arg4 harg4 x3 1536 768 12 6 rfl rfl inb_S4864x896_S128x128_1536_768 inb_S38x7_S1x1_12_6 inb_S896x4864_S128x128_768_1536 _ x, ?_⟩
  refine List.forall_mem_cons.2 ⟨fun x => wt_piece arg1 harg1 x0 arg4 harg4 x3 1536 640 12 5 rfl rfl inb_S4864x896_S128x128_1536_640 inb_S38x7_S1x1_12_5 inb_S896x4864_S128x128_640_1536 _ x, ?_⟩
  refine List.forall_mem_cons.2 ⟨fun x => wt_piece arg1 harg1 x0 arg4 harg4 x3 1536 512 12 4 rfl rfl inb_S4864x896_S128x128_1536_512 inb_S38x7_S1x1_12_4 inb_S896x4864_S128x128_512_1536 _ x, ?_⟩
  refine List.forall_mem_cons.2 ⟨fun x => wt_piece arg1 harg1 x0 arg4 harg4 x3 1536 384 12 3 rfl rfl inb_S4864x896_S128x128_1536_384 inb_S38x7_S1x1_12_3 inb_S896x4864_S128x128_384_1536 _ x, ?_⟩
  refine List.forall_mem_cons.2 ⟨fun x => wt_piece arg1 harg1 x0 arg4 harg4 x3 1536 256 12 2 rfl rfl inb_S4864x896_S128x128_1536_256 inb_S38x7_S1x1_12_2 inb_S896x4864_S128x128_256_1536 _ x, ?_⟩
  refine List.forall_mem_cons.2 ⟨fun x => wt_piece arg1 harg1 x0 arg4 harg4 x3 1536 128 12 1 rfl rfl inb_S4864x896_S128x128_1536_128 inb_S38x7_S1x1_12_1 inb_S896x4864_S128x128_128_1536 _ x, ?_⟩
  refine List.forall_mem_cons.2 ⟨fun x => wt_piece arg1 harg1 x0 arg4 harg4 x3 1536 0 12 0 rfl rfl inb_S4864x896_S128x128_1536_0 inb_S38x7_S1x1_12_0 inb_S896x4864_S128x128_0_1536 _ x, ?_⟩
  refine List.forall_mem_cons.2 ⟨fun x => wt_piece arg1 harg1 x0 arg4 harg4 x3 1408 768 11 6 rfl rfl inb_S4864x896_S128x128_1408_768 inb_S38x7_S1x1_11_6 inb_S896x4864_S128x128_768_1408 _ x, ?_⟩
  refine List.forall_mem_cons.2 ⟨fun x => wt_piece arg1 harg1 x0 arg4 harg4 x3 1408 640 11 5 rfl rfl inb_S4864x896_S128x128_1408_640 inb_S38x7_S1x1_11_5 inb_S896x4864_S128x128_640_1408 _ x, ?_⟩
  refine List.forall_mem_cons.2 ⟨fun x => wt_piece arg1 harg1 x0 arg4 harg4 x3 1408 512 11 4 rfl rfl inb_S4864x896_S128x128_1408_512 inb_S38x7_S1x1_11_4 inb_S896x4864_S128x128_512_1408 _ x, ?_⟩
  refine List.forall_mem_cons.2 ⟨fun x => wt_piece arg1 harg1 x0 arg4 harg4 x3 1408 384 11 3 rfl rfl inb_S4864x896_S128x128_1408_384 inb_S38x7_S1x1_11_3 inb_S896x4864_S128x128_384_1408 _ x, ?_⟩
  refine List.forall_mem_cons.2 ⟨fun x => wt_piece arg1 harg1 x0 arg4 harg4 x3 1408 256 11 2 rfl rfl inb_S4864x896_S128x128_1408_256 inb_S38x7_S1x1_11_2 inb_S896x4864_S128x128_256_1408 _ x, ?_⟩
  refine List.forall_mem_cons.2 ⟨fun x => wt_piece arg1 harg1 x0 arg4 harg4 x3 1408 128 11 1 rfl rfl inb_S4864x896_S128x128_1408_128 inb_S38x7_S1x1_11_1 inb_S896x4864_S128x128_128_1408 _ x, ?_⟩
  refine List.forall_mem_cons.2 ⟨fun x => wt_piece arg1 harg1 x0 arg4 harg4 x3 1408 0 11 0 rfl rfl inb_S4864x896_S128x128_1408_0 inb_S38x7_S1x1_11_0 inb_S896x4864_S128x128_0_1408 _ x, ?_⟩
  refine List.forall_mem_cons.2 ⟨fun x => wt_piece arg1 harg1 x0 arg4 harg4 x3 1280 768 10 6 rfl rfl inb_S4864x896_S128x128_1280_768 inb_S38x7_S1x1_10_6 inb_S896x4864_S128x128_768_1280 _ x, ?_⟩
  refine List.forall_mem_cons.2 ⟨fun x => wt_piece arg1 harg1 x0 arg4 harg4 x3 1280 640 10 5 rfl rfl inb_S4864x896_S128x128_1280_640 inb_S38x7_S1x1_10_5 inb_S896x4864_S128x128_640_1280 _ x, ?_⟩
  refine List.forall_mem_cons.2 ⟨fun x => wt_piece arg1 harg1 x0 arg4 harg4 x3 1280 512 10 4 rfl rfl inb_S4864x896_S128x128_1280_512 inb_S38x7_S1x1_10_4 inb_S896x4864_S128x128_512_1280 _ x, ?_⟩
  refine List.forall_mem_cons.2 ⟨fun x => wt_piece arg1 harg1 x0 arg4 harg4 x3 1280 384 10 3 rfl rfl inb_S4864x896_S128x128_1280_384 inb_S38x7_S1x1_10_3 inb_S896x4864_S128x128_384_1280 _ x, ?_⟩
  refine List.forall_mem_cons.2 ⟨fun x => wt_piece arg1 harg1 x0 arg4 harg4 x3 1280 256 10 2 rfl rfl inb_S4864x896_S128x128_1280_256 inb_S38x7_S1x1_10_2 inb_S896x4864_S128x128_256_1280 _ x, ?_⟩
  refine List.forall_mem_cons.2 ⟨fun x => wt_piece arg1 harg1 x0 arg4 harg4 x3 1280 128 10 1 rfl rfl inb_S4864x896_S128x128_1280_128 inb_S38x7_S1x1_10_1 inb_S896x4864_S128x128_128_1280 _ x, ?_⟩
  refine List.forall_mem_cons.2 ⟨fun x => wt_piece arg1 harg1 x0 arg4 harg4 x3 1280 0 10 0 rfl rfl inb_S4864x896_S128x128_1280_0 inb_S38x7_S1x1_10_0 inb_S896x4864_S128x128_0_1280 _ x, ?_⟩
  refine List.forall_mem_cons.2 ⟨fun x => wt_piece arg1 harg1 x0 arg4 harg4 x3 1152 768 9 6 rfl rfl inb_S4864x896_S128x128_1152_768 inb_S38x7_S1x1_9_6 inb_S896x4864_S128x128_768_1152 _ x, ?_⟩
  refine List.forall_mem_cons.2 ⟨fun x => wt_piece arg1 harg1 x0 arg4 harg4 x3 1152 640 9 5 rfl rfl inb_S4864x896_S128x128_1152_640 inb_S38x7_S1x1_9_5 inb_S896x4864_S128x128_640_1152 _ x, ?_⟩
  refine List.forall_mem_cons.2 ⟨fun x => wt_piece arg1 harg1 x0 arg4 harg4 x3 1152 512 9 4 rfl rfl inb_S4864x896_S128x128_1152_512 inb_S38x7_S1x1_9_4 inb_S896x4864_S128x128_512_1152 _ x, ?_⟩
  refine List.forall_mem_cons.2 ⟨fun x => wt_piece arg1 harg1 x0 arg4 harg4 x3 1152 384 9 3 rfl rfl inb_S4864x896_S128x128_1152_384 inb_S38x7_S1x1_9_3 inb_S896x4864_S128x128_384_1152 _ x, ?_⟩
  refine List.forall_mem_cons.2 ⟨fun x => wt_piece arg1 harg1 x0 arg4 harg4 x3 1152 256 9 2 rfl rfl inb_S4864x896_S128x128_1152_256 inb_S38x7_S1x1_9_2 inb_S896x4864_S128x128_256_1152 _ x, ?_⟩
  refine List.forall_mem_cons.2 ⟨fun x => wt_piece arg1 harg1 x0 arg4 harg4 x3 1152 128 9 1 rfl rfl inb_S4864x896_S128x128_1152_128 inb_S38x7_S1x1_9_1 inb_S896x4864_S128x128_128_1152 _ x, ?_⟩
  refine List.forall_mem_cons.2 ⟨fun x => wt_piece arg1 harg1 x0 arg4 harg4 x3 1152 0 9 0 rfl rfl inb_S4864x896_S128x128_1152_0 inb_S38x7_S1x1_9_0 inb_S896x4864_S128x128_0_1152 _ x, ?_⟩
  refine List.forall_mem_cons.2 ⟨fun x => wt_piece arg1 harg1 x0 arg4 harg4 x3 1024 768 8 6 rfl rfl inb_S4864x896_S128x128_1024_768 inb_S38x7_S1x1_8_6 inb_S896x4864_S128x128_768_1024 _ x, ?_⟩
  refine List.forall_mem_cons.2 ⟨fun x => wt_piece arg1 harg1 x0 arg4 harg4 x3 1024 640 8 5 rfl rfl inb_S4864x896_S128x128_1024_640 inb_S38x7_S1x1_8_5 inb_S896x4864_S128x128_640_1024 _ x, ?_⟩
  refine List.forall_mem_cons.2 ⟨fun x => wt_piece arg1 harg1 x0 arg4 harg4 x3 1024 512 8 4 rfl rfl inb_S4864x896_S128x128_1024_512 inb_S38x7_S1x1_8_4 inb_S896x4864_S128x128_512_1024 _ x, ?_⟩
  refine List.forall_mem_cons.2 ⟨fun x => wt_piece arg1 harg1 x0 arg4 harg4 x3 1024 384 8 3 rfl rfl inb_S4864x896_S128x128_1024_384 inb_S38x7_S1x1_8_3 inb_S896x4864_S128x128_384_1024 _ x, ?_⟩
  refine List.forall_mem_cons.2 ⟨fun x => wt_piece arg1 harg1 x0 arg4 harg4 x3 1024 256 8 2 rfl rfl inb_S4864x896_S128x128_1024_256 inb_S38x7_S1x1_8_2 inb_S896x4864_S128x128_256_1024 _ x, ?_⟩
  refine List.forall_mem_cons.2 ⟨fun x => wt_piece arg1 harg1 x0 arg4 harg4 x3 1024 128 8 1 rfl rfl inb_S4864x896_S128x128_1024_128 inb_S38x7_S1x1_8_1 inb_S896x4864_S128x128_128_1024 _ x, ?_⟩
  refine List.forall_mem_cons.2 ⟨fun x => wt_piece arg1 harg1 x0 arg4 harg4 x3 1024 0 8 0 rfl rfl inb_S4864x896_S128x128_1024_0 inb_S38x7_S1x1_8_0 inb_S896x4864_S128x128_0_1024 _ x, ?_⟩
  refine List.forall_mem_cons.2 ⟨fun x => wt_piece arg1 harg1 x0 arg4 harg4 x3 896 768 7 6 rfl rfl inb_S4864x896_S128x128_896_768 inb_S38x7_S1x1_7_6 inb_S896x4864_S128x128_768_896 _ x, ?_⟩
  refine List.forall_mem_cons.2 ⟨fun x => wt_piece arg1 harg1 x0 arg4 harg4 x3 896 640 7 5 rfl rfl inb_S4864x896_S128x128_896_640 inb_S38x7_S1x1_7_5 inb_S896x4864_S128x128_640_896 _ x, ?_⟩
  refine List.forall_mem_cons.2 ⟨fun x => wt_piece arg1 harg1 x0 arg4 harg4 x3 896 512 7 4 rfl rfl inb_S4864x896_S128x128_896_512 inb_S38x7_S1x1_7_4 inb_S896x4864_S128x128_512_896 _ x, ?_⟩
  refine List.forall_mem_cons.2 ⟨fun x => wt_piece arg1 harg1 x0 arg4 harg4 x3 896 384 7 3 rfl rfl inb_S4864x896_S128x128_896_384 inb_S38x7_S1x1_7_3 inb_S896x4864_S128x128_384_896 _ x, ?_⟩
  refine List.forall_mem_cons.2 ⟨fun x => wt_piece arg1 harg1 x0 arg4 harg4 x3 896 256 7 2 rfl rfl inb_S4864x896_S128x128_896_256 inb_S38x7_S1x1_7_2 inb_S896x4864_S128x128_256_896 _ x, ?_⟩
  refine List.forall_mem_cons.2 ⟨fun x => wt_piece arg1 harg1 x0 arg4 harg4 x3 896 128 7 1 rfl rfl inb_S4864x896_S128x128_896_128 inb_S38x7_S1x1_7_1 inb_S896x4864_S128x128_128_896 _ x, ?_⟩
  refine List.forall_mem_cons.2 ⟨fun x => wt_piece arg1 harg1 x0 arg4 harg4 x3 896 0 7 0 rfl rfl inb_S4864x896_S128x128_896_0 inb_S38x7_S1x1_7_0 inb_S896x4864_S128x128_0_896 _ x, ?_⟩
  refine List.forall_mem_cons.2 ⟨fun x => wt_piece arg1 harg1 x0 arg4 harg4 x3 768 768 6 6 rfl rfl inb_S4864x896_S128x128_768_768 inb_S38x7_S1x1_6_6 inb_S896x4864_S128x128_768_768 _ x, ?_⟩
  refine List.forall_mem_cons.2 ⟨fun x => wt_piece arg1 harg1 x0 arg4 harg4 x3 768 640 6 5 rfl rfl inb_S4864x896_S128x128_768_640 inb_S38x7_S1x1_6_5 inb_S896x4864_S128x128_640_768 _ x, ?_⟩
  refine List.forall_mem_cons.2 ⟨fun x => wt_piece arg1 harg1 x0 arg4 harg4 x3 768 512 6 4 rfl rfl inb_S4864x896_S128x128_768_512 inb_S38x7_S1x1_6_4 inb_S896x4864_S128x128_512_768 _ x, ?_⟩
  refine List.forall_mem_cons.2 ⟨fun x => wt_piece arg1 harg1 x0 arg4 harg4 x3 768 384 6 3 rfl rfl inb_S4864x896_S128x128_768_384 inb_S38x7_S1x1_6_3 inb_S896x4864_S128x128_384_768 _ x, ?_⟩
  refine List.forall_mem_cons.2 ⟨fun x => wt_piece arg1 harg1 x0 arg4 harg4 x3 768 256 6 2 rfl rfl inb_S4864x896_S128x128_768_256 inb_S38x7_S1x1_6_2 inb_S896x4864_S128x128_256_768 _ x, ?_⟩
  refine List.forall_mem_cons.2 ⟨fun x => wt_piece arg1 harg1 x0 arg4 harg4 x3 768 128 6 1 rfl rfl inb_S4864x896_S128x128_768_128 inb_S38x7_S1x1_6_1 inb_S896x4864_S128x128_128_768 _ x, ?_⟩
  refine List.forall_mem_cons.2 ⟨fun x => wt_piece arg1 harg1 x0 arg4 harg4 x3 768 0 6 0 rfl rfl inb_S4864x896_S128x128_768_0 inb_S38x7_S1x1_6_0 inb_S896x4864_S128x128_0_768 _ x, ?_⟩
  refine List.forall_mem_cons.2 ⟨fun x => wt_piece arg1 harg1 x0 arg4 harg4 x3 640 768 5 6 rfl rfl inb_S4864x896_S128x128_640_768 inb_S38x7_S1x1_5_6 inb_S896x4864_S128x128_768_640 _ x, ?_⟩
  refine List.forall_mem_cons.2 ⟨fun x => wt_piece arg1 harg1 x0 arg4 harg4 x3 640 640 5 5 rfl rfl inb_S4864x896_S128x128_640_640 inb_S38x7_S1x1_5_5 inb_S896x4864_S128x128_640_640 _ x, ?_⟩
  refine List.forall_mem_cons.2 ⟨fun x => wt_piece arg1 harg1 x0 arg4 harg4 x3 640 512 5 4 rfl rfl inb_S4864x896_S128x128_640_512 inb_S38x7_S1x1_5_4 inb_S896x4864_S128x128_512_640 _ x, ?_⟩
  refine List.forall_mem_cons.2 ⟨fun x => wt_piece arg1 harg1 x0 arg4 harg4 x3 640 384 5 3 rfl rfl inb_S4864x896_S128x128_640_384 inb_S38x7_S1x1_5_3 inb_S896x4864_S128x128_384_640 _ x, ?_⟩
  refine List.forall_mem_cons.2 ⟨fun x => wt_piece arg1 harg1 x0 arg4 harg4 x3 640 256 5 2 rfl rfl inb_S4864x896_S128x128_640_256 inb_S38x7_S1x1_5_2 inb_S896x4864_S128x128_256_640 _ x, ?_⟩
  refine List.forall_mem_cons.2 ⟨fun x => wt_piece arg1 harg1 x0 arg4 harg4 x3 640 128 5 1 rfl rfl inb_S4864x896_S128x128_640_128 inb_S38x7_S1x1_5_1 inb_S896x4864_S128x128_128_640 _ x, ?_⟩
  refine List.forall_mem_cons.2 ⟨fun x => wt_piece arg1 harg1 x0 arg4 harg4 x3 640 0 5 0 rfl rfl inb_S4864x896_S128x128_640_0 inb_S38x7_S1x1_5_0 inb_S896x4864_S128x128_0_640 _ x, ?_⟩
  refine List.forall_mem_cons.2 ⟨fun x => wt_piece arg1 harg1 x0 arg4 harg4 x3 512 768 4 6 rfl rfl inb_S4864x896_S128x128_512_768 inb_S38x7_S1x1_4_6 inb_S896x4864_S128x128_768_512 _ x, ?_⟩
  refine List.forall_mem_cons.2 ⟨fun x => wt_piece arg1 harg1 x0 arg4 harg4 x3 512 640 4 5 rfl rfl inb_S4864x896_S128x128_512_640 inb_S38x7_S1x1_4_5 inb_S896x4864_S128x128_640_512 _ x, ?_⟩
  refine List.forall_mem_cons.2 ⟨fun x => wt_piece arg1 harg1 x0 arg4 harg4 x3 512 512 4 4 rfl rfl inb_S4864x896_S128x128_512_512 inb_S38x7_S1x1_4_4 inb_S896x4864_S128x128_512_512 _ x, ?_⟩
  refine List.forall_mem_cons.2 ⟨fun x => wt_piece arg1 harg1 x0 arg4 harg4 x3 512 384 4 3 rfl rfl inb_S4864x896_S128x128_512_384 inb_S38x7_S1x1_4_3 inb_S896x4864_S128x128_384_512 _ x, ?_⟩
  refine List.forall_mem_cons.2 ⟨fun x => wt_piece arg1 harg1 x0 arg4 harg4 x3 512 256 4 2 rfl rfl inb_S4864x896_S128x128_512_256 inb_S38x7_S1x1_4_2 inb_S896x4864_S128x128_256_512 _ x, ?_⟩
  refine List.forall_mem_cons.2 ⟨fun x => wt_piece arg1 harg1 x0 arg4 harg4 x3 512 128 4 1 rfl rfl inb_S4864x896_S128x128_512_128 inb_S38x7_S1x1_4_1 inb_S896x4864_S128x128_128_512 _ x, ?_⟩
  refine List.forall_mem_cons.2 ⟨fun x => wt_piece arg1 harg1 x0 arg4 harg4 x3 512 0 4 0 rfl rfl inb_S4864x896_S128x128_512_0 inb_S38x7_S1x1_4_0 inb_S896x4864_S128x128_0_512 _ x, ?_⟩
  refine List.forall_mem_cons.2 ⟨fun x => wt_piece arg1 harg1 x0 arg4 harg4 x3 384 768 3 6 rfl rfl inb_S4864x896_S128x128_384_768 inb_S38x7_S1x1_3_6 inb_S896x4864_S128x128_768_384 _ x, ?_⟩
  refine List.forall_mem_cons.2 ⟨fun x => wt_piece arg1 harg1 x0 arg4 harg4 x3 384 640 3 5 rfl rfl inb_S4864x896_S128x128_384_640 inb_S38x7_S1x1_3_5 inb_S896x4864_S128x128_640_384 _ x, ?_⟩
  refine List.forall_mem_cons.2 ⟨fun x => wt_piece arg1 harg1 x0 arg4 harg4 x3 384 512 3 4 rfl rfl inb_S4864x896_S128x128_384_512 inb_S38x7_S1x1_3_4 inb_S896x4864_S128x128_512_384 _ x, ?_⟩
  refine List.forall_mem_cons.2 ⟨fun x => wt_piece arg1 harg1 x0 arg4 harg4 x3 384 384 3 3 rfl rfl inb_S4864x896_S128x128_384_384 inb_S38x7_S1x1_3_3 inb_S896x4864_S128x128_384_384 _ x, ?_⟩
  refine List.forall_mem_cons.2 ⟨fun x => wt_piece arg1 harg1 x0 arg4 harg4 x3 384 256 3 2 rfl rfl inb_S4864x896_S128x128_384_256 inb_S38x7_S1x1_3_2 inb_S896x4864_S128x128_256_384 _ x, ?_⟩
  refine List.forall_mem_cons.2 ⟨fun x => wt_piece arg1 harg1 x0 arg4 harg4 x3 384 128 3 1 rfl rfl inb_S4864x896_S128x128_384_128 inb_S38x7_S1x1_3_1 inb_S896x4864_S128x128_128_384 _ x, ?_⟩
  refine List.forall_mem_cons.2 ⟨fun x => wt_piece arg1 harg1 x0 arg4 harg4 x3 384 0 3 0 rfl rfl inb_S4864x896_S128x128_384_0 inb_S38x7_S1x1_3_0 inb_S896x4864_S128x128_0_384 _ x, ?_⟩
  refine List.forall_mem_cons.2 ⟨fun x => wt_piece arg1 harg1 x0 arg4 harg4 x3 256 768 2 6 rfl rfl inb_S4864x896_S128x128_256_768 inb_S38x7_S1x1_2_6 inb_S896x4864_S128x128_768_256 _ x, ?_⟩
  refine List.forall_mem_cons.2 ⟨fun x => wt_piece arg1 harg1 x0 arg4 harg4 x3 256 640 2 5 rfl rfl inb_S4864x896_S128x128_256_640 inb_S38x7_S1x1_2_5 inb_S896x4864_S128x128_640_256 _ x, ?_⟩
  refine List.forall_mem_cons.2 ⟨fun x => wt_piece arg1 harg1 x0 arg4 harg4 x3 256 512 2 4 rfl rfl inb_S4864x896_S128x128_256_512 inb_S38x7_S1x1_2_4 inb_S896x4864_S128x128_512_256 _ x, ?_⟩
  refine List.forall_mem_cons.2 ⟨fun x => wt_piece arg1 harg1 x0 arg4 harg4 x3 256 384 2 3 rfl rfl inb_S4864x896_S128x128_256_384 inb_S38x7_S1x1_2_3 inb_S896x4864_S128x128_384_256 _ x, ?_⟩
  refine List.forall_mem_cons.2 ⟨fun x => wt_piece arg1 harg1 x0 arg4 harg4 x3 256 256 2 2 rfl rfl inb_S4864x896_S128x128_256_256 inb_S38x7_S1x1_2_2 inb_S896x4864_S128x128_256_256 _ x, ?_⟩
  refine List.forall_mem_cons.2 ⟨fun x => wt_piece arg1 harg1 x0 arg4 harg4 x3 256 128 2 1 rfl rfl inb_S4864x896_S128x128_256_128 inb_S38x7_S1x1_2_1 inb_S896x4864_S128x128_128_256 _ x, ?_⟩
  refine List.forall_mem_cons.2 ⟨fun x => wt_piece arg1 harg1 x0 arg4 harg4 x3 256 0 2 0 rfl rfl inb_S4864x896_S128x128_256_0 inb_S38x7_S1x1_2_0 inb_S896x4864_S128x128_0_256 _ x, ?_⟩
  refine List.forall_mem_cons.2 ⟨fun x => wt_piece arg1 harg1 x0 arg4 harg4 x3 128 768 1 6 rfl rfl inb_S4864x896_S128x128_128_768 inb_S38x7_S1x1_1_6 inb_S896x4864_S128x128_768_128 _ x, ?_⟩
  refine List.forall_mem_cons.2 ⟨fun x => wt_piece arg1 harg1 x0 arg4 harg4 x3 128 640 1 5 rfl rfl inb_S4864x896_S128x128_128_640 inb_S38x7_S1x1_1_5 inb_S896x4864_S128x128_640_128 _ x, ?_⟩
  refine List.forall_mem_cons.2 ⟨fun x => wt_piece arg1 harg1 x0 arg4 harg4 x3 128 512 1 4 rfl rfl inb_S4864x896_S128x128_128_512 inb_S38x7_S1x1_1_4 inb_S896x4864_S128x128_512_128 _ x, ?_⟩
  refine List.forall_mem_cons.2 ⟨fun x => wt_piece arg1 harg1 x0 arg4 harg4 x3 128 384 1 3 rfl rfl inb_S4864x896_S128x128_128_384 inb_S38x7_S1x1_1_3 inb_S896x4864_S128x128_384_128 _ x, ?_⟩
  refine List.forall_mem_cons.2 ⟨fun x => wt_piece arg1 harg1 x0 arg4 harg4 x3 128 256 1 2 rfl rfl inb_S4864x896_S128x128_128_256 inb_S38x7_S1x1_1_2 inb_S896x4864_S128x128_256_128 _ x, ?_⟩
  refine List.forall_mem_cons.2 ⟨fun x => wt_piece arg1 harg1 x0 arg4 harg4 x3 128 128 1 1 rfl rfl inb_S4864x896_S128x128_128_128 inb_S38x7_S1x1_1_1 inb_S896x4864_S128x128_128_128 _ x, ?_⟩
  refine List.forall_mem_cons.2 ⟨fun x => wt_piece arg1 harg1 x0 arg4 harg4 x3 128 0 1 0 rfl rfl inb_S4864x896_S128x128_128_0 inb_S38x7_S1x1_1_0 inb_S896x4864_S128x128_0_128 _ x, ?_⟩
  refine List.forall_mem_cons.2 ⟨fun x => wt_piece arg1 harg1 x0 arg4 harg4 x3 0 768 0 6 rfl rfl inb_S4864x896_S128x128_0_768 inb_S38x7_S1x1_0_6 inb_S896x4864_S128x128_768_0 _ x, ?_⟩
  refine List.forall_mem_cons.2 ⟨fun x => wt_piece arg1 harg1 x0 arg4 harg4 x3 0 640 0 5 rfl rfl inb_S4864x896_S128x128_0_640 inb_S38x7_S1x1_0_5 inb_S896x4864_S128x128_640_0 _ x, ?_⟩
  refine List.forall_mem_cons.2 ⟨fun x => wt_piece arg1 harg1 x0 arg4 harg4 x3 0 512 0 4 rfl rfl inb_S4864x896_S128x128_0_512 inb_S38x7_S1x1_0_4 inb_S896x4864_S128x128_512_0 _ x, ?_⟩
  refine List.forall_mem_cons.2 ⟨fun x => wt_piece arg1 harg1 x0 arg4 harg4 x3 0 384 0 3 rfl rfl inb_S4864x896_S128x128_0_384 inb_S38x7_S1x1_0_3 inb_S896x4864_S128x128_384_0 _ x, ?_⟩
  refine List.forall_mem_cons.2 ⟨fun x => wt_piece arg1 harg1 x0 arg4 harg4 x3 0 256 0 2 rfl rfl inb_S4864x896_S128x128_0_256 inb_S38x7_S1x1_0_2 inb_S896x4864_S128x128_256_0 _ x, ?_⟩
  refine List.forall_mem_cons.2 ⟨fun x => wt_piece arg1 harg1 x0 arg4 harg4 x3 0 128 0 1 rfl rfl inb_S4864x896_S128x128_0_128 inb_S38x7_S1x1_0_1 inb_S896x4864_S128x128_128_0 _ x, ?_⟩
  refine List.forall_mem_cons.2 ⟨fun x => wt_piece arg1 harg1 x0 arg4 harg4 x3 0 0 0 0 rfl rfl inb_S4864x896_S128x128_0_0 inb_S38x7_S1x1_0_0 inb_S896x4864_S128x128_0_0 _ x, ?_⟩
  exact fun p hp => absurd hp List.not_mem_nil
theorem keep_wt' : kernelRun0_A.sl.v3018 c arg1 harg1 arg4 harg4 arg17 x0 x3 = wtBlk x0 x3 := read_whole arg17 _ _ (keep_wt c arg1 harg1 arg4 harg4 x0 x3) inb_S896x4864_S896x4864_0_0
/-- The dequantised weights. -/
theorem wt : sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = wtBlk x0 x3 := by
  unfold sout0_A_0
  rw [View.read_writes_junk_eq_canon]
  exact funext (keep_wt c arg1 harg1 arg4 harg4 x0 x3)

end Cert.CaseA
-- ==== Proof.CaseASums.lean ====
/- The running sums and the gradient of `x` that the first grid step of a core leaves, from its blocks. -/
module

public import proofs.«01_k».proof.Proof.CaseA
public import proofs.«01_k».proof.Proof.Gen.KernelIdeal.Frame
public import Idealize.ShloMosaic.Lib.Pipeline.ReadBack

@[expose] public section

set_option maxRecDepth 16384
set_option maxHeartbeats 4000000

noncomputable section

namespace Cert.CaseA

open Cert.KernelIdeal Cert.KernelIdeal.Gen Cert.Block Idealize.ShloMosaic Idealize.ShloMosaic.TcCoe Idealize.ShloMosaic.ValueIdx

variable {F : FTy → Type} [FloatOps F]
variable (c : Dev nD) (i : grid0.Coords) (arg1 : Memref sig .tc .smem S38x7 .f32) (harg1 : arg1.IsWhole) (arg2 : Memref sig .tc .vmem S256x896 .bf16) (harg2 : arg2.IsWhole) (arg3 : Memref sig .tc .vmem S256x4864 .bf16) (harg3 : arg3.IsWhole) (arg4 : Memref sig .tc .vmem S4864x896 .fp8e4m3) (harg4 : arg4.IsWhole) (arg5 : Memref sig .tc .vmem S128x896 .bf16) (harg5 : arg5.IsWhole) (arg6 : Memref sig .tc .vmem S896x128 .bf16) (harg6 : arg6.IsWhole) (arg7 : Memref sig .tc .vmem S128x4864 .bf16) (harg7 : arg7.IsWhole) (arg8 : Memref sig .tc .vmem S2x256 .i32) (harg8 : arg8.IsWhole) (arg9 : Memref sig .tc .vmem S2x256 .f32) (harg9 : arg9.IsWhole) (arg10 : Memref sig .tc .vmem S256x2 .f32) (harg10 : arg10.IsWhole) (arg11 : Memref sig .tc .vmem S256x896 .bf16) (harg11 : arg11.IsWhole) (arg12 : Memref sig .tc .vmem S128x896 .f32) (harg12 : arg12.IsWhole) (arg13 : Memref sig .tc .vmem S128x4864 .f32) (harg13 : arg13.IsWhole) (arg14 : Memref sig .tc .vmem S2x256 .f32) (harg14 : arg14.IsWhole) (arg15 : Memref sig .tc .vmem S256x4864 .fp8e5m2) (harg15 : arg15.IsWhole) (arg16 : Memref sig .tc .vmem S256x38 .f32) (harg16 : arg16.IsWhole) (arg17 : Memref sig .tc .vmem S896x4864 .bf16) (harg17 : arg17.IsWhole) (arg18 : Memref sig .tc .vmem S256x4864 .bf16) (harg18 : arg18.IsWhole) (arg19 : Memref sig .tc .vmem S128x4864 .f32) (harg19 : arg19.IsWhole) (arg20 : Memref sig .tc .vmem S128x896 .f32) (harg20 : arg20.IsWhole) (hc0 : cond0_0 i) (hc1 : ¬cond0_1 i)
  (x0 : Vec F S38x7 .f32) (x1 : Vec F S256x896 .bf16) (x2 : Vec F S256x4864 .bf16) (x3 : Vec F S4864x896 .fp8e4m3) (x4 : Vec F S128x896 .bf16) (x5 : Vec F S896x128 .bf16) (x6 : Vec F S128x4864 .bf16) (x7 : Vec F S2x256 .i32) (x8 : Vec F S2x256 .f32) (x9 : Vec F S256x2 .f32)

/-- The gradient of `x`. -/
theorem dx : out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = dxBlk (wtBlk x0 x3) x2 x5 x6 x7 x8 := by
  unfold out0_A_10
  rw [View.read_writes_junk_eq_canon]
  have e0 := canon_whole .bf16 (k0_pay703 (kernelRun0_A.sl.r_339 c arg8 harg8 x7) (kernelRun0_A.sl.r_553 c arg3 harg3 arg7 harg7 x2 x6) (kernelRun0_A.sl.r_554 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (kernelRun0_A.sl.v3018 c arg1 harg1 arg4 harg4 arg17 x0 x3)
    (kernelRun0_A.sl.v3019 c arg3 harg3 arg18 x2) (View.readAt (Elt F) arg6.view (Rect.unit ![0, 0] S896x128.size inb_S896x128_S896x128_0_0).toLoadRect (harg6.unread x5)) (View.readAt (Elt F) arg6.view (Rect.unit ![0, 0] S896x128.size inb_S896x128_S896x128_0_0).toLoadRect (harg6.unread x5))) [] inb_S256x896_S256x896_0_0
  refine Eq.trans e0 ?_
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (kernelRun0_A.sl.v3018 c arg1 harg1 arg4 harg4 arg17 x0 x3) = wtBlk x0 x3 := keep_wt' c arg1 harg1 arg4 harg4 arg17 x0 x3
  have e3 : (View.readAt (Elt F) arg6.view (Rect.unit ![0, 0] S896x128.size inb_S896x128_S896x128_0_0).toLoadRect (harg6.unread x5)) = x5 := load_whole arg6 harg6 x5 inb_S896x128_S896x128_0_0
  rw [keep_mask1, keep_ut, keep_gu, keep_dyw', e1, e2, e3]
  rfl

/-- The gradient of `A` after the step. -/
theorem keep_da : k0_pay702 (kernelRun0_A.sl.r_336 c arg2 harg2 x1) (kernelRun0_A.sl.r_339 c arg8 harg8 x7) (kernelRun0_A.sl.r_553 c arg3 harg3 arg7 harg7 x2 x6) (kernelRun0_A.sl.r_554 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (kernelRun0_A.sl.v3011 c arg20) = daStep x1 x2 x6 x7 x8 (k0_pay331) := by
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (kernelRun0_A.sl.v3011 c arg20) = k0_pay331 := read_whole (F := F) arg20 _ k0_pay331 (fun y => congrFun (canon_whole .f32 k0_pay331 [] inb_S128x896_S128x896_0_0) y) inb_S128x896_S128x896_0_0
  rw [keep_x, keep_mask1, keep_ut, keep_gu, e1, e2]
  rfl
/-- The gradient of `A` after the step. -/
theorem da : sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = daStep x1 x2 x6 x7 x8 (k0_pay331) := by
  unfold sout0_A_3
  rw [View.read_writes_junk_eq_canon]
  exact (canon_whole .f32 (k0_pay702 (kernelRun0_A.sl.r_336 c arg2 harg2 x1) (kernelRun0_A.sl.r_339 c arg8 harg8 x7) (kernelRun0_A.sl.r_553 c arg3 harg3 arg7 harg7 x2 x6) (kernelRun0_A.sl.r_554 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (kernelRun0_A.sl.v3011 c arg20)) (kernelRun0_A.sl.HS3_1) inb_S128x896_S128x896_0_0).trans (keep_da c arg2 harg2 arg3 harg3 arg7 harg7 arg8 harg8 arg9 harg9 arg20 x1 x2 x6 x7 x8)

/-- After the fill. -/
theorem fill0 : ∀ y, View.canon (kernelRun0_A.sl.HS2_1 (F := F)) y = if (y 1).val < 256 * 0 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y := fun y => congrFun (canon_whole .f32 (k0_pay330 (F := F)) [] inb_S128x4864_S128x4864_0_0) y
/-- After 1 stores. -/
theorem fill1 : ∀ y, View.canon (kernelRun0_A.sl.HS2_2 c arg2 harg2 arg3 harg3 arg5 harg5 arg8 harg8 arg10 harg10 arg19 x1 x2 x4 x7 x9) y = if (y 1).val < 256 * 1 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_1) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 0 0 rfl (fill0 c arg2 harg2 arg5 harg5 arg8 harg8 arg10 harg10 x1 x2 x4 x7 x9) inb_S128x4864_S128x256_0_0 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_1) k0_pay330 0 0 rfl inb_S256x4864_S256x256_0_0 inb_S128x4864_S128x256_0_0 (fill0 c arg2 harg2 arg5 harg5 arg8 harg8 arg10 harg10 x1 x2 x4 x7 x9) x)
/-- After 2 stores. -/
theorem fill2 : ∀ y, View.canon (kernelRun0_A.sl.HS2_3 c arg2 harg2 arg3 harg3 arg5 harg5 arg8 harg8 arg10 harg10 arg19 x1 x2 x4 x7 x9) y = if (y 1).val < 256 * 2 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_2 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 256 1 rfl (fill1 c arg2 harg2 arg3 harg3 arg5 harg5 arg8 harg8 arg10 harg10 arg19 x1 x2 x4 x7 x9) inb_S128x4864_S128x256_0_256 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_2 c arg2 harg2 arg3 harg3 arg5 harg5 arg8 harg8 arg10 harg10 arg19 x1 x2 x4 x7 x9) k0_pay330 256 1 rfl inb_S256x4864_S256x256_0_256 inb_S128x4864_S128x256_0_256 (fill1 c arg2 harg2 arg3 harg3 arg5 harg5 arg8 harg8 arg10 harg10 arg19 x1 x2 x4 x7 x9) x)
/-- After 3 stores. -/
theorem fill3 : ∀ y, View.canon (kernelRun0_A.sl.HS2_4 c arg2 harg2 arg3 harg3 arg5 harg5 arg8 harg8 arg10 harg10 arg19 x1 x2 x4 x7 x9) y = if (y 1).val < 256 * 3 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_3 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 512 2 rfl (fill2 c arg2 harg2 arg3 harg3 arg5 harg5 arg8 harg8 arg10 harg10 arg19 x1 x2 x4 x7 x9) inb_S128x4864_S128x256_0_512 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_3 c arg2 harg2 arg3 harg3 arg5 harg5 arg8 harg8 arg10 harg10 arg19 x1 x2 x4 x7 x9) k0_pay330 512 2 rfl inb_S256x4864_S256x256_0_512 inb_S128x4864_S128x256_0_512 (fill2 c arg2 harg2 arg3 harg3 arg5 harg5 arg8 harg8 arg10 harg10 arg19 x1 x2 x4 x7 x9) x)
/-- After 4 stores. -/
theorem fill4 : ∀ y, View.canon (kernelRun0_A.sl.HS2_5 c arg2 harg2 arg3 harg3 arg5 harg5 arg8 harg8 arg10 harg10 arg19 x1 x2 x4 x7 x9) y = if (y 1).val < 256 * 4 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_4 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 768 3 rfl (fill3 c arg2 harg2 arg3 harg3 arg5 harg5 arg8 harg8 arg10 harg10 arg19 x1 x2 x4 x7 x9) inb_S128x4864_S128x256_0_768 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_4 c arg2 harg2 arg3 harg3 arg5 harg5 arg8 harg8 arg10 harg10 arg19 x1 x2 x4 x7 x9) k0_pay330 768 3 rfl inb_S256x4864_S256x256_0_768 inb_S128x4864_S128x256_0_768 (fill3 c arg2 harg2 arg3 harg3 arg5 harg5 arg8 harg8 arg10 harg10 arg19 x1 x2 x4 x7 x9) x)
/-- After 5 stores. -/
theorem fill5 : ∀ y, View.canon (kernelRun0_A.sl.HS2_6 c arg2 harg2 arg3 harg3 arg5 harg5 arg8 harg8 arg10 harg10 arg19 x1 x2 x4 x7 x9) y = if (y 1).val < 256 * 5 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_5 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 1024 4 rfl (fill4 c arg2 harg2 arg3 harg3 arg5 harg5 arg8 harg8 arg10 harg10 arg19 x1 x2 x4 x7 x9) inb_S128x4864_S128x256_0_1024 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_5 c arg2 harg2 arg3 harg3 arg5 harg5 arg8 harg8 arg10 harg10 arg19 x1 x2 x4 x7 x9) k0_pay330 1024 4 rfl inb_S256x4864_S256x256_0_1024 inb_S128x4864_S128x256_0_1024 (fill4 c arg2 harg2 arg3 harg3 arg5 harg5 arg8 harg8 arg10 harg10 arg19 x1 x2 x4 x7 x9) x)
/-- After 6 stores. -/
theorem fill6 : ∀ y, View.canon (kernelRun0_A.sl.HS2_7 c arg2 harg2 arg3 harg3 arg5 harg5 arg8 harg8 arg10 harg10 arg19 x1 x2 x4 x7 x9) y = if (y 1).val < 256 * 6 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_6 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 1280 5 rfl (fill5 c arg2 harg2 arg3 harg3 arg5 harg5 arg8 harg8 arg10 harg10 arg19 x1 x2 x4 x7 x9) inb_S128x4864_S128x256_0_1280 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_6 c arg2 harg2 arg3 harg3 arg5 harg5 arg8 harg8 arg10 harg10 arg19 x1 x2 x4 x7 x9) k0_pay330 1280 5 rfl inb_S256x4864_S256x256_0_1280 inb_S128x4864_S128x256_0_1280 (fill5 c arg2 harg2 arg3 harg3 arg5 harg5 arg8 harg8 arg10 harg10 arg19 x1 x2 x4 x7 x9) x)
/-- After 7 stores. -/
theorem fill7 : ∀ y, View.canon (kernelRun0_A.sl.HS2_8 c arg2 harg2 arg3 harg3 arg5 harg5 arg8 harg8 arg10 harg10 arg19 x1 x2 x4 x7 x9) y = if (y 1).val < 256 * 7 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_7 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 1536 6 rfl (fill6 c arg2 harg2 arg3 harg3 arg5 harg5 arg8 harg8 arg10 harg10 arg19 x1 x2 x4 x7 x9) inb_S128x4864_S128x256_0_1536 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_7 c arg2 harg2 arg3 harg3 arg5 harg5 arg8 harg8 arg10 harg10 arg19 x1 x2 x4 x7 x9) k0_pay330 1536 6 rfl inb_S256x4864_S256x256_0_1536 inb_S128x4864_S128x256_0_1536 (fill6 c arg2 harg2 arg3 harg3 arg5 harg5 arg8 harg8 arg10 harg10 arg19 x1 x2 x4 x7 x9) x)
/-- After 8 stores. -/
theorem fill8 : ∀ y, View.canon (kernelRun0_A.sl.HS2_9 c arg2 harg2 arg3 harg3 arg5 harg5 arg8 harg8 arg10 harg10 arg19 x1 x2 x4 x7 x9) y = if (y 1).val < 256 * 8 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_8 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 1792 7 rfl (fill7 c arg2 harg2 arg3 harg3 arg5 harg5 arg8 harg8 arg10 harg10 arg19 x1 x2 x4 x7 x9) inb_S128x4864_S128x256_0_1792 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_8 c arg2 harg2 arg3 harg3 arg5 harg5 arg8 harg8 arg10 harg10 arg19 x1 x2 x4 x7 x9) k0_pay330 1792 7 rfl inb_S256x4864_S256x256_0_1792 inb_S128x4864_S128x256_0_1792 (fill7 c arg2 harg2 arg3 harg3 arg5 harg5 arg8 harg8 arg10 harg10 arg19 x1 x2 x4 x7 x9) x)
/-- After 9 stores. -/
theorem fill9 : ∀ y, View.canon (kernelRun0_A.sl.HS2_10 c arg2 harg2 arg3 harg3 arg5 harg5 arg8 harg8 arg10 harg10 arg19 x1 x2 x4 x7 x9) y = if (y 1).val < 256 * 9 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_9 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 2048 8 rfl (fill8 c arg2 harg2 arg3 harg3 arg5 harg5 arg8 harg8 arg10 harg10 arg19 x1 x2 x4 x7 x9) inb_S128x4864_S128x256_0_2048 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_9 c arg2 harg2 arg3 harg3 arg5 harg5 arg8 harg8 arg10 harg10 arg19 x1 x2 x4 x7 x9) k0_pay330 2048 8 rfl inb_S256x4864_S256x256_0_2048 inb_S128x4864_S128x256_0_2048 (fill8 c arg2 harg2 arg3 harg3 arg5 harg5 arg8 harg8 arg10 harg10 arg19 x1 x2 x4 x7 x9) x)
/-- After 10 stores. -/
theorem fill10 : ∀ y, View.canon (kernelRun0_A.sl.HS2_11 c arg2 harg2 arg3 harg3 arg5 harg5 arg8 harg8 arg10 harg10 arg19 x1 x2 x4 x7 x9) y = if (y 1).val < 256 * 10 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_10 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 2304 9 rfl (fill9 c arg2 harg2 arg3 harg3 arg5 harg5 arg8 harg8 arg10 harg10 arg19 x1 x2 x4 x7 x9) inb_S128x4864_S128x256_0_2304 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_10 c arg2 harg2 arg3 harg3 arg5 harg5 arg8 harg8 arg10 harg10 arg19 x1 x2 x4 x7 x9) k0_pay330 2304 9 rfl inb_S256x4864_S256x256_0_2304 inb_S128x4864_S128x256_0_2304 (fill9 c arg2 harg2 arg3 harg3 arg5 harg5 arg8 harg8 arg10 harg10 arg19 x1 x2 x4 x7 x9) x)
/-- After 11 stores. -/
theorem fill11 : ∀ y, View.canon (kernelRun0_A.sl.HS2_12 c arg2 harg2 arg3 harg3 arg5 harg5 arg8 harg8 arg10 harg10 arg19 x1 x2 x4 x7 x9) y = if (y 1).val < 256 * 11 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_11 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 2560 10 rfl (fill10 c arg2 harg2 arg3 harg3 arg5 harg5 arg8 harg8 arg10 harg10 arg19 x1 x2 x4 x7 x9) inb_S128x4864_S128x256_0_2560 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_11 c arg2 harg2 arg3 harg3 arg5 harg5 arg8 harg8 arg10 harg10 arg19 x1 x2 x4 x7 x9) k0_pay330 2560 10 rfl inb_S256x4864_S256x256_0_2560 inb_S128x4864_S128x256_0_2560 (fill10 c arg2 harg2 arg3 harg3 arg5 harg5 arg8 harg8 arg10 harg10 arg19 x1 x2 x4 x7 x9) x)
/-- After 12 stores. -/
theorem fill12 : ∀ y, View.canon (kernelRun0_A.sl.HS2_13 c arg2 harg2 arg3 harg3 arg5 harg5 arg8 harg8 arg10 harg10 arg19 x1 x2 x4 x7 x9) y = if (y 1).val < 256 * 12 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_12 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 2816 11 rfl (fill11 c arg2 harg2 arg3 harg3 arg5 harg5 arg8 harg8 arg10 harg10 arg19 x1 x2 x4 x7 x9) inb_S128x4864_S128x256_0_2816 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_12 c arg2 harg2 arg3 harg3 arg5 harg5 arg8 harg8 arg10 harg10 arg19 x1 x2 x4 x7 x9) k0_pay330 2816 11 rfl inb_S256x4864_S256x256_0_2816 inb_S128x4864_S128x256_0_2816 (fill11 c arg2 harg2 arg3 harg3 arg5 harg5 arg8 harg8 arg10 harg10 arg19 x1 x2 x4 x7 x9) x)
/-- After 13 stores. -/
theorem fill13 : ∀ y, View.canon (kernelRun0_A.sl.HS2_14 c arg2 harg2 arg3 harg3 arg5 harg5 arg8 harg8 arg10 harg10 arg19 x1 x2 x4 x7 x9) y = if (y 1).val < 256 * 13 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_13 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 3072 12 rfl (fill12 c arg2 harg2 arg3 harg3 arg5 harg5 arg8 harg8 arg10 harg10 arg19 x1 x2 x4 x7 x9) inb_S128x4864_S128x256_0_3072 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_13 c arg2 harg2 arg3 harg3 arg5 harg5 arg8 harg8 arg10 harg10 arg19 x1 x2 x4 x7 x9) k0_pay330 3072 12 rfl inb_S256x4864_S256x256_0_3072 inb_S128x4864_S128x256_0_3072 (fill12 c arg2 harg2 arg3 harg3 arg5 harg5 arg8 harg8 arg10 harg10 arg19 x1 x2 x4 x7 x9) x)
/-- After 14 stores. -/
theorem fill14 : ∀ y, View.canon (kernelRun0_A.sl.HS2_15 c arg2 harg2 arg3 harg3 arg5 harg5 arg8 harg8 arg10 harg10 arg19 x1 x2 x4 x7 x9) y = if (y 1).val < 256 * 14 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_14 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 3328 13 rfl (fill13 c arg2 harg2 arg3 harg3 arg5 harg5 arg8 harg8 arg10 harg10 arg19 x1 x2 x4 x7 x9) inb_S128x4864_S128x256_0_3328 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_14 c arg2 harg2 arg3 harg3 arg5 harg5 arg8 harg8 arg10 harg10 arg19 x1 x2 x4 x7 x9) k0_pay330 3328 13 rfl inb_S256x4864_S256x256_0_3328 inb_S128x4864_S128x256_0_3328 (fill13 c arg2 harg2 arg3 harg3 arg5 harg5 arg8 harg8 arg10 harg10 arg19 x1 x2 x4 x7 x9) x)
/-- After 15 stores. -/
theorem fill15 : ∀ y, View.canon (kernelRun0_A.sl.HS2_16 c arg2 harg2 arg3 harg3 arg5 harg5 arg8 harg8 arg10 harg10 arg19 x1 x2 x4 x7 x9) y = if (y 1).val < 256 * 15 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_15 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 3584 14 rfl (fill14 c arg2 harg2 arg3 harg3 arg5 harg5 arg8 harg8 arg10 harg10 arg19 x1 x2 x4 x7 x9) inb_S128x4864_S128x256_0_3584 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_15 c arg2 harg2 arg3 harg3 arg5 harg5 arg8 harg8 arg10 harg10 arg19 x1 x2 x4 x7 x9) k0_pay330 3584 14 rfl inb_S256x4864_S256x256_0_3584 inb_S128x4864_S128x256_0_3584 (fill14 c arg2 harg2 arg3 harg3 arg5 harg5 arg8 harg8 arg10 harg10 arg19 x1 x2 x4 x7 x9) x)
/-- After 16 stores. -/
theorem fill16 : ∀ y, View.canon (kernelRun0_A.sl.HS2_17 c arg2 harg2 arg3 harg3 arg5 harg5 arg8 harg8 arg10 harg10 arg19 x1 x2 x4 x7 x9) y = if (y 1).val < 256 * 16 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_16 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 3840 15 rfl (fill15 c arg2 harg2 arg3 harg3 arg5 harg5 arg8 harg8 arg10 harg10 arg19 x1 x2 x4 x7 x9) inb_S128x4864_S128x256_0_3840 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_16 c arg2 harg2 arg3 harg3 arg5 harg5 arg8 harg8 arg10 harg10 arg19 x1 x2 x4 x7 x9) k0_pay330 3840 15 rfl inb_S256x4864_S256x256_0_3840 inb_S128x4864_S128x256_0_3840 (fill15 c arg2 harg2 arg3 harg3 arg5 harg5 arg8 harg8 arg10 harg10 arg19 x1 x2 x4 x7 x9) x)
/-- After 17 stores. -/
theorem fill17 : ∀ y, View.canon (kernelRun0_A.sl.HS2_18 c arg2 harg2 arg3 harg3 arg5 harg5 arg8 harg8 arg10 harg10 arg19 x1 x2 x4 x7 x9) y = if (y 1).val < 256 * 17 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_17 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 4096 16 rfl (fill16 c arg2 harg2 arg3 harg3 arg5 harg5 arg8 harg8 arg10 harg10 arg19 x1 x2 x4 x7 x9) inb_S128x4864_S128x256_0_4096 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_17 c arg2 harg2 arg3 harg3 arg5 harg5 arg8 harg8 arg10 harg10 arg19 x1 x2 x4 x7 x9) k0_pay330 4096 16 rfl inb_S256x4864_S256x256_0_4096 inb_S128x4864_S128x256_0_4096 (fill16 c arg2 harg2 arg3 harg3 arg5 harg5 arg8 harg8 arg10 harg10 arg19 x1 x2 x4 x7 x9) x)
/-- After 18 stores. -/
theorem fill18 : ∀ y, View.canon (kernelRun0_A.sl.HS2_19 c arg2 harg2 arg3 harg3 arg5 harg5 arg8 harg8 arg10 harg10 arg19 x1 x2 x4 x7 x9) y = if (y 1).val < 256 * 18 then (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) y else k0_pay330 y :=
  fill_step (kernelRun0_A.sl.HS2_18 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 4352 17 rfl (fill17 c arg2 harg2 arg3 harg3 arg5 harg5 arg8 harg8 arg10 harg10 arg19 x1 x2 x4 x7 x9) inb_S128x4864_S128x256_0_4352 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_18 c arg2 harg2 arg3 harg3 arg5 harg5 arg8 harg8 arg10 harg10 arg19 x1 x2 x4 x7 x9) k0_pay330 4352 17 rfl inb_S256x4864_S256x256_0_4352 inb_S128x4864_S128x256_0_4352 (fill17 c arg2 harg2 arg3 harg3 arg5 harg5 arg8 harg8 arg10 harg10 arg19 x1 x2 x4 x7 x9) x)

/-- The gradient of `B` after the step. -/
theorem db : sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 = dbStep x1 x2 x4 x7 x9 k0_pay330 := by
  unfold sout0_A_2
  rw [View.read_writes_junk_eq_canon]
  have e : dbStep x1 x2 x4 x7 x9 k0_pay330 = side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k) := by
    rw [keep_h0, keep_h1, keep_g0, keep_g1]; rfl
  rw [e]
  funext y
  have hy : (y 1).val < 256 * 19 := (y 1).isLt
  exact (fill_step (kernelRun0_A.sl.HS2_19 c arg2 harg2 arg3 harg3 arg5 harg5 arg8 harg8 arg10 harg10 arg19 x1 x2 x4 x7 x9) (side 256 (by decide) fun k => (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) (cols 256 x2 k) (cols 256 k0_pay330 k)) k0_pay330 4608 18 rfl (fill18 c arg2 harg2 arg3 harg3 arg5 harg5 arg8 harg8 arg10 harg10 arg19 x1 x2 x4 x7 x9) inb_S128x4864_S128x256_0_4608 _
    (fun x => fill_piece (k0_pay355 (kernelRun0_A.sl.r_340 c arg2 harg2 arg5 harg5 arg8 harg8 x1 x4 x7) (kernelRun0_A.sl.r_341 c arg2 harg2 arg5 harg5 arg8 harg8 x1 x4 x7) (kernelRun0_A.sl.r_342 c arg10 harg10 x9) (kernelRun0_A.sl.r_343 c arg10 harg10 x9)) arg3 harg3 x2 arg19 (kernelRun0_A.sl.HS2_19 c arg2 harg2 arg3 harg3 arg5 harg5 arg8 harg8 arg10 harg10 arg19 x1 x2 x4 x7 x9) k0_pay330 4608 18 rfl inb_S256x4864_S256x256_0_4608 inb_S128x4864_S128x256_0_4608 (fill18 c arg2 harg2 arg3 harg3 arg5 harg5 arg8 harg8 arg10 harg10 arg19 x1 x2 x4 x7 x9) x) y).trans (if_pos hy)

end Cert.CaseA
-- ==== Proof.CaseB.lean ====
/- What a grid step that is neither first nor last leaves in its windows and scratch arrays, from its blocks and the scratch arrays before it. -/
module

public import proofs.«01_k».proof.Proof.Block
public import proofs.«01_k».proof.Proof.Gen.KernelIdeal.Frame
public import Idealize.ShloMosaic.Lib.Pipeline.ReadBack

@[expose] public section

set_option maxRecDepth 16384
set_option maxHeartbeats 4000000

noncomputable section

namespace Cert.CaseB

open Cert.KernelIdeal Cert.KernelIdeal.Gen Cert.Block Idealize.ShloMosaic Idealize.ShloMosaic.TcCoe Idealize.ShloMosaic.ValueIdx

variable {F : FTy → Type} [FloatOps F]
variable (c : Dev nD) (i : grid0.Coords) (arg1 : Memref sig .tc .smem S38x7 .f32) (harg1 : arg1.IsWhole) (arg2 : Memref sig .tc .vmem S256x896 .bf16) (harg2 : arg2.IsWhole) (arg3 : Memref sig .tc .vmem S256x4864 .bf16) (harg3 : arg3.IsWhole) (arg4 : Memref sig .tc .vmem S4864x896 .fp8e4m3) (harg4 : arg4.IsWhole) (arg5 : Memref sig .tc .vmem S128x896 .bf16) (harg5 : arg5.IsWhole) (arg6 : Memref sig .tc .vmem S896x128 .bf16) (harg6 : arg6.IsWhole) (arg7 : Memref sig .tc .vmem S128x4864 .bf16) (harg7 : arg7.IsWhole) (arg8 : Memref sig .tc .vmem S2x256 .i32) (harg8 : arg8.IsWhole) (arg9 : Memref sig .tc .vmem S2x256 .f32) (harg9 : arg9.IsWhole) (arg10 : Memref sig .tc .vmem S256x2 .f32) (harg10 : arg10.IsWhole) (arg11 : Memref sig .tc .vmem S256x896 .bf16) (harg11 : arg11.IsWhole) (arg12 : Memref sig .tc .vmem S128x896 .f32) (harg12 : arg12.IsWhole) (arg13 : Memref sig .tc .vmem S128x4864 .f32) (harg13 : arg13.IsWhole) (arg14 : Memref sig .tc .vmem S2x256 .f32) (harg14 : arg14.IsWhole) (arg15 : Memref sig .tc .vmem S256x4864 .fp8e5m2) (harg15 : arg15.IsWhole) (arg16 : Memref sig .tc .vmem S256x38 .f32) (harg16 : arg16.IsWhole) (arg17 : Memref sig .tc .vmem S896x4864 .bf16) (harg17 : arg17.IsWhole) (arg18 : Memref sig .tc .vmem S256x4864 .bf16) (harg18 : arg18.IsWhole) (arg19 : Memref sig .tc .vmem S128x4864 .f32) (harg19 : arg19.IsWhole) (arg20 : Memref sig .tc .vmem S128x896 .f32) (harg20 : arg20.IsWhole) (hc0 : ¬cond0_0 i) (hc1 : ¬cond0_1 i)
  (x0 : Vec F S38x7 .f32) (x1 : Vec F S256x896 .bf16) (x2 : Vec F S256x4864 .bf16) (x3 : Vec F S4864x896 .fp8e4m3) (x4 : Vec F S128x896 .bf16) (x5 : Vec F S896x128 .bf16) (x6 : Vec F S128x4864 .bf16) (x7 : Vec F S2x256 .i32) (x8 : Vec F S2x256 .f32) (x9 : Vec F S256x2 .f32) (xs0 : Vec F S896x4864 .bf16) (xs2 : Vec F S128x4864 .f32) (xs3 : Vec F S128x896 .f32)

/-! ## Values kept between stores -/

/-- The block of `x`. -/
theorem keep_x : kernelRun0_B.sl.r c arg2 harg2 x1 = x1 := load_whole arg2 harg2 x1 inb_S256x896_S256x896_0_0
/-- `a2 · xᵀ`. -/
theorem keep_ht : kernelRun0_B.sl.r_1 c arg2 harg2 arg5 harg5 x1 x4 = htOf x1 x4 := congrArg₂ htOf (load_whole arg2 harg2 x1 inb_S256x896_S256x896_0_0) (load_whole arg5 harg5 x4 inb_S128x896_S128x896_0_0)
/-- Where the rows belong to slot 0's adapter. -/
theorem keep_mask0 : kernelRun0_B.sl.r_2 c arg8 harg8 x7 = maskOf (F := F) (row x7 0) := congrArg (maskOf (F := F)) (load_row arg8 harg8 x7 0 inb_S2x256_S1x256_0_0)
/-- Where the rows belong to slot 1's adapter. -/
theorem keep_mask1 : kernelRun0_B.sl.r_3 c arg8 harg8 x7 = maskOf (F := F) (row x7 1) := congrArg (maskOf (F := F)) (load_row arg8 harg8 x7 1 inb_S2x256_S1x256_1_0)
/-- Slot 0's rows of `a2 · xᵀ`. -/
theorem keep_h0 : kernelRun0_B.sl.r_4 c arg2 harg2 arg5 harg5 arg8 harg8 x1 x4 x7 = hjOf x1 x4 (row x7 0) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 0 inb_S2x256_S1x256_0_0))
/-- Slot 1's rows of `a2 · xᵀ`. -/
theorem keep_h1 : kernelRun0_B.sl.r_5 c arg2 harg2 arg5 harg5 arg8 harg8 x1 x4 x7 = hjOf x1 x4 (row x7 1) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 1 inb_S2x256_S1x256_1_0))
/-- Slot 0's gates. -/
theorem keep_g0 : kernelRun0_B.sl.r_6 c arg10 harg10 x9 = col x9 0 := load_col arg10 harg10 x9 0 inb_S256x2_S256x1_0_0
/-- Slot 1's gates. -/
theorem keep_g1 : kernelRun0_B.sl.r_7 c arg10 harg10 x9 = col x9 1 := load_col arg10 harg10 x9 1 inb_S256x2_S256x1_0_1
/-- `bt · dyᵀ`. -/
theorem keep_ut : kernelRun0_B.sl.r_217 c arg3 harg3 arg7 harg7 x2 x6 = utOf x6 x2 := congrArg₂ utOf (load_whole arg7 harg7 x6 inb_S128x4864_S128x4864_0_0) (load_whole arg3 harg3 x2 inb_S256x4864_S256x4864_0_0)
/-- Slot 0's gated rows of `bt · dyᵀ`. -/
theorem keep_gu : kernelRun0_B.sl.r_218 c arg3 harg3 arg7 harg7 arg8 harg8 arg9 harg9 x2 x6 x7 x8 = guOf x6 x2 (row x7 0) (row x8 0) :=
  (congrArg₂ (fun a b => guOf a b _ _) (load_whole arg7 harg7 x6 inb_S128x4864_S128x4864_0_0) (load_whole arg3 harg3 x2 inb_S256x4864_S256x4864_0_0)).trans
    (congrArg₂ (guOf x6 x2) (load_row arg8 harg8 x7 0 inb_S2x256_S1x256_0_0) (load_row arg9 harg9 x8 0 inb_S2x256_S1x256_0_0))
/-- The groups' scales on their lanes. -/
theorem keep_scale : kernelRun0_B.sl.r_214 c arg3 harg3 x2 = scaleLanes (fun g _ => cols 128 x2 g) 38 (Nat.le_refl _) := by
  have e : ∀ (f f' : (g : ℕ) → g < 38 → Vec F S256x128 .bf16), f = f' → scaleLanes f 38 (Nat.le_refl _) = scaleLanes f' 38 (Nat.le_refl _) :=
    fun f f' h => congrArg (fun f => scaleLanes f 38 (Nat.le_refl _)) h
  refine Eq.trans ?_ (e _ _ (funext fun g => funext fun hg => load_cols 128 arg3 harg3 x2 (128 * g) g rfl
    (fun a => match a with | ⟨0, _⟩ => (by decide : 0 + 256 ≤ 256) | ⟨1, _⟩ => (by omega : 128 * g + 128 ≤ 4864))))
  rfl
/-- The coded and scaled back block, as the stores leave it. -/
theorem keep_dyw : ∀ y, View.canon (kernelRun0_B.sl.HS1_38 c arg3 harg3 x2) y = dywBlk x2 y := by
  intro y
  refine View.canon_apply_of_pieces (dywBlk x2) _ ?_ y (View.cover_of_tiledL (kernelRun0_B.sl.HS1_38 c arg3 harg3 x2) S256x128.size (by sl_kernel_rfl) y)
  refine List.forall_mem_cons.2 ⟨fun x => cols_piece 128 (by decide) dywOf arg3 harg3 x2 4736 37 rfl inb_S256x4864_S256x128_0_4736 inb_S256x4864_S256x128_0_4736 x, ?_⟩
  refine List.forall_mem_cons.2 ⟨fun x => cols_piece 128 (by decide) dywOf arg3 harg3 x2 4608 36 rfl inb_S256x4864_S256x128_0_4608 inb_S256x4864_S256x128_0_4608 x, ?_⟩
  refine List.forall_mem_cons.2 ⟨fun x => cols_piece 128 (by decide) dywOf arg3 harg3 x2 4480 35 rfl inb_S256x4864_S256x128_0_4480 inb_S256x4864_S256x128_0_4480 x, ?_⟩
  refine List.forall_mem_cons.2 ⟨fun x => cols_piece 128 (by decide) dywOf arg3 harg3 x2 4352 34 rfl inb_S256x4864_S256x128_0_4352 inb_S256x4864_S256x128_0_4352 x, ?_⟩
  refine List.forall_mem_cons.2 ⟨fun x => cols_piece 128 (by decide) dywOf arg3 harg3 x2 4224 33 rfl inb_S256x4864_S256x128_0_4224 inb_S256x4864_S256x128_0_4224 x, ?_⟩
  refine List.forall_mem_cons.2 ⟨fun x => cols_piece 128 (by decide) dywOf arg3 harg3 x2 4096 32 rfl inb_S256x4864_S256x128_0_4096 inb_S256x4864_S256x128_0_4096 x, ?_⟩
  refine List.forall_mem_cons.2 ⟨fun x => cols_piece 128 (by decide) dywOf arg3 harg3 x2 3968 31 rfl inb_S256x4864_S256x128_0_3968 inb_S256x4864_S256x128_0_3968 x, ?_⟩
  refine List.forall_mem_cons.2 ⟨fun x => cols_piece 128 (by decide) dywOf arg3 harg3 x2 3840 30 rfl inb_S256x4864_S256x128_0_3840 inb_S256x4864_S256x128_0_3840 x, ?_⟩
  refine List.forall_mem_cons.2 ⟨fun x => cols_piece 128 (by decide) dywOf arg3 harg3 x2 3712 29 rfl inb_S256x4864_S256x128_0_3712 inb_S256x4864_S256x128_0_3712 x, ?_⟩
  refine List.forall_mem_cons.2 ⟨fun x => cols_piece 128 (by decide) dywOf arg3 harg3 x2 3584 28 rfl inb_S256x4864_S256x128_0_3584 inb_S256x4864_S256x128_0_3584 x, ?_⟩
  refine List.forall_mem_cons.2 ⟨fun x => cols_piece 128 (by decide) dywOf arg3 harg3 x2 3456 27 rfl inb_S256x4864_S256x128_0_3456 inb_S256x4864_S256x128_0_3456 x, ?_⟩
  refine List.forall_mem_cons.2 ⟨fun x => cols_piece 128 (by decide) dywOf arg3 harg3 x2 3328 26 rfl inb_S256x4864_S256x128_0_3328 inb_S256x4864_S256x128_0_3328 x, ?_⟩
  refine List.forall_mem_cons.2 ⟨fun x => cols_piece 128 (by decide) dywOf arg3 harg3 x2 3200 25 rfl inb_S256x4864_S256x128_0_3200 inb_S256x4864_S256x128_0_3200 x, ?_⟩
  refine List.forall_mem_cons.2 ⟨fun x => cols_piece 128 (by decide) dywOf arg3 harg3 x2 3072 24 rfl inb_S256x4864_S256x128_0_3072 inb_S256x4864_S256x128_0_3072 x, ?_⟩
  refine List.forall_mem_cons.2 ⟨fun x => cols_piece 128 (by decide) dywOf arg3 harg3 x2 2944 23 rfl inb_S256x4864_S256x128_0_2944 inb_S256x4864_S256x128_0_2944 x, ?_⟩
  refine List.forall_mem_cons.2 ⟨fun x => cols_piece 128 (by decide) dywOf arg3 harg3 x2 2816 22 rfl inb_S256x4864_S256x128_0_2816 inb_S256x4864_S256x128_0_2816 x, ?_⟩
  refine List.forall_mem_cons.2 ⟨fun x => cols_piece 128 (by decide) dywOf arg3 harg3 x2 2688 21 rfl inb_S256x4864_S256x128_0_2688 inb_S256x4864_S256x128_0_2688 x, ?_⟩
  refine List.forall_mem_cons.2 ⟨fun x => cols_piece 128 (by decide) dywOf arg3 harg3 x2 2560 20 rfl inb_S256x4864_S256x128_0_2560 inb_S256x4864_S256x128_0_2560 x, ?_⟩
  refine List.forall_mem_cons.2 ⟨fun x => cols_piece 128 (by decide) dywOf arg3 harg3 x2 2432 19 rfl inb_S256x4864_S256x128_0_2432 inb_S256x4864_S256x128_0_2432 x, ?_⟩
  refine List.forall_mem_cons.2 ⟨fun x => cols_piece 128 (by decide) dywOf arg3 harg3 x2 2304 18 rfl inb_S256x4864_S256x128_0_2304 inb_S256x4864_S256x128_0_2304 x, ?_⟩
  refine List.forall_mem_cons.2 ⟨fun x => cols_piece 128 (by decide) dywOf arg3 harg3 x2 2176 17 rfl inb_S256x4864_S256x128_0_2176 inb_S256x4864_S256x128_0_2176 x, ?_⟩
  refine List.forall_mem_cons.2 ⟨fun x => cols_piece 128 (by decide) dywOf arg3 harg3 x2 2048 16 rfl inb_S256x4864_S256x128_0_2048 inb_S256x4864_S256x128_0_2048 x, ?_⟩
  refine List.forall_mem_cons.2 ⟨fun x => cols_piece 128 (by decide) dywOf arg3 harg3 x2 1920 15 rfl inb_S256x4864_S256x128_0_1920 inb_S256x4864_S256x128_0_1920 x, ?_⟩
  refine List.forall_mem_cons.2 ⟨fun x => cols_piece 128 (by decide) dywOf arg3 harg3 x2 1792 14 rfl inb_S256x4864_S256x128_0_1792 inb_S256x4864_S256x128_0_1792 x, ?_⟩
  refine List.forall_mem_cons.2 ⟨fun x => cols_piece 128 (by decide) dywOf arg3 harg3 x2 1664 13 rfl inb_S256x4864_S256x128_0_1664 inb_S256x4864_S256x128_0_1664 x, ?_⟩
  refine List.forall_mem_cons.2 ⟨fun x => cols_piece 128 (by decide) dywOf arg3 harg3 x2 1536 12 rfl inb_S256x4864_S256x128_0_1536 inb_S256x4864_S256x128_0_1536 x, ?_⟩
  refine List.forall_mem_cons.2 ⟨fun x => cols_piece 128 (by decide) dywOf arg3 harg3 x2 1408 11 rfl inb_S256x4864_S256x128_0_1408 inb_S256x4864_S256x128_0_1408 x, ?_⟩
  refine List.forall_mem_cons.2 ⟨fun x => cols_piece 128 (by decide) dywOf arg3 harg3 x2 1280 10 rfl inb_S256x4864_S256x128_0_1280 inb_S256x4864_S256x128_0_1280 x, ?_⟩
  refine List.forall_mem_cons.2 ⟨fun x => cols_piece 128 (by decide) dywOf arg3 harg3 x2 1152 9 rfl inb_S256x4864_S256x128_0_1152 inb_S256x4864_S256x128_0_1152 x, ?_⟩
  refine List.forall_mem_cons.2 ⟨fun x => cols_piece 128 (by decide) dywOf arg3 harg3 x2 1024 8 rfl inb_S256x4864_S256x128_0_1024 inb_S256x4864_S256x128_0_1024 x, ?_⟩
  refine List.forall_mem_cons.2 ⟨fun x => cols_piece 128 (by decide) dywOf arg3 harg3 x2 896 7 rfl inb_S256x4864_S256x128_0_896 inb_S256x4864_S256x128_0_896 x, ?_⟩
  refine List.forall_mem_cons.2 ⟨fun x => cols_piece 128 (by decide) dywOf arg3 harg3 x2 768 6 rfl inb_S256x4864_S256x128_0_768 inb_S256x4864_S256x128_0_768 x, ?_⟩
  refine List.forall_mem_cons.2 ⟨fun x => cols_piece 128 (by decide) dywOf arg3 harg3 x2 640 5 rfl inb_S256x4864_S256x128_0_640 inb_S256x4864_S256x128_0_640 x, ?_⟩
  refine List.forall_mem_cons.2 ⟨fun x => cols_piece 128 (by decide) dywOf arg3 harg3 x2 512 4 rfl inb_S256x4864_S256x128_0_512 inb_S256x4864_S256x128_0_512 x, ?_⟩
  refine List.forall_mem_cons.2 ⟨fun x => cols_piece 128 (by decide) dywOf arg3 harg3 x2 384 3 rfl inb_S256x4864_S256x128_0_384 inb_S256x4864_S256x128_0_384 x, ?_⟩
  refine List.forall_mem_cons.2 ⟨fun x => cols_piece 128 (by decide) dywOf arg3 harg3 x2 256 2 rfl inb_S256x4864_S256x128_0_256 inb_S256x4864_S256x128_0_256 x, ?_⟩
  refine List.forall_mem_cons.2 ⟨fun x => cols_piece 128 (by decide) dywOf arg3 harg3 x2 128 1 rfl inb_S256x4864_S256x128_0_128 inb_S256x4864_S256x128_0_128 x, ?_⟩
  refine List.forall_mem_cons.2 ⟨fun x => cols_piece 128 (by decide) dywOf arg3 harg3 x2 0 0 rfl inb_S256x4864_S256x128_0_0 inb_S256x4864_S256x128_0_0 x, ?_⟩
  exact fun p hp => absurd hp List.not_mem_nil
theorem keep_dyw' : kernelRun0_B.sl.v3019 c arg3 harg3 arg18 x2 = dywBlk x2 := read_whole arg18 _ _ (keep_dyw c arg3 harg3 x2) inb_S256x4864_S256x4864_0_0

/-! ## The windows -/

/-- The codes of `dy`. -/
theorem codes : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = codesBlk x2 := by
  unfold out0_B_14
  rw [View.read_writes_junk_eq_canon]
  funext y
  refine View.canon_apply_of_pieces (codesBlk x2) _ ?_ y (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 y)
  refine List.forall_mem_cons.2 ⟨fun x => cols_piece 128 (by decide) codesOf arg3 harg3 x2 4736 37 rfl inb_S256x4864_S256x128_0_4736 inb_S256x4864_S256x128_0_4736 x, ?_⟩
  refine List.forall_mem_cons.2 ⟨fun x => cols_piece 128 (by decide) codesOf arg3 harg3 x2 4608 36 rfl inb_S256x4864_S256x128_0_4608 inb_S256x4864_S256x128_0_4608 x, ?_⟩
  refine List.forall_mem_cons.2 ⟨fun x => cols_piece 128 (by decide) codesOf arg3 harg3 x2 4480 35 rfl inb_S256x4864_S256x128_0_4480 inb_S256x4864_S256x128_0_4480 x, ?_⟩
  refine List.forall_mem_cons.2 ⟨fun x => cols_piece 128 (by decide) codesOf arg3 harg3 x2 4352 34 rfl inb_S256x4864_S256x128_0_4352 inb_S256x4864_S256x128_0_4352 x, ?_⟩
  refine List.forall_mem_cons.2 ⟨fun x => cols_piece 128 (by decide) codesOf arg3 harg3 x2 4224 33 rfl inb_S256x4864_S256x128_0_4224 inb_S256x4864_S256x128_0_4224 x, ?_⟩
  refine List.forall_mem_cons.2 ⟨fun x => cols_piece 128 (by decide) codesOf arg3 harg3 x2 4096 32 rfl inb_S256x4864_S256x128_0_4096 inb_S256x4864_S256x128_0_4096 x, ?_⟩
  refine List.forall_mem_cons.2 ⟨fun x => cols_piece 128 (by decide) codesOf arg3 harg3 x2 3968 31 rfl inb_S256x4864_S256x128_0_3968 inb_S256x4864_S256x128_0_3968 x, ?_⟩
  refine List.forall_mem_cons.2 ⟨fun x => cols_piece 128 (by decide) codesOf arg3 harg3 x2 3840 30 rfl inb_S256x4864_S256x128_0_3840 inb_S256x4864_S256x128_0_3840 x, ?_⟩
  refine List.forall_mem_cons.2 ⟨fun x => cols_piece 128 (by decide) codesOf arg3 harg3 x2 3712 29 rfl inb_S256x4864_S256x128_0_3712 inb_S256x4864_S256x128_0_3712 x, ?_⟩
  refine List.forall_mem_cons.2 ⟨fun x => cols_piece 128 (by decide) codesOf arg3 harg3 x2 3584 28 rfl inb_S256x4864_S256x128_0_3584 inb_S256x4864_S256x128_0_3584 x, ?_⟩
  refine List.forall_mem_cons.2 ⟨fun x => cols_piece 128 (by decide) codesOf arg3 harg3 x2 3456 27 rfl inb_S256x4864_S256x128_0_3456 inb_S256x4864_S256x128_0_3456 x, ?_⟩
  refine List.forall_mem_cons.2 ⟨fun x => cols_piece 128 (by decide) codesOf arg3 harg3 x2 3328 26 rfl inb_S256x4864_S256x128_0_3328 inb_S256x4864_S256x128_0_3328 x, ?_⟩
  refine List.forall_mem_cons.2 ⟨fun x => cols_piece 128 (by decide) codesOf arg3 harg3 x2 3200 25 rfl inb_S256x4864_S256x128_0_3200 inb_S256x4864_S256x128_0_3200 x, ?_⟩
  refine List.forall_mem_cons.2 ⟨fun x => cols_piece 128 (by decide) codesOf arg3 harg3 x2 3072 24 rfl inb_S256x4864_S256x128_0_3072 inb_S256x4864_S256x128_0_3072 x, ?_⟩
  refine List.forall_mem_cons.2 ⟨fun x => cols_piece 128 (by decide) codesOf arg3 harg3 x2 2944 23 rfl inb_S256x4864_S256x128_0_2944 inb_S256x4864_S256x128_0_2944 x, ?_⟩
  refine List.forall_mem_cons.2 ⟨fun x => cols_piece 128 (by decide) codesOf arg3 harg3 x2 2816 22 rfl inb_S256x4864_S256x128_0_2816 inb_S256x4864_S256x128_0_2816 x, ?_⟩
  refine List.forall_mem_cons.2 ⟨fun x => cols_piece 128 (by decide) codesOf arg3 harg3 x2 2688 21 rfl inb_S256x4864_S256x128_0_2688 inb_S256x4864_S256x128_0_2688 x, ?_⟩
  refine List.forall_mem_cons.2 ⟨fun x => cols_piece 128 (by decide) codesOf arg3 harg3 x2 2560 20 rfl inb_S256x4864_S256x128_0_2560 inb_S256x4864_S256x128_0_2560 x, ?_⟩
  refine List.forall_mem_cons.2 ⟨fun x => cols_piece 128 (by decide) codesOf arg3 harg3 x2 2432 19 rfl inb_S256x4864_S256x128_0_2432 inb_S256x4864_S256x128_0_2432 x, ?_⟩
  refine List.forall_mem_cons.2 ⟨fun x => cols_piece 128 (by decide) codesOf arg3 harg3 x2 2304 18 rfl inb_S256x4864_S256x128_0_2304 inb_S256x4864_S256x128_0_2304 x, ?_⟩
  refine List.forall_mem_cons.2 ⟨fun x => cols_piece 128 (by decide) codesOf arg3 harg3 x2 2176 17 rfl inb_S256x4864_S256x128_0_2176 inb_S256x4864_S256x128_0_2176 x, ?_⟩
  refine List.forall_mem_cons.2 ⟨fun x => cols_piece 128 (by decide) codesOf arg3 harg3 x2 2048 16 rfl inb_S256x4864_S256x128_0_2048 inb_S256x4864_S256x128_0_2048 x, ?_⟩
  refine List.forall_mem_cons.2 ⟨fun x => cols_piece 128 (by decide) codesOf arg3 harg3 x2 1920 15 rfl inb_S256x4864_S256x128_0_1920 inb_S256x4864_S256x128_0_1920 x, ?_⟩
  refine List.forall_mem_cons.2 ⟨fun x => cols_piece 128 (by decide) codesOf arg3 harg3 x2 1792 14 rfl inb_S256x4864_S256x128_0_1792 inb_S256x4864_S256x128_0_1792 x, ?_⟩
  refine List.forall_mem_cons.2 ⟨fun x => cols_piece 128 (by decide) codesOf arg3 harg3 x2 1664 13 rfl inb_S256x4864_S256x128_0_1664 inb_S256x4864_S256x128_0_1664 x, ?_⟩
  refine List.forall_mem_cons.2 ⟨fun x => cols_piece 128 (by decide) codesOf arg3 harg3 x2 1536 12 rfl inb_S256x4864_S256x128_0_1536 inb_S256x4864_S256x128_0_1536 x, ?_⟩
  refine List.forall_mem_cons.2 ⟨fun x => cols_piece 128 (by decide) codesOf arg3 harg3 x2 1408 11 rfl inb_S256x4864_S256x128_0_1408 inb_S256x4864_S256x128_0_1408 x, ?_⟩
  refine List.forall_mem_cons.2 ⟨fun x => cols_piece 128 (by decide) codesOf arg3 harg3 x2 1280 10 rfl inb_S256x4864_S256x128_0_1280 inb_S256x4864_S256x128_0_1280 x, ?_⟩
  refine List.forall_mem_cons.2 ⟨fun x => cols_piece 128 (by decide) codesOf arg3 harg3 x2 1152 9 rfl inb_S256x4864_S256x128_0_1152 inb_S256x4864_S256x128_0_1152 x, ?_⟩
  refine List.forall_mem_cons.2 ⟨fun x => cols_piece 128 (by decide) codesOf arg3 harg3 x2 1024 8 rfl inb_S256x4864_S256x128_0_1024 inb_S256x4864_S256x128_0_1024 x, ?_⟩
  refine List.forall_mem_cons.2 ⟨fun x => cols_piece 128 (by decide) codesOf arg3 harg3 x2 896 7 rfl inb_S256x4864_S256x128_0_896 inb_S256x4864_S256x128_0_896 x, ?_⟩
  refine List.forall_mem_cons.2 ⟨fun x => cols_piece 128 (by decide) codesOf arg3 harg3 x2 768 6 rfl inb_S256x4864_S256x128_0_768 inb_S256x4864_S256x128_0_768 x, ?_⟩
  refine List.forall_mem_cons.2 ⟨fun x => cols_piece 128 (by decide) codesOf arg3 harg3 x2 640 5 rfl inb_S256x4864_S256x128_0_640 inb_S256x4864_S256x128_0_640 x, ?_⟩
  refine List.forall_mem_cons.2 ⟨fun x => cols_piece 128 (by decide) codesOf arg3 harg3 x2 512 4 rfl inb_S256x4864_S256x128_0_512 inb_S256x4864_S256x128_0_512 x, ?_⟩
  refine List.forall_mem_cons.2 ⟨fun x => cols_piece 128 (by decide) codesOf arg3 harg3 x2 384 3 rfl inb_S256x4864_S256x128_0_384 inb_S256x4864_S256x128_0_384 x, ?_⟩
  refine List.forall_mem_cons.2 ⟨fun x => cols_piece 128 (by decide) codesOf arg3 harg3 x2 256 2 rfl inb_S256x4864_S256x128_0_256 inb_S256x4864_S256x128_0_256 x, ?_⟩
  refine List.forall_mem_cons.2 ⟨fun x => cols_piece 128 (by decide) codesOf arg3 harg3 x2 128 1 rfl inb_S256x4864_S256x128_0_128 inb_S256x4864_S256x128_0_128 x, ?_⟩
  refine List.forall_mem_cons.2 ⟨fun x => cols_piece 128 (by decide) codesOf arg3 harg3 x2 0 0 rfl inb_S256x4864_S256x128_0_0 inb_S256x4864_S256x128_0_0 x, ?_⟩
  exact fun p hp => absurd hp List.not_mem_nil

/-- The scales of `dy`. -/
theorem scale : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = scaleBlk x2 := by
  unfold out0_B_15
  rw [View.read_writes_junk_eq_canon]
  exact (canon_whole .f32 (k0_pay694 (kernelRun0_B.sl.r_214 c arg3 harg3 x2)) [] inb_S256x38_S256x38_0_0).trans (congrArg k0_pay694 (keep_scale c arg3 harg3 x2))

/-- The gradient of the gates. -/
theorem dgate : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dgateBlk x1 x2 x4 x6 x7 := by
  unfold out0_B_13
  rw [View.read_writes_junk_eq_canon]
  funext y
  refine View.canon_apply_of_pieces (dgateBlk x1 x2 x4 x6 x7) _ ?_ y (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 y)
  have e1 : k0_pay700 (kernelRun0_B.sl.r_219 c arg2 harg2 arg3 harg3 arg5 harg5 arg7 harg7 arg8 harg8 x1 x2 x4 x6 x7) = dgateRow x1 x2 x4 x6 (row x7 1) := by
    refine Eq.trans (b := k0_pay697 (kernelRun0_B.sl.r_1 c arg2 harg2 arg5 harg5 x1 x4) (kernelRun0_B.sl.r_3 c arg8 harg8 x7) _ _) rfl ?_
    rw [keep_ht, keep_mask1]
    exact congrArg₂ (k0_pay697 _ _) (load_whole arg7 harg7 x6 inb_S128x4864_S128x4864_0_0) (load_whole arg3 harg3 x2 inb_S256x4864_S256x4864_0_0)
  have e0 : ∀ x, k0_pay697 (kernelRun0_B.sl.r_1 c arg2 harg2 arg5 harg5 x1 x4) (kernelRun0_B.sl.r_2 c arg8 harg8 x7)
      (View.readAt (Elt F) arg7.view (Rect.unit ![0, 0] S128x4864.size inb_S128x4864_S128x4864_0_0).toLoadRect (harg7.unread x6))
      (View.readAt (Elt F) arg3.view (Rect.unit ![0, 0] S256x4864.size inb_S256x4864_S256x4864_0_0).toLoadRect (harg3.unread x2)) x
      = dgateRow x1 x2 x4 x6 (row x7 0) x := by
    intro x
    rw [keep_ht, keep_mask0]
    exact congrFun (congrArg₂ (k0_pay697 _ _) (load_whole arg7 harg7 x6 inb_S128x4864_S128x4864_0_0) (load_whole arg3 harg3 x2 inb_S256x4864_S256x4864_0_0)) x
  refine List.forall_mem_cons.2 ⟨fun x => (congrFun e1 x).trans (dgate_emb x1 x2 x4 x6 x7 1 inb_S2x256_S1x256_1_0 x), ?_⟩
  refine List.forall_mem_cons.2 ⟨fun x => (e0 x).trans (dgate_emb x1 x2 x4 x6 x7 0 inb_S2x256_S1x256_0_0 x), ?_⟩
  exact fun p hp => absurd hp List.not_mem_nil

/-- The gradient of `x`. -/
theorem dx : out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dxBlk (xs0) x2 x5 x6 x7 x8 := by
  unfold out0_B_10
  rw [View.read_writes_junk_eq_canon]
  refine (canon_whole .bf16 (k0_pay703 (kernelRun0_B.sl.r_3 c arg8 harg8 x7) (kernelRun0_B.sl.r_217 c arg3 harg3 arg7 harg7 x2 x6) (kernelRun0_B.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg17.view (Rect.unit ![0, 0] S896x4864.size inb_S896x4864_S896x4864_0_0).toLoadRect (harg17.unread xs0))
    (kernelRun0_B.sl.v3019 c arg3 harg3 arg18 x2) (View.readAt (Elt F) arg6.view (Rect.unit ![0, 0] S896x128.size inb_S896x128_S896x128_0_0).toLoadRect (harg6.unread x5)) (View.readAt (Elt F) arg6.view (Rect.unit ![0, 0] S896x128.size inb_S896x128_S896x128_0_0).toLoadRect (harg6.unread x5))) [] inb_S256x896_S256x896_0_0).trans ?_
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (View.readAt (Elt F) arg17.view (Rect.unit ![0, 0] S896x4864.size inb_S896x4864_S896x4864_0_0).toLoadRect (harg17.unread xs0)) = xs0 := load_whole arg17 harg17 xs0 inb_S896x4864_S896x4864_0_0
  have e3 : (View.readAt (Elt F) arg6.view (Rect.unit ![0, 0] S896x128.size inb_S896x128_S896x128_0_0).toLoadRect (harg6.unread x5)) = x5 := load_whole arg6 harg6 x5 inb_S896x128_S896x128_0_0
  rw [keep_mask1, keep_ut, keep_gu, keep_dyw', e1, e2, e3]
  rfl

/-- The gradient of `A` after the step. -/
theorem keep_da : k0_pay702 (kernelRun0_B.sl.r c arg2 harg2 x1) (kernelRun0_B.sl.r_3 c arg8 harg8 x7) (kernelRun0_B.sl.r_217 c arg3 harg3 arg7 harg7 x2 x6) (kernelRun0_B.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg20.view (Rect.unit ![0, 0] S128x896.size inb_S128x896_S128x896_0_0).toLoadRect (harg20.unread xs3)) = daStep x1 x2 x6 x7 x8 (xs3) := by
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (View.readAt (Elt F) arg20.view (Rect.unit ![0, 0] S128x896.size inb_S128x896_S128x896_0_0).toLoadRect (harg20.unread xs3)) = xs3 := load_whole arg20 harg20 xs3 inb_S128x896_S128x896_0_0
  rw [keep_x, keep_mask1, keep_ut, keep_gu, e1, e2]
  rfl
/-- The gradient of `A` after the step. -/
theorem da : sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = daStep x1 x2 x6 x7 x8 (xs3) := by
  unfold sout0_B_3
  rw [View.read_writes_junk_eq_canon]
  exact (canon_whole .f32 (k0_pay702 (kernelRun0_B.sl.r c arg2 harg2 x1) (kernelRun0_B.sl.r_3 c arg8 harg8 x7) (kernelRun0_B.sl.r_217 c arg3 harg3 arg7 harg7 x2 x6) (kernelRun0_B.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg20.view (Rect.unit ![0, 0] S128x896.size inb_S128x896_S128x896_0_0).toLoadRect (harg20.unread xs3))) ([]) inb_S128x896_S128x896_0_0).trans (keep_da c arg2 harg2 arg3 harg3 arg7 harg7 arg8 harg8 arg9 harg9 arg20 harg20 x1 x2 x6 x7 x8 xs3)

/-- The gradient of `B` after the step. -/
theorem db : sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dbStep x1 x2 x4 x7 x9 xs2 := by
  unfold sout0_B_2
  rw [View.read_writes_junk_eq_canon]
  funext y
  have e : dbStep x1 x2 x4 x7 x9 xs2 = side 256 (by decide) fun k => (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) (cols 256 x2 k) (cols 256 xs2 k) := by
    rw [keep_h0, keep_h1, keep_g0, keep_g1]; rfl
  rw [e]
  refine View.canon_apply_of_pieces (side 256 (by decide) fun k => (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) (cols 256 x2 k) (cols 256 xs2 k)) _ ?_ y (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 y)
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 4608 18 rfl inb_S256x4864_S256x256_0_4608 inb_S128x4864_S128x256_0_4608 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 4352 17 rfl inb_S256x4864_S256x256_0_4352 inb_S128x4864_S128x256_0_4352 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 4096 16 rfl inb_S256x4864_S256x256_0_4096 inb_S128x4864_S128x256_0_4096 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 3840 15 rfl inb_S256x4864_S256x256_0_3840 inb_S128x4864_S128x256_0_3840 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 3584 14 rfl inb_S256x4864_S256x256_0_3584 inb_S128x4864_S128x256_0_3584 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 3328 13 rfl inb_S256x4864_S256x256_0_3328 inb_S128x4864_S128x256_0_3328 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 3072 12 rfl inb_S256x4864_S256x256_0_3072 inb_S128x4864_S128x256_0_3072 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 2816 11 rfl inb_S256x4864_S256x256_0_2816 inb_S128x4864_S128x256_0_2816 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 2560 10 rfl inb_S256x4864_S256x256_0_2560 inb_S128x4864_S128x256_0_2560 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 2304 9 rfl inb_S256x4864_S256x256_0_2304 inb_S128x4864_S128x256_0_2304 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 2048 8 rfl inb_S256x4864_S256x256_0_2048 inb_S128x4864_S128x256_0_2048 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 1792 7 rfl inb_S256x4864_S256x256_0_1792 inb_S128x4864_S128x256_0_1792 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 1536 6 rfl inb_S256x4864_S256x256_0_1536 inb_S128x4864_S128x256_0_1536 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 1280 5 rfl inb_S256x4864_S256x256_0_1280 inb_S128x4864_S128x256_0_1280 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 1024 4 rfl inb_S256x4864_S256x256_0_1024 inb_S128x4864_S128x256_0_1024 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 768 3 rfl inb_S256x4864_S256x256_0_768 inb_S128x4864_S128x256_0_768 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 512 2 rfl inb_S256x4864_S256x256_0_512 inb_S128x4864_S128x256_0_512 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 256 1 rfl inb_S256x4864_S256x256_0_256 inb_S128x4864_S128x256_0_256 x, ?_⟩
  refine List.forall_mem_cons.2 ⟨fun x => cols_piece₂ (k0_pay355 (kernelRun0_B.sl.r_4 c arg2 harg2 arg5 harg5 arg8 harg8 x1 x4 x7) (kernelRun0_B.sl.r_5 c arg2 harg2 arg5 harg5 arg8 harg8 x1 x4 x7) (kernelRun0_B.sl.r_6 c arg10 harg10 x9) (kernelRun0_B.sl.r_7 c arg10 harg10 x9)) arg3 harg3 x2 arg19 harg19 xs2 0 0 rfl inb_S256x4864_S256x256_0_0 inb_S128x4864_S128x256_0_0 x, ?_⟩
  exact fun p hp => absurd hp List.not_mem_nil

end Cert.CaseB
-- ==== Proof.CaseC.lean ====
/- What the last grid step of a core leaves in its windows and scratch arrays, from its blocks and the scratch arrays before it. -/
module

public import proofs.«01_k».proof.Proof.Block
public import proofs.«01_k».proof.Proof.Gen.KernelIdeal.Frame
public import Idealize.ShloMosaic.Lib.Pipeline.ReadBack

@[expose] public section

set_option maxRecDepth 16384
set_option maxHeartbeats 4000000

noncomputable section

namespace Cert.CaseC

open Cert.KernelIdeal Cert.KernelIdeal.Gen Cert.Block Idealize.ShloMosaic Idealize.ShloMosaic.TcCoe Idealize.ShloMosaic.ValueIdx

variable {F : FTy → Type} [FloatOps F]
variable (c : Dev nD) (i : grid0.Coords) (arg1 : Memref sig .tc .smem S38x7 .f32) (harg1 : arg1.IsWhole) (arg2 : Memref sig .tc .vmem S256x896 .bf16) (harg2 : arg2.IsWhole) (arg3 : Memref sig .tc .vmem S256x4864 .bf16) (harg3 : arg3.IsWhole) (arg4 : Memref sig .tc .vmem S4864x896 .fp8e4m3) (harg4 : arg4.IsWhole) (arg5 : Memref sig .tc .vmem S128x896 .bf16) (harg5 : arg5.IsWhole) (arg6 : Memref sig .tc .vmem S896x128 .bf16) (harg6 : arg6.IsWhole) (arg7 : Memref sig .tc .vmem S128x4864 .bf16) (harg7 : arg7.IsWhole) (arg8 : Memref sig .tc .vmem S2x256 .i32) (harg8 : arg8.IsWhole) (arg9 : Memref sig .tc .vmem S2x256 .f32) (harg9 : arg9.IsWhole) (arg10 : Memref sig .tc .vmem S256x2 .f32) (harg10 : arg10.IsWhole) (arg11 : Memref sig .tc .vmem S256x896 .bf16) (harg11 : arg11.IsWhole) (arg12 : Memref sig .tc .vmem S128x896 .f32) (harg12 : arg12.IsWhole) (arg13 : Memref sig .tc .vmem S128x4864 .f32) (harg13 : arg13.IsWhole) (arg14 : Memref sig .tc .vmem S2x256 .f32) (harg14 : arg14.IsWhole) (arg15 : Memref sig .tc .vmem S256x4864 .fp8e5m2) (harg15 : arg15.IsWhole) (arg16 : Memref sig .tc .vmem S256x38 .f32) (harg16 : arg16.IsWhole) (arg17 : Memref sig .tc .vmem S896x4864 .bf16) (harg17 : arg17.IsWhole) (arg18 : Memref sig .tc .vmem S256x4864 .bf16) (harg18 : arg18.IsWhole) (arg19 : Memref sig .tc .vmem S128x4864 .f32) (harg19 : arg19.IsWhole) (arg20 : Memref sig .tc .vmem S128x896 .f32) (harg20 : arg20.IsWhole) (hc0 : ¬cond0_0 i) (hc1 : cond0_1 i)
  (x0 : Vec F S38x7 .f32) (x1 : Vec F S256x896 .bf16) (x2 : Vec F S256x4864 .bf16) (x3 : Vec F S4864x896 .fp8e4m3) (x4 : Vec F S128x896 .bf16) (x5 : Vec F S896x128 .bf16) (x6 : Vec F S128x4864 .bf16) (x7 : Vec F S2x256 .i32) (x8 : Vec F S2x256 .f32) (x9 : Vec F S256x2 .f32) (xs0 : Vec F S896x4864 .bf16) (xs2 : Vec F S128x4864 .f32) (xs3 : Vec F S128x896 .f32)

/-! ## Values kept between stores -/

/-- The block of `x`. -/
theorem keep_x : kernelRun0_C.sl.r c arg2 harg2 x1 = x1 := load_whole arg2 harg2 x1 inb_S256x896_S256x896_0_0
/-- `a2 · xᵀ`. -/
theorem keep_ht : kernelRun0_C.sl.r_1 c arg2 harg2 arg5 harg5 x1 x4 = htOf x1 x4 := congrArg₂ htOf (load_whole arg2 harg2 x1 inb_S256x896_S256x896_0_0) (load_whole arg5 harg5 x4 inb_S128x896_S128x896_0_0)
/-- Where the rows belong to slot 0's adapter. -/
theorem keep_mask0 : kernelRun0_C.sl.r_2 c arg8 harg8 x7 = maskOf (F := F) (row x7 0) := congrArg (maskOf (F := F)) (load_row arg8 harg8 x7 0 inb_S2x256_S1x256_0_0)
/-- Where the rows belong to slot 1's adapter. -/
theorem keep_mask1 : kernelRun0_C.sl.r_3 c arg8 harg8 x7 = maskOf (F := F) (row x7 1) := congrArg (maskOf (F := F)) (load_row arg8 harg8 x7 1 inb_S2x256_S1x256_1_0)
/-- Slot 0's rows of `a2 · xᵀ`. -/
theorem keep_h0 : kernelRun0_C.sl.r_4 c arg2 harg2 arg5 harg5 arg8 harg8 x1 x4 x7 = hjOf x1 x4 (row x7 0) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 0 inb_S2x256_S1x256_0_0))
/-- Slot 1's rows of `a2 · xᵀ`. -/
theorem keep_h1 : kernelRun0_C.sl.r_5 c arg2 harg2 arg5 harg5 arg8 harg8 x1 x4 x7 = hjOf x1 x4 (row x7 1) :=
  (congrArg₂ (fun a b => hjOf a b _) (load_whole arg2 harg2 x1 inb_S256x896_S256x896_0_0) (load_whole arg5 harg5 x4 inb_S128x896_S128x896_0_0)).trans (congrArg (hjOf x1 x4) (load_row arg8 harg8 x7 1 inb_S2x256_S1x256_1_0))
/-- Slot 0's gates. -/
theorem keep_g0 : kernelRun0_C.sl.r_6 c arg10 harg10 x9 = col x9 0 := load_col arg10 harg10 x9 0 inb_S256x2_S256x1_0_0
/-- Slot 1's gates. -/
theorem keep_g1 : kernelRun0_C.sl.r_7 c arg10 harg10 x9 = col x9 1 := load_col arg10 harg10 x9 1 inb_S256x2_S256x1_0_1
/-- `bt · dyᵀ`. -/
theorem keep_ut : kernelRun0_C.sl.r_217 c arg3 harg3 arg7 harg7 x2 x6 = utOf x6 x2 := congrArg₂ utOf (load_whole arg7 harg7 x6 inb_S128x4864_S128x4864_0_0) (load_whole arg3 harg3 x2 inb_S256x4864_S256x4864_0_0)
/-- Slot 0's gated rows of `bt · dyᵀ`. -/
theorem keep_gu : kernelRun0_C.sl.r_218 c arg3 harg3 arg7 harg7 arg8 harg8 arg9 harg9 x2 x6 x7 x8 = guOf x6 x2 (row x7 0) (row x8 0) :=
  (congrArg₂ (fun a b => guOf a b _ _) (load_whole arg7 harg7 x6 inb_S128x4864_S128x4864_0_0) (load_whole arg3 harg3 x2 inb_S256x4864_S256x4864_0_0)).trans
    (congrArg₂ (guOf x6 x2) (load_row arg8 harg8 x7 0 inb_S2x256_S1x256_0_0) (load_row arg9 harg9 x8 0 inb_S2x256_S1x256_0_0))
/-- The groups' scales on their lanes. -/
theorem keep_scale : kernelRun0_C.sl.r_214 c arg3 harg3 x2 = scaleLanes (fun g _ => cols 128 x2 g) 38 (Nat.le_refl _) := by
  have e : ∀ (f f' : (g : ℕ) → g < 38 → Vec F S256x128 .bf16), f = f' → scaleLanes f 38 (Nat.le_refl _) = scaleLanes f' 38 (Nat.le_refl _) :=
    fun f f' h => congrArg (fun f => scaleLanes f 38 (Nat.le_refl _)) h
  refine Eq.trans ?_ (e _ _ (funext fun g => funext fun hg => load_cols 128 arg3 harg3 x2 (128 * g) g rfl
    (fun a => match a with | ⟨0, _⟩ => (by decide : 0 + 256 ≤ 256) | ⟨1, _⟩ => (by omega : 128 * g + 128 ≤ 4864))))
  rfl
/-- The coded and scaled back block, as the stores leave it. -/
theorem keep_dyw : ∀ y, View.canon (kernelRun0_C.sl.HS1_38 c arg3 harg3 x2) y = dywBlk x2 y := by
  intro y
  refine View.canon_apply_of_pieces (dywBlk x2) _ ?_ y (View.cover_of_tiledL (kernelRun0_C.sl.HS1_38 c arg3 harg3 x2) S256x128.size (by sl_kernel_rfl) y)
  refine List.forall_mem_cons.2 ⟨fun x => cols_piece 128 (by decide) dywOf arg3 harg3 x2 4736 37 rfl inb_S256x4864_S256x128_0_4736 inb_S256x4864_S256x128_0_4736 x, ?_⟩
  refine List.forall_mem_cons.2 ⟨fun x => cols_piece 128 (by decide) dywOf arg3 harg3 x2 4608 36 rfl inb_S256x4864_S256x128_0_4608 inb_S256x4864_S256x128_0_4608 x, ?_⟩
  refine List.forall_mem_cons.2 ⟨fun x => cols_piece 128 (by decide) dywOf arg3 harg3 x2 4480 35 rfl inb_S256x4864_S256x128_0_4480 inb_S256x4864_S256x128_0_4480 x, ?_⟩
  refine List.forall_mem_cons.2 ⟨fun x => cols_piece 128 (by decide) dywOf arg3 harg3 x2 4352 34 rfl inb_S256x4864_S256x128_0_4352 inb_S256x4864_S256x128_0_4352 x, ?_⟩
  refine List.forall_mem_cons.2 ⟨fun x => cols_piece 128 (by decide) dywOf arg3 harg3 x2 4224 33 rfl inb_S256x4864_S256x128_0_4224 inb_S256x4864_S256x128_0_4224 x, ?_⟩
  refine List.forall_mem_cons.2 ⟨fun x => cols_piece 128 (by decide) dywOf arg3 harg3 x2 4096 32 rfl inb_S256x4864_S256x128_0_4096 inb_S256x4864_S256x128_0_4096 x, ?_⟩
  refine List.forall_mem_cons.2 ⟨fun x => cols_piece 128 (by decide) dywOf arg3 harg3 x2 3968 31 rfl inb_S256x4864_S256x128_0_3968 inb_S256x4864_S256x128_0_3968 x, ?_⟩
  refine List.forall_mem_cons.2 ⟨fun x => cols_piece 128 (by decide) dywOf arg3 harg3 x2 3840 30 rfl inb_S256x4864_S256x128_0_3840 inb_S256x4864_S256x128_0_3840 x, ?_⟩
  refine List.forall_mem_cons.2 ⟨fun x => cols_piece 128 (by decide) dywOf arg3 harg3 x2 3712 29 rfl inb_S256x4864_S256x128_0_3712 inb_S256x4864_S256x128_0_3712 x, ?_⟩
  refine List.forall_mem_cons.2 ⟨fun x => cols_piece 128 (by decide) dywOf arg3 harg3 x2 3584 28 rfl inb_S256x4864_S256x128_0_3584 inb_S256x4864_S256x128_0_3584 x, ?_⟩
  refine List.forall_mem_cons.2 ⟨fun x => cols_piece 128 (by decide) dywOf arg3 harg3 x2 3456 27 rfl inb_S256x4864_S256x128_0_3456 inb_S256x4864_S256x128_0_3456 x, ?_⟩
  refine List.forall_mem_cons.2 ⟨fun x => cols_piece 128 (by decide) dywOf arg3 harg3 x2 3328 26 rfl inb_S256x4864_S256x128_0_3328 inb_S256x4864_S256x128_0_3328 x, ?_⟩
  refine List.forall_mem_cons.2 ⟨fun x => cols_piece 128 (by decide) dywOf arg3 harg3 x2 3200 25 rfl inb_S256x4864_S256x128_0_3200 inb_S256x4864_S256x128_0_3200 x, ?_⟩
  refine List.forall_mem_cons.2 ⟨fun x => cols_piece 128 (by decide) dywOf arg3 harg3 x2 3072 24 rfl inb_S256x4864_S256x128_0_3072 inb_S256x4864_S256x128_0_3072 x, ?_⟩
  refine List.forall_mem_cons.2 ⟨fun x => cols_piece 128 (by decide) dywOf arg3 harg3 x2 2944 23 rfl inb_S256x4864_S256x128_0_2944 inb_S256x4864_S256x128_0_2944 x, ?_⟩
  refine List.forall_mem_cons.2 ⟨fun x => cols_piece 128 (by decide) dywOf arg3 harg3 x2 2816 22 rfl inb_S256x4864_S256x128_0_2816 inb_S256x4864_S256x128_0_2816 x, ?_⟩
  refine List.forall_mem_cons.2 ⟨fun x => cols_piece 128 (by decide) dywOf arg3 harg3 x2 2688 21 rfl inb_S256x4864_S256x128_0_2688 inb_S256x4864_S256x128_0_2688 x, ?_⟩
  refine List.forall_mem_cons.2 ⟨fun x => cols_piece 128 (by decide) dywOf arg3 harg3 x2 2560 20 rfl inb_S256x4864_S256x128_0_2560 inb_S256x4864_S256x128_0_2560 x, ?_⟩
  refine List.forall_mem_cons.2 ⟨fun x => cols_piece 128 (by decide) dywOf arg3 harg3 x2 2432 19 rfl inb_S256x4864_S256x128_0_2432 inb_S256x4864_S256x128_0_2432 x, ?_⟩
  refine List.forall_mem_cons.2 ⟨fun x => cols_piece 128 (by decide) dywOf arg3 harg3 x2 2304 18 rfl inb_S256x4864_S256x128_0_2304 inb_S256x4864_S256x128_0_2304 x, ?_⟩
  refine List.forall_mem_cons.2 ⟨fun x => cols_piece 128 (by decide) dywOf arg3 harg3 x2 2176 17 rfl inb_S256x4864_S256x128_0_2176 inb_S256x4864_S256x128_0_2176 x, ?_⟩
  refine List.forall_mem_cons.2 ⟨fun x => cols_piece 128 (by decide) dywOf arg3 harg3 x2 2048 16 rfl inb_S256x4864_S256x128_0_2048 inb_S256x4864_S256x128_0_2048 x, ?_⟩
  refine List.forall_mem_cons.2 ⟨fun x => cols_piece 128 (by decide) dywOf arg3 harg3 x2 1920 15 rfl inb_S256x4864_S256x128_0_1920 inb_S256x4864_S256x128_0_1920 x, ?_⟩
  refine List.forall_mem_cons.2 ⟨fun x => cols_piece 128 (by decide) dywOf arg3 harg3 x2 1792 14 rfl inb_S256x4864_S256x128_0_1792 inb_S256x4864_S256x128_0_1792 x, ?_⟩
  refine List.forall_mem_cons.2 ⟨fun x => cols_piece 128 (by decide) dywOf arg3 harg3 x2 1664 13 rfl inb_S256x4864_S256x128_0_1664 inb_S256x4864_S256x128_0_1664 x, ?_⟩
  refine List.forall_mem_cons.2 ⟨fun x => cols_piece 128 (by decide) dywOf arg3 harg3 x2 1536 12 rfl inb_S256x4864_S256x128_0_1536 inb_S256x4864_S256x128_0_1536 x, ?_⟩
  refine List.forall_mem_cons.2 ⟨fun x => cols_piece 128 (by decide) dywOf arg3 harg3 x2 1408 11 rfl inb_S256x4864_S256x128_0_1408 inb_S256x4864_S256x128_0_1408 x, ?_⟩
  refine List.forall_mem_cons.2 ⟨fun x => cols_piece 128 (by decide) dywOf arg3 harg3 x2 1280 10 rfl inb_S256x4864_S256x128_0_1280 inb_S256x4864_S256x128_0_1280 x, ?_⟩
  refine List.forall_mem_cons.2 ⟨fun x => cols_piece 128 (by decide) dywOf arg3 harg3 x2 1152 9 rfl inb_S256x4864_S256x128_0_1152 inb_S256x4864_S256x128_0_1152 x, ?_⟩
  refine List.forall_mem_cons.2 ⟨fun x => cols_piece 128 (by decide) dywOf arg3 harg3 x2 1024 8 rfl inb_S256x4864_S256x128_0_1024 inb_S256x4864_S256x128_0_1024 x, ?_⟩
  refine List.forall_mem_cons.2 ⟨fun x => cols_piece 128 (by decide) dywOf arg3 harg3 x2 896 7 rfl inb_S256x4864_S256x128_0_896 inb_S256x4864_S256x128_0_896 x, ?_⟩
  refine List.forall_mem_cons.2 ⟨fun x => cols_piece 128 (by decide) dywOf arg3 harg3 x2 768 6 rfl inb_S256x4864_S256x128_0_768 inb_S256x4864_S256x128_0_768 x, ?_⟩
  refine List.forall_mem_cons.2 ⟨fun x => cols_piece 128 (by decide) dywOf arg3 harg3 x2 640 5 rfl inb_S256x4864_S256x128_0_640 inb_S256x4864_S256x128_0_640 x, ?_⟩
  refine List.forall_mem_cons.2 ⟨fun x => cols_piece 128 (by decide) dywOf arg3 harg3 x2 512 4 rfl inb_S256x4864_S256x128_0_512 inb_S256x4864_S256x128_0_512 x, ?_⟩
  refine List.forall_mem_cons.2 ⟨fun x => cols_piece 128 (by decide) dywOf arg3 harg3 x2 384 3 rfl inb_S256x4864_S256x128_0_384 inb_S256x4864_S256x128_0_384 x, ?_⟩
  refine List.forall_mem_cons.2 ⟨fun x => cols_piece 128 (by decide) dywOf arg3 harg3 x2 256 2 rfl inb_S256x4864_S256x128_0_256 inb_S256x4864_S256x128_0_256 x, ?_⟩
  refine List.forall_mem_cons.2 ⟨fun x => cols_piece 128 (by decide) dywOf arg3 harg3 x2 128 1 rfl inb_S256x4864_S256x128_0_128 inb_S256x4864_S256x128_0_128 x, ?_⟩
  refine List.forall_mem_cons.2 ⟨fun x => cols_piece 128 (by decide) dywOf arg3 harg3 x2 0 0 rfl inb_S256x4864_S256x128_0_0 inb_S256x4864_S256x128_0_0 x, ?_⟩
  exact fun p hp => absurd hp List.not_mem_nil
theorem keep_dyw' : kernelRun0_C.sl.v3019 c arg3 harg3 arg18 x2 = dywBlk x2 := read_whole arg18 _ _ (keep_dyw c arg3 harg3 x2) inb_S256x4864_S256x4864_0_0

/-! ## The windows -/

/-- The codes of `dy`. -/
theorem codes : out0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = codesBlk x2 := by
  unfold out0_C_14
  rw [View.read_writes_junk_eq_canon]
  funext y
  refine View.canon_apply_of_pieces (codesBlk x2) _ ?_ y (cover0_C_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 y)
  refine List.forall_mem_cons.2 ⟨fun x => cols_piece 128 (by decide) codesOf arg3 harg3 x2 4736 37 rfl inb_S256x4864_S256x128_0_4736 inb_S256x4864_S256x128_0_4736 x, ?_⟩
  refine List.forall_mem_cons.2 ⟨fun x => cols_piece 128 (by decide) codesOf arg3 harg3 x2 4608 36 rfl inb_S256x4864_S256x128_0_4608 inb_S256x4864_S256x128_0_4608 x, ?_⟩
  refine List.forall_mem_cons.2 ⟨fun x => cols_piece 128 (by decide) codesOf arg3 harg3 x2 4480 35 rfl inb_S256x4864_S256x128_0_4480 inb_S256x4864_S256x128_0_4480 x, ?_⟩
  refine List.forall_mem_cons.2 ⟨fun x => cols_piece 128 (by decide) codesOf arg3 harg3 x2 4352 34 rfl inb_S256x4864_S256x128_0_4352 inb_S256x4864_S256x128_0_4352 x, ?_⟩
  refine List.forall_mem_cons.2 ⟨fun x => cols_piece 128 (by decide) codesOf arg3 harg3 x2 4224 33 rfl inb_S256x4864_S256x128_0_4224 inb_S256x4864_S256x128_0_4224 x, ?_⟩
  refine List.forall_mem_cons.2 ⟨fun x => cols_piece 128 (by decide) codesOf arg3 harg3 x2 4096 32 rfl inb_S256x4864_S256x128_0_4096 inb_S256x4864_S256x128_0_4096 x, ?_⟩
  refine List.forall_mem_cons.2 ⟨fun x => cols_piece 128 (by decide) codesOf arg3 harg3 x2 3968 31 rfl inb_S256x4864_S256x128_0_3968 inb_S256x4864_S256x128_0_3968 x, ?_⟩
  refine List.forall_mem_cons.2 ⟨fun x => cols_piece 128 (by decide) codesOf arg3 harg3 x2 3840 30 rfl inb_S256x4864_S256x128_0_3840 inb_S256x4864_S256x128_0_3840 x, ?_⟩
  refine List.forall_mem_cons.2 ⟨fun x => cols_piece 128 (by decide) codesOf arg3 harg3 x2 3712 29 rfl inb_S256x4864_S256x128_0_3712 inb_S256x4864_S256x128_0_3712 x, ?_⟩
  refine List.forall_mem_cons.2 ⟨fun x => cols_piece 128 (by decide) codesOf arg3 harg3 x2 3584 28 rfl inb_S256x4864_S256x128_0_3584 inb_S256x4864_S256x128_0_3584 x, ?_⟩
  refine List.forall_mem_cons.2 ⟨fun x => cols_piece 128 (by decide) codesOf arg3 harg3 x2 3456 27 rfl inb_S256x4864_S256x128_0_3456 inb_S256x4864_S256x128_0_3456 x, ?_⟩
  refine List.forall_mem_cons.2 ⟨fun x => cols_piece 128 (by decide) codesOf arg3 harg3 x2 3328 26 rfl inb_S256x4864_S256x128_0_3328 inb_S256x4864_S256x128_0_3328 x, ?_⟩
  refine List.forall_mem_cons.2 ⟨fun x => cols_piece 128 (by decide) codesOf arg3 harg3 x2 3200 25 rfl inb_S256x4864_S256x128_0_3200 inb_S256x4864_S256x128_0_3200 x, ?_⟩
  refine List.forall_mem_cons.2 ⟨fun x => cols_piece 128 (by decide) codesOf arg3 harg3 x2 3072 24 rfl inb_S256x4864_S256x128_0_3072 inb_S256x4864_S256x128_0_3072 x, ?_⟩
  refine List.forall_mem_cons.2 ⟨fun x => cols_piece 128 (by decide) codesOf arg3 harg3 x2 2944 23 rfl inb_S256x4864_S256x128_0_2944 inb_S256x4864_S256x128_0_2944 x, ?_⟩
  refine List.forall_mem_cons.2 ⟨fun x => cols_piece 128 (by decide) codesOf arg3 harg3 x2 2816 22 rfl inb_S256x4864_S256x128_0_2816 inb_S256x4864_S256x128_0_2816 x, ?_⟩
  refine List.forall_mem_cons.2 ⟨fun x => cols_piece 128 (by decide) codesOf arg3 harg3 x2 2688 21 rfl inb_S256x4864_S256x128_0_2688 inb_S256x4864_S256x128_0_2688 x, ?_⟩
  refine List.forall_mem_cons.2 ⟨fun x => cols_piece 128 (by decide) codesOf arg3 harg3 x2 2560 20 rfl inb_S256x4864_S256x128_0_2560 inb_S256x4864_S256x128_0_2560 x, ?_⟩
  refine List.forall_mem_cons.2 ⟨fun x => cols_piece 128 (by decide) codesOf arg3 harg3 x2 2432 19 rfl inb_S256x4864_S256x128_0_2432 inb_S256x4864_S256x128_0_2432 x, ?_⟩
  refine List.forall_mem_cons.2 ⟨fun x => cols_piece 128 (by decide) codesOf arg3 harg3 x2 2304 18 rfl inb_S256x4864_S256x128_0_2304 inb_S256x4864_S256x128_0_2304 x, ?_⟩
  refine List.forall_mem_cons.2 ⟨fun x => cols_piece 128 (by decide) codesOf arg3 harg3 x2 2176 17 rfl inb_S256x4864_S256x128_0_2176 inb_S256x4864_S256x128_0_2176 x, ?_⟩
  refine List.forall_mem_cons.2 ⟨fun x => cols_piece 128 (by decide) codesOf arg3 harg3 x2 2048 16 rfl inb_S256x4864_S256x128_0_2048 inb_S256x4864_S256x128_0_2048 x, ?_⟩
  refine List.forall_mem_cons.2 ⟨fun x => cols_piece 128 (by decide) codesOf arg3 harg3 x2 1920 15 rfl inb_S256x4864_S256x128_0_1920 inb_S256x4864_S256x128_0_1920 x, ?_⟩
  refine List.forall_mem_cons.2 ⟨fun x => cols_piece 128 (by decide) codesOf arg3 harg3 x2 1792 14 rfl inb_S256x4864_S256x128_0_1792 inb_S256x4864_S256x128_0_1792 x, ?_⟩
  refine List.forall_mem_cons.2 ⟨fun x => cols_piece 128 (by decide) codesOf arg3 harg3 x2 1664 13 rfl inb_S256x4864_S256x128_0_1664 inb_S256x4864_S256x128_0_1664 x, ?_⟩
  refine List.forall_mem_cons.2 ⟨fun x => cols_piece 128 (by decide) codesOf arg3 harg3 x2 1536 12 rfl inb_S256x4864_S256x128_0_1536 inb_S256x4864_S256x128_0_1536 x, ?_⟩
  refine List.forall_mem_cons.2 ⟨fun x => cols_piece 128 (by decide) codesOf arg3 harg3 x2 1408 11 rfl inb_S256x4864_S256x128_0_1408 inb_S256x4864_S256x128_0_1408 x, ?_⟩
  refine List.forall_mem_cons.2 ⟨fun x => cols_piece 128 (by decide) codesOf arg3 harg3 x2 1280 10 rfl inb_S256x4864_S256x128_0_1280 inb_S256x4864_S256x128_0_1280 x, ?_⟩
  refine List.forall_mem_cons.2 ⟨fun x => cols_piece 128 (by decide) codesOf arg3 harg3 x2 1152 9 rfl inb_S256x4864_S256x128_0_1152 inb_S256x4864_S256x128_0_1152 x, ?_⟩
  refine List.forall_mem_cons.2 ⟨fun x => cols_piece 128 (by decide) codesOf arg3 harg3 x2 1024 8 rfl inb_S256x4864_S256x128_0_1024 inb_S256x4864_S256x128_0_1024 x, ?_⟩
  refine List.forall_mem_cons.2 ⟨fun x => cols_piece 128 (by decide) codesOf arg3 harg3 x2 896 7 rfl inb_S256x4864_S256x128_0_896 inb_S256x4864_S256x128_0_896 x, ?_⟩
  refine List.forall_mem_cons.2 ⟨fun x => cols_piece 128 (by decide) codesOf arg3 harg3 x2 768 6 rfl inb_S256x4864_S256x128_0_768 inb_S256x4864_S256x128_0_768 x, ?_⟩
  refine List.forall_mem_cons.2 ⟨fun x => cols_piece 128 (by decide) codesOf arg3 harg3 x2 640 5 rfl inb_S256x4864_S256x128_0_640 inb_S256x4864_S256x128_0_640 x, ?_⟩
  refine List.forall_mem_cons.2 ⟨fun x => cols_piece 128 (by decide) codesOf arg3 harg3 x2 512 4 rfl inb_S256x4864_S256x128_0_512 inb_S256x4864_S256x128_0_512 x, ?_⟩
  refine List.forall_mem_cons.2 ⟨fun x => cols_piece 128 (by decide) codesOf arg3 harg3 x2 384 3 rfl inb_S256x4864_S256x128_0_384 inb_S256x4864_S256x128_0_384 x, ?_⟩
  refine List.forall_mem_cons.2 ⟨fun x => cols_piece 128 (by decide) codesOf arg3 harg3 x2 256 2 rfl inb_S256x4864_S256x128_0_256 inb_S256x4864_S256x128_0_256 x, ?_⟩
  refine List.forall_mem_cons.2 ⟨fun x => cols_piece 128 (by decide) codesOf arg3 harg3 x2 128 1 rfl inb_S256x4864_S256x128_0_128 inb_S256x4864_S256x128_0_128 x, ?_⟩
  refine List.forall_mem_cons.2 ⟨fun x => cols_piece 128 (by decide) codesOf arg3 harg3 x2 0 0 rfl inb_S256x4864_S256x128_0_0 inb_S256x4864_S256x128_0_0 x, ?_⟩
  exact fun p hp => absurd hp List.not_mem_nil

/-- The scales of `dy`. -/
theorem scale : out0_C_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = scaleBlk x2 := by
  unfold out0_C_15
  rw [View.read_writes_junk_eq_canon]
  exact (canon_whole .f32 (k0_pay694 (kernelRun0_C.sl.r_214 c arg3 harg3 x2)) [] inb_S256x38_S256x38_0_0).trans (congrArg k0_pay694 (keep_scale c arg3 harg3 x2))

/-- The gradient of the gates. -/
theorem dgate : out0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dgateBlk x1 x2 x4 x6 x7 := by
  unfold out0_C_13
  rw [View.read_writes_junk_eq_canon]
  funext y
  refine View.canon_apply_of_pieces (dgateBlk x1 x2 x4 x6 x7) _ ?_ y (cover0_C_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 y)
  have e1 : k0_pay700 (kernelRun0_C.sl.r_219 c arg2 harg2 arg3 harg3 arg5 harg5 arg7 harg7 arg8 harg8 x1 x2 x4 x6 x7) = dgateRow x1 x2 x4 x6 (row x7 1) := by
    refine Eq.trans (b := k0_pay697 (kernelRun0_C.sl.r_1 c arg2 harg2 arg5 harg5 x1 x4) (kernelRun0_C.sl.r_3 c arg8 harg8 x7) _ _) rfl ?_
    rw [keep_ht, keep_mask1]
    exact congrArg₂ (k0_pay697 _ _) (load_whole arg7 harg7 x6 inb_S128x4864_S128x4864_0_0) (load_whole arg3 harg3 x2 inb_S256x4864_S256x4864_0_0)
  have e0 : ∀ x, k0_pay697 (kernelRun0_C.sl.r_1 c arg2 harg2 arg5 harg5 x1 x4) (kernelRun0_C.sl.r_2 c arg8 harg8 x7)
      (View.readAt (Elt F) arg7.view (Rect.unit ![0, 0] S128x4864.size inb_S128x4864_S128x4864_0_0).toLoadRect (harg7.unread x6))
      (View.readAt (Elt F) arg3.view (Rect.unit ![0, 0] S256x4864.size inb_S256x4864_S256x4864_0_0).toLoadRect (harg3.unread x2)) x
      = dgateRow x1 x2 x4 x6 (row x7 0) x := by
    intro x
    rw [keep_ht, keep_mask0]
    exact congrFun (congrArg₂ (k0_pay697 _ _) (load_whole arg7 harg7 x6 inb_S128x4864_S128x4864_0_0) (load_whole arg3 harg3 x2 inb_S256x4864_S256x4864_0_0)) x
  refine List.forall_mem_cons.2 ⟨fun x => (congrFun e1 x).trans (dgate_emb x1 x2 x4 x6 x7 1 inb_S2x256_S1x256_1_0 x), ?_⟩
  refine List.forall_mem_cons.2 ⟨fun x => (e0 x).trans (dgate_emb x1 x2 x4 x6 x7 0 inb_S2x256_S1x256_0_0 x), ?_⟩
  exact fun p hp => absurd hp List.not_mem_nil

/-- The gradient of `x`. -/
theorem dx : out0_C_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dxBlk (xs0) x2 x5 x6 x7 x8 := by
  unfold out0_C_10
  rw [View.read_writes_junk_eq_canon]
  refine (canon_whole .bf16 (k0_pay703 (kernelRun0_C.sl.r_3 c arg8 harg8 x7) (kernelRun0_C.sl.r_217 c arg3 harg3 arg7 harg7 x2 x6) (kernelRun0_C.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg17.view (Rect.unit ![0, 0] S896x4864.size inb_S896x4864_S896x4864_0_0).toLoadRect (harg17.unread xs0))
    (kernelRun0_C.sl.v3019 c arg3 harg3 arg18 x2) (View.readAt (Elt F) arg6.view (Rect.unit ![0, 0] S896x128.size inb_S896x128_S896x128_0_0).toLoadRect (harg6.unread x5)) (View.readAt (Elt F) arg6.view (Rect.unit ![0, 0] S896x128.size inb_S896x128_S896x128_0_0).toLoadRect (harg6.unread x5))) [] inb_S256x896_S256x896_0_0).trans ?_
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (View.readAt (Elt F) arg17.view (Rect.unit ![0, 0] S896x4864.size inb_S896x4864_S896x4864_0_0).toLoadRect (harg17.unread xs0)) = xs0 := load_whole arg17 harg17 xs0 inb_S896x4864_S896x4864_0_0
  have e3 : (View.readAt (Elt F) arg6.view (Rect.unit ![0, 0] S896x128.size inb_S896x128_S896x128_0_0).toLoadRect (harg6.unread x5)) = x5 := load_whole arg6 harg6 x5 inb_S896x128_S896x128_0_0
  rw [keep_mask1, keep_ut, keep_gu, keep_dyw', e1, e2, e3]
  rfl

/-- The gradient of `A` after the step. -/
theorem keep_da : k0_pay702 (kernelRun0_C.sl.r c arg2 harg2 x1) (kernelRun0_C.sl.r_3 c arg8 harg8 x7) (kernelRun0_C.sl.r_217 c arg3 harg3 arg7 harg7 x2 x6) (kernelRun0_C.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg20.view (Rect.unit ![0, 0] S128x896.size inb_S128x896_S128x896_0_0).toLoadRect (harg20.unread xs3)) = daStep x1 x2 x6 x7 x8 (xs3) := by
  have e1 : (View.readAt (Elt F) arg9.view (Rect.unit (s := S2x256) ![1, 0] S1x256.size inb_S2x256_S1x256_1_0).toLoadRect (harg9.unread x8)) = row x8 1 := load_row arg9 harg9 x8 1 inb_S2x256_S1x256_1_0
  have e2 : (View.readAt (Elt F) arg20.view (Rect.unit ![0, 0] S128x896.size inb_S128x896_S128x896_0_0).toLoadRect (harg20.unread xs3)) = xs3 := load_whole arg20 harg20 xs3 inb_S128x896_S128x896_0_0
  rw [keep_x, keep_mask1, keep_ut, keep_gu, e1, e2]
  rfl
/-- The gradient of `A` after the step. -/
theorem da : sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = daStep x1 x2 x6 x7 x8 (xs3) := by
  unfold sout0_C_3
  rw [View.read_writes_junk_eq_canon]
  exact (canon_whole .f32 (k0_pay702 (kernelRun0_C.sl.r c arg2 harg2 x1) (kernelRun0_C.sl.r_3 c arg8 harg8 x7) (kernelRun0_C.sl.r_217 c arg3 harg3 arg7 harg7 x2 x6) (kernelRun0_C.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg20.view (Rect.unit ![0, 0] S128x896.size inb_S128x896_S128x896_0_0).toLoadRect (harg20.unread xs3))) ([]) inb_S128x896_S128x896_0_0).trans (keep_da c arg2 harg2 arg3 harg3 arg7 harg7 arg8 harg8 arg9 harg9 arg20 harg20 x1 x2 x6 x7 x8 xs3)

/-- The gradient of `B` after the step, as the stores leave it. -/
theorem keep_db : ∀ y, View.canon (kernelRun0_C.sl.HS2_19 c arg2 harg2 arg3 harg3 arg5 harg5 arg8 harg8 arg10 harg10 arg19 harg19 x1 x2 x4 x7 x9 xs2) y = dbStep x1 x2 x4 x7 x9 xs2 y := by
  intro y
  have e : dbStep x1 x2 x4 x7 x9 xs2 = side 256 (by decide) fun k => (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) (cols 256 x2 k) (cols 256 xs2 k) := by
    rw [keep_h0, keep_h1, keep_g0, keep_g1]; rfl
  rw [e]
  refine View.canon_apply_of_pieces (side 256 (by decide) fun k => (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) (cols 256 x2 k) (cols 256 xs2 k)) (kernelRun0_C.sl.HS2_19 c arg2 harg2 arg3 harg3 arg5 harg5 arg8 harg8 arg10 harg10 arg19 harg19 x1 x2 x4 x7 x9 xs2) ?_ y (View.cover_of_tiledL (kernelRun0_C.sl.HS2_19 c arg2 harg2 arg3 harg3 arg5 harg5 arg8 harg8 arg10 harg10 arg19 harg19 x1 x2 x4 x7 x9 xs2) S128x256.size (by sl_kernel_rfl) y)
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 4608 18 rfl inb_S256x4864_S256x256_0_4608 inb_S128x4864_S128x256_0_4608 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 4352 17 rfl inb_S256x4864_S256x256_0_4352 inb_S128x4864_S128x256_0_4352 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 4096 16 rfl inb_S256x4864_S256x256_0_4096 inb_S128x4864_S128x256_0_4096 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 3840 15 rfl inb_S256x4864_S256x256_0_3840 inb_S128x4864_S128x256_0_3840 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 3584 14 rfl inb_S256x4864_S256x256_0_3584 inb_S128x4864_S128x256_0_3584 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 3328 13 rfl inb_S256x4864_S256x256_0_3328 inb_S128x4864_S128x256_0_3328 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 3072 12 rfl inb_S256x4864_S256x256_0_3072 inb_S128x4864_S128x256_0_3072 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 2816 11 rfl inb_S256x4864_S256x256_0_2816 inb_S128x4864_S128x256_0_2816 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 2560 10 rfl inb_S256x4864_S256x256_0_2560 inb_S128x4864_S128x256_0_2560 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 2304 9 rfl inb_S256x4864_S256x256_0_2304 inb_S128x4864_S128x256_0_2304 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 2048 8 rfl inb_S256x4864_S256x256_0_2048 inb_S128x4864_S128x256_0_2048 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 1792 7 rfl inb_S256x4864_S256x256_0_1792 inb_S128x4864_S128x256_0_1792 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 1536 6 rfl inb_S256x4864_S256x256_0_1536 inb_S128x4864_S128x256_0_1536 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 1280 5 rfl inb_S256x4864_S256x256_0_1280 inb_S128x4864_S128x256_0_1280 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 1024 4 rfl inb_S256x4864_S256x256_0_1024 inb_S128x4864_S128x256_0_1024 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 768 3 rfl inb_S256x4864_S256x256_0_768 inb_S128x4864_S128x256_0_768 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 512 2 rfl inb_S256x4864_S256x256_0_512 inb_S128x4864_S128x256_0_512 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 256 1 rfl inb_S256x4864_S256x256_0_256 inb_S128x4864_S128x256_0_256 x, ?_⟩
  refine List.forall_mem_cons.2 ⟨fun x => cols_piece₂ (k0_pay355 (kernelRun0_C.sl.r_4 c arg2 harg2 arg5 harg5 arg8 harg8 x1 x4 x7) (kernelRun0_C.sl.r_5 c arg2 harg2 arg5 harg5 arg8 harg8 x1 x4 x7) (kernelRun0_C.sl.r_6 c arg10 harg10 x9) (kernelRun0_C.sl.r_7 c arg10 harg10 x9)) arg3 harg3 x2 arg19 harg19 xs2 0 0 rfl inb_S256x4864_S256x256_0_0 inb_S128x4864_S128x256_0_0 x, ?_⟩
  exact fun p hp => absurd hp List.not_mem_nil

/-- The gradient of `B` after the step. -/
theorem db : sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = dbStep x1 x2 x4 x7 x9 xs2 := by
  unfold sout0_C_2
  rw [View.read_writes_junk_eq_canon]
  exact funext (keep_db c arg2 harg2 arg3 harg3 arg5 harg5 arg8 harg8 arg10 harg10 arg19 harg19 x1 x2 x4 x7 x9 xs2)

/-- The gradient of `B`, as the last step hands it out. -/
theorem dbOut : out0_C_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = k0_pay1 (dbStep x1 x2 x4 x7 x9 xs2) := by
  unfold out0_C_12
  rw [View.read_writes_junk_eq_canon]
  refine (canon_whole .f32 (k0_pay1 (kernelRun0_C.sl.v3037 c arg2 harg2 arg3 harg3 arg5 harg5 arg8 harg8 arg10 harg10 arg19 harg19 x1 x2 x4 x7 x9 xs2)) [] inb_S128x4864_S128x4864_0_0).trans ?_
  exact congrArg k0_pay1 (read_whole arg19 _ _ (keep_db c arg2 harg2 arg3 harg3 arg5 harg5 arg8 harg8 arg10 harg10 arg19 harg19 x1 x2 x4 x7 x9 xs2) inb_S128x4864_S128x4864_0_0)

/-- The gradient of `A`, as the last step hands it out. -/
theorem daOut : out0_C_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs2 xs3 = k0_pay2 (daStep x1 x2 x6 x7 x8 xs3) := by
  unfold out0_C_11
  rw [View.read_writes_junk_eq_canon]
  refine (canon_whole .f32 (k0_pay2 (kernelRun0_C.sl.v3041 c arg2 harg2 arg3 harg3 arg7 harg7 arg8 harg8 arg9 harg9 arg20 harg20 x1 x2 x6 x7 x8 xs3)) [] inb_S128x896_S128x896_0_0).trans ?_
  refine congrArg k0_pay2 (read_whole arg20 _ _ (fun y => ?_) inb_S128x896_S128x896_0_0)
  exact congrFun ((canon_whole .f32 (k0_pay702 (kernelRun0_C.sl.r c arg2 harg2 x1) (kernelRun0_C.sl.r_3 c arg8 harg8 x7) (kernelRun0_C.sl.r_217 c arg3 harg3 arg7 harg7 x2 x6) (kernelRun0_C.sl.r_218 c arg3 harg3 arg7 harg7 arg8 harg8 arg9 harg9 x2 x6 x7 x8) (View.readAt (Elt F) arg9.view (Rect.unit (s := S2x256) ![1, 0] S1x256.size inb_S2x256_S1x256_1_0).toLoadRect (harg9.unread x8)) (View.readAt (Elt F) arg20.view (Rect.unit ![0, 0] S128x896.size inb_S128x896_S128x896_0_0).toLoadRect (harg20.unread xs3))) [] inb_S128x896_S128x896_0_0).trans (keep_da c arg2 harg2 arg3 harg3 arg7 harg7 arg8 harg8 arg9 harg9 arg20 harg20 x1 x2 x6 x7 x8 xs3)) y

end Cert.CaseC
-- ==== Proof.State.lean ====
/- What the arrays and the scratch arrays hold after each grid step, from the blocks the steps are given. -/
module

public import proofs.«01_k».proof.Proof.CaseASums
public import proofs.«01_k».proof.Proof.CaseB
public import proofs.«01_k».proof.Proof.CaseC
public import proofs.«01_k».proof.Proof.Gen.KernelIdeal.Value

@[expose] public section

noncomputable section

namespace Cert.State

open Cert.KernelIdeal Cert.KernelIdeal.Gen Cert.KernelIdeal.Value Cert.Block Idealize.ShloMosaic Idealize.ShloMosaic.TcCoe Idealize.ShloMosaic.ValueIdx

variable {F : FTy → Type} [FloatOps F]
variable (m : (ℓ : Loc nD τ sig) → Buf (Elt F) ℓ) (c : Dev nD)

/-! ## The blocks a step is given -/

abbrev b0 (t : Fin cfg0.N) : Vec F S38x7 .f32 := iblk m c 0 t
abbrev b1 (t : Fin cfg0.N) : Vec F S256x896 .bf16 := iblk m c 1 t
abbrev b2 (t : Fin cfg0.N) : Vec F S256x4864 .bf16 := iblk m c 2 t
abbrev b3 (t : Fin cfg0.N) : Vec F S4864x896 .fp8e4m3 := iblk m c 3 t
abbrev b4 (t : Fin cfg0.N) : Vec F S128x896 .bf16 := iblk m c 4 t
abbrev b5 (t : Fin cfg0.N) : Vec F S896x128 .bf16 := iblk m c 5 t
abbrev b6 (t : Fin cfg0.N) : Vec F S128x4864 .bf16 := iblk m c 6 t
abbrev b7 (t : Fin cfg0.N) : Vec F S2x256 .i32 := iblk m c 7 t
abbrev b8 (t : Fin cfg0.N) : Vec F S2x256 .f32 := iblk m c 8 t
abbrev b9 (t : Fin cfg0.N) : Vec F S256x2 .f32 := iblk m c 9 t

theorem N_pos : 0 < cfg0.N := lt_of_lt_of_eq (by decide) N_0.symm
/-- The first step. -/
abbrev t0 : Fin cfg0.N := ⟨0, N_pos⟩

/-- The dequantised weights of the first step. -/
def wt0 : Vec F S896x4864 .bf16 := wtBlk (b0 m c t0) (b3 m c t0)

/-- The running gradient of `B` after step `n`. -/
def dbAt : (n : ℕ) → n < cfg0.N → Vec F S128x4864 .f32
  | 0, h => dbStep (b1 m c ⟨0, h⟩) (b2 m c ⟨0, h⟩) (b4 m c ⟨0, h⟩) (b7 m c ⟨0, h⟩) (b9 m c ⟨0, h⟩) k0_pay330
  | n + 1, h => dbStep (b1 m c ⟨n + 1, h⟩) (b2 m c ⟨n + 1, h⟩) (b4 m c ⟨n + 1, h⟩) (b7 m c ⟨n + 1, h⟩) (b9 m c ⟨n + 1, h⟩)
      (dbAt n (Nat.lt_of_succ_lt h))

/-- The running gradient of `A` after step `n`. -/
def daAt : (n : ℕ) → n < cfg0.N → Vec F S128x896 .f32
  | 0, h => daStep (b1 m c ⟨0, h⟩) (b2 m c ⟨0, h⟩) (b6 m c ⟨0, h⟩) (b7 m c ⟨0, h⟩) (b8 m c ⟨0, h⟩) k0_pay331
  | n + 1, h => daStep (b1 m c ⟨n + 1, h⟩) (b2 m c ⟨n + 1, h⟩) (b6 m c ⟨n + 1, h⟩) (b7 m c ⟨n + 1, h⟩) (b8 m c ⟨n + 1, h⟩)
      (daAt n (Nat.lt_of_succ_lt h))

theorem mod6 {n : ℕ} (h : n + 1 < cfg0.N) : ¬(n + 1) % 6 = 0 := by
  have : n + 1 < 6 := lt_of_lt_of_eq h N_0
  omega

theorem first_ne_last : ¬ (0 % 6 = 5) := by decide

/-! ## The parts of what a step leaves -/

section Parts
variable {T1 T2 T3 T4 T5 T6 T7 T8 T9 : Type} {p : T1 × T2 × T3 × T4 × T5 × T6 × T7 × T8 × T9}
  {u1 : T1} {u2 : T2} {u3 : T3} {u4 : T4} {u5 : T5} {u6 : T6} {u7 : T7} {u8 : T8} {u9 : T9}
  (h : p = (u1, u2, u3, u4, u5, u6, u7, u8, u9))
include h
theorem get1 : p.1 = u1 := by subst h; rfl
theorem get2 : p.2.1 = u2 := by subst h; rfl
theorem get3 : p.2.2.1 = u3 := by subst h; rfl
theorem get4 : p.2.2.2.1 = u4 := by subst h; rfl
theorem get5 : p.2.2.2.2.1 = u5 := by subst h; rfl
theorem get6 : p.2.2.2.2.2.1 = u6 := by subst h; rfl
theorem get7 : p.2.2.2.2.2.2.1 = u7 := by subst h; rfl
theorem get8 : p.2.2.2.2.2.2.2.1 = u8 := by subst h; rfl
theorem get9 : p.2.2.2.2.2.2.2.2 = u9 := by subst h; rfl
end Parts

/-! ## The scratch arrays -/

/-- The weights stay as the first step dequantised them. -/
theorem wt_eq : ∀ (n : ℕ) (h : n < cfg0.N), (outsAt0 m c n h).2.2.2.2.2.2.1 = wt0 m c
  | 0, h => (get7 ((outsAt0_zero m c h).trans (stAt0_A m c ⟨0, h⟩ junk0 (Nat.zero_mod _) first_ne_last))).trans
      (CaseA.wt ..)
  | n + 1, h => by
      by_cases h5 : (n + 1) % 6 = 5
      · exact (get7 ((outsAt0_succ m c n h).trans (stAt0_C m c ⟨n + 1, h⟩ _ (mod6 h) h5))).trans
          (wt_eq n (Nat.lt_of_succ_lt h))
      · exact (get7 ((outsAt0_succ m c n h).trans (stAt0_B m c ⟨n + 1, h⟩ _ (mod6 h) h5))).trans
          (wt_eq n (Nat.lt_of_succ_lt h))

/-- The running gradient of `B`. -/
theorem db_eq : ∀ (n : ℕ) (h : n < cfg0.N), (outsAt0 m c n h).2.2.2.2.2.2.2.1 = dbAt m c n h
  | 0, h => (get8 ((outsAt0_zero m c h).trans (stAt0_A m c ⟨0, h⟩ junk0 (Nat.zero_mod _) first_ne_last))).trans
      (CaseA.db ..)
  | n + 1, h => by
      by_cases h5 : (n + 1) % 6 = 5
      · exact ((get8 ((outsAt0_succ m c n h).trans (stAt0_C m c ⟨n + 1, h⟩ _ (mod6 h) h5))).trans
          (CaseC.db ..)).trans (congrArg (dbStep _ _ _ _ _) (db_eq n (Nat.lt_of_succ_lt h)))
      · exact ((get8 ((outsAt0_succ m c n h).trans (stAt0_B m c ⟨n + 1, h⟩ _ (mod6 h) h5))).trans
          (CaseB.db ..)).trans (congrArg (dbStep _ _ _ _ _) (db_eq n (Nat.lt_of_succ_lt h)))

/-- The running gradient of `A`. -/
theorem da_eq : ∀ (n : ℕ) (h : n < cfg0.N), (outsAt0 m c n h).2.2.2.2.2.2.2.2 = daAt m c n h
  | 0, h => (get9 ((outsAt0_zero m c h).trans (stAt0_A m c ⟨0, h⟩ junk0 (Nat.zero_mod _) first_ne_last))).trans
      (CaseA.da ..)
  | n + 1, h => by
      by_cases h5 : (n + 1) % 6 = 5
      · exact ((get9 ((outsAt0_succ m c n h).trans (stAt0_C m c ⟨n + 1, h⟩ _ (mod6 h) h5))).trans
          (CaseC.da ..)).trans (congrArg (daStep _ _ _ _ _) (da_eq n (Nat.lt_of_succ_lt h)))
      · exact ((get9 ((outsAt0_succ m c n h).trans (stAt0_B m c ⟨n + 1, h⟩ _ (mod6 h) h5))).trans
          (CaseB.da ..)).trans (congrArg (daStep _ _ _ _ _) (da_eq n (Nat.lt_of_succ_lt h)))

/-! ## The windows -/

/-- The gradient of `x` of step `n`. -/
theorem dx_eq : ∀ (n : ℕ) (h : n < cfg0.N), (outsAt0 m c n h).1
    = dxBlk (wt0 m c) (b2 m c ⟨n, h⟩) (b5 m c ⟨n, h⟩) (b6 m c ⟨n, h⟩) (b7 m c ⟨n, h⟩) (b8 m c ⟨n, h⟩)
  | 0, h => (get1 ((outsAt0_zero m c h).trans (stAt0_A m c ⟨0, h⟩ junk0 (Nat.zero_mod _) first_ne_last))).trans
      (CaseA.dx ..)
  | n + 1, h => by
      by_cases h5 : (n + 1) % 6 = 5
      · exact ((get1 ((outsAt0_succ m c n h).trans (stAt0_C m c ⟨n + 1, h⟩ _ (mod6 h) h5))).trans
          (CaseC.dx ..)).trans (congrArg (fun w => dxBlk w _ _ _ _ _) (wt_eq m c n (Nat.lt_of_succ_lt h)))
      · exact ((get1 ((outsAt0_succ m c n h).trans (stAt0_B m c ⟨n + 1, h⟩ _ (mod6 h) h5))).trans
          (CaseB.dx ..)).trans (congrArg (fun w => dxBlk w _ _ _ _ _) (wt_eq m c n (Nat.lt_of_succ_lt h)))

/-- The gradient of the gates of step `n`. -/
theorem dgate_eq : ∀ (n : ℕ) (h : n < cfg0.N), (outsAt0 m c n h).2.2.2.1
    = dgateBlk (b1 m c ⟨n, h⟩) (b2 m c ⟨n, h⟩) (b4 m c ⟨n, h⟩) (b6 m c ⟨n, h⟩) (b7 m c ⟨n, h⟩)
  | 0, h => (get4 ((outsAt0_zero m c h).trans (stAt0_A m c ⟨0, h⟩ junk0 (Nat.zero_mod _) first_ne_last))).trans
      (CaseA.dgate ..)
  | n + 1, h => by
      by_cases h5 : (n + 1) % 6 = 5
      · exact (get4 ((outsAt0_succ m c n h).trans (stAt0_C m c ⟨n + 1, h⟩ _ (mod6 h) h5))).trans (CaseC.dgate ..)
      · exact (get4 ((outsAt0_succ m c n h).trans (stAt0_B m c ⟨n + 1, h⟩ _ (mod6 h) h5))).trans (CaseB.dgate ..)

/-- The codes of step `n`. -/
theorem codes_eq : ∀ (n : ℕ) (h : n < cfg0.N), (outsAt0 m c n h).2.2.2.2.1 = codesBlk (b2 m c ⟨n, h⟩)
  | 0, h => (get5 ((outsAt0_zero m c h).trans (stAt0_A m c ⟨0, h⟩ junk0 (Nat.zero_mod _) first_ne_last))).trans
      (CaseA.codes ..)
  | n + 1, h => by
      by_cases h5 : (n + 1) % 6 = 5
      · exact (get5 ((outsAt0_succ m c n h).trans (stAt0_C m c ⟨n + 1, h⟩ _ (mod6 h) h5))).trans (CaseC.codes ..)
      · exact (get5 ((outsAt0_succ m c n h).trans (stAt0_B m c ⟨n + 1, h⟩ _ (mod6 h) h5))).trans (CaseB.codes ..)

/-- The scales of step `n`. -/
theorem scale_eq : ∀ (n : ℕ) (h : n < cfg0.N), (outsAt0 m c n h).2.2.2.2.2.1 = scaleBlk (b2 m c ⟨n, h⟩)
  | 0, h => (get6 ((outsAt0_zero m c h).trans (stAt0_A m c ⟨0, h⟩ junk0 (Nat.zero_mod _) first_ne_last))).trans
      (CaseA.scale ..)
  | n + 1, h => by
      by_cases h5 : (n + 1) % 6 = 5
      · exact (get6 ((outsAt0_succ m c n h).trans (stAt0_C m c ⟨n + 1, h⟩ _ (mod6 h) h5))).trans (CaseC.scale ..)
      · exact (get6 ((outsAt0_succ m c n h).trans (stAt0_B m c ⟨n + 1, h⟩ _ (mod6 h) h5))).trans (CaseB.scale ..)

theorem N_last : 5 < cfg0.N := lt_of_lt_of_eq (by decide) N_0.symm

/-- The gradient of `A` handed out by the last step. -/
theorem da_out : (outsAt0 m c 5 N_last).2.1 = k0_pay2 (daAt m c 5 N_last) :=
  ((get2 ((outsAt0_succ m c 4 N_last).trans (stAt0_C m c ⟨5, N_last⟩ _ (by decide) (by decide)))).trans
    (CaseC.daOut ..)).trans (congrArg (fun w => k0_pay2 (daStep _ _ _ _ _ w)) (da_eq m c 4 (Nat.lt_of_succ_lt N_last)))

/-- The gradient of `B` handed out by the last step. -/
theorem db_out : (outsAt0 m c 5 N_last).2.2.1 = k0_pay1 (dbAt m c 5 N_last) :=
  ((get3 ((outsAt0_succ m c 4 N_last).trans (stAt0_C m c ⟨5, N_last⟩ _ (by decide) (by decide)))).trans
    (CaseC.dbOut ..)).trans (congrArg (fun w => k0_pay1 (dbStep _ _ _ _ _ w)) (db_eq m c 4 (Nat.lt_of_succ_lt N_last)))

/-! ## The arrays after the run -/

/-- The step that writes the block of token `i`. -/
def step (i : ℕ) (h : i < 1536) : Fin cfg0.N := ⟨i / 256, lt_of_lt_of_eq (by omega) N_0.symm⟩
/-- The token's place in its block. -/
def place (i : ℕ) : Fin 256 := ⟨i % 256, Nat.mod_lt _ (by decide)⟩

theorem G10_eq (i : S1536x896.Idx) : G10 m c i
    = dxBlk (wt0 m c) (b2 m c (step (i 0).val (i 0).isLt)) (b5 m c (step (i 0).val (i 0).isLt)) (b6 m c (step (i 0).val (i 0).isLt))
        (b7 m c (step (i 0).val (i 0).isLt)) (b8 m c (step (i 0).val (i 0).isLt)) (ix2 (place (i 0).val) (i 1)) := by
  have h0 : (i 0).val < 1536 := (i 0).isLt
  have h1 : (i 1).val < 896 := (i 1).isLt
  have hp : pt10Of i = (i 0).val / 256 := by show 1 * ((i 0).val / 256 - 0) + 1 * ((i 1).val / 896 - 0) = _; omega
  have hl : loc10Of i = ix2 (place (i 0).val) (i 1) := by
    funext a; apply Fin.ext
    match a with
    | ⟨0, _⟩ => rfl
    | ⟨1, _⟩ => show (i 1).val % 896 = (i 1).val; omega
  have hN : (i 0).val / 256 < cfg0.N := (step (i 0).val h0).isLt
  unfold G10
  rw [dif_pos (hp ▸ hN), ← outsAt0_sweep m c _ (hp ▸ hN), hl]
  simp only [hp]
  rw [dx_eq]; rfl

theorem G13_eq (i : S2x1536.Idx) : G13 m c i
    = dgateBlk (b1 m c (step (i 1).val (i 1).isLt)) (b2 m c (step (i 1).val (i 1).isLt)) (b4 m c (step (i 1).val (i 1).isLt))
        (b6 m c (step (i 1).val (i 1).isLt)) (b7 m c (step (i 1).val (i 1).isLt)) (ix2 (i 0) (place (i 1).val)) := by
  have h0 : (i 0).val < 2 := (i 0).isLt
  have h1 : (i 1).val < 1536 := (i 1).isLt
  have hp : pt13Of i = (i 1).val / 256 := by show 6 * ((i 0).val / 2 - 0) + 1 * ((i 1).val / 256 - 0) = _; omega
  have hl : loc13Of i = ix2 (i 0) (place (i 1).val) := by
    funext a; apply Fin.ext
    match a with
    | ⟨0, _⟩ => show (i 0).val % 2 = (i 0).val; omega
    | ⟨1, _⟩ => rfl
  have hN : (i 1).val / 256 < cfg0.N := (step (i 1).val h1).isLt
  unfold G13
  rw [dif_pos (hp ▸ hN), ← outsAt0_sweep m c _ (hp ▸ hN), hl]
  simp only [hp]
  rw [dgate_eq]; rfl

theorem G14_eq (i : S1536x4864.Idx) : G14 m c i = codesBlk (b2 m c (step (i 0).val (i 0).isLt)) (ix2 (place (i 0).val) (i 1)) := by
  have h0 : (i 0).val < 1536 := (i 0).isLt
  have h1 : (i 1).val < 4864 := (i 1).isLt
  have hp : pt14Of i = (i 0).val / 256 := by show 1 * ((i 0).val / 256 - 0) + 1 * ((i 1).val / 4864 - 0) = _; omega
  have hl : loc14Of i = ix2 (place (i 0).val) (i 1) := by
    funext a; apply Fin.ext
    match a with
    | ⟨0, _⟩ => rfl
    | ⟨1, _⟩ => show (i 1).val % 4864 = (i 1).val; omega
  have hN : (i 0).val / 256 < cfg0.N := (step (i 0).val h0).isLt
  unfold G14
  rw [dif_pos (hp ▸ hN), ← outsAt0_sweep m c _ (hp ▸ hN), hl]
  simp only [hp]
  rw [codes_eq]; rfl

theorem G15_eq (i : S1536x38.Idx) : G15 m c i = scaleBlk (b2 m c (step (i 0).val (i 0).isLt)) (ix2 (place (i 0).val) (i 1)) := by
  have h0 : (i 0).val < 1536 := (i 0).isLt
  have h1 : (i 1).val < 38 := (i 1).isLt
  have hp : pt15Of i = (i 0).val / 256 := by show 1 * ((i 0).val / 256 - 0) + 1 * ((i 1).val / 38 - 0) = _; omega
  have hl : loc15Of i = ix2 (place (i 0).val) (i 1) := by
    funext a; apply Fin.ext
    match a with
    | ⟨0, _⟩ => rfl
    | ⟨1, _⟩ => show (i 1).val % 38 = (i 1).val; omega
  have hN : (i 0).val / 256 < cfg0.N := (step (i 0).val h0).isLt
  unfold G15
  rw [dif_pos (hp ▸ hN), ← outsAt0_sweep m c _ (hp ▸ hN), hl]
  simp only [hp]
  rw [scale_eq]; rfl

theorem G11_eq : G11 m c = k0_pay2 (daAt m c 5 N_last) :=
  (G11_last m c).trans ((congrArg (fun p => p.2.1) (outsAt0_sweep m c 5 N_last).symm).trans (da_out m c))

theorem G12_eq : G12 m c = k0_pay1 (dbAt m c 5 N_last) :=
  (G12_last m c).trans ((congrArg (fun p => p.2.2.1) (outsAt0_sweep m c 5 N_last).symm).trans (db_out m c))

end Cert.State
-- ==== Proof.Host.lean ====
/- The blocks a grid step is given, read entry by entry off the arguments. -/
module

public import proofs.«01_k».proof.Proof.Gen.KernelIdeal.Frame
public import Idealize.ShloMosaic.Lib.ValueIdx
public import Idealize.ShloMosaic.Lib.Pipeline.Value
public import Idealize.ShloMosaic.Lib.StableHlo.RunClose

@[expose] public section

noncomputable section

namespace Cert.Host

open Cert.KernelIdeal Cert.KernelIdeal.Gen Idealize.ShloMosaic Idealize.ShloMosaic.TcCoe Idealize.ShloMosaic.ValueIdx

variable {F : FTy → Type} [FloatOps F]
variable (m : (ℓ : Loc nD τ sig) → Buf (Elt F) ℓ) (c : Dev nD)

/-! ## The arguments -/

abbrev aX : Vec F S1536x896 .bf16 := m ((c : Thread nD τ).loc main_arg0)
abbrev aDy : Vec F S1536x4864 .bf16 := m ((c : Thread nD τ).loc main_arg1)
abbrev aW : Vec F S4864x896 .fp8e4m3 := m ((c : Thread nD τ).loc main_arg2)
abbrev aS : Vec F S38x7 .f32 := m ((c : Thread nD τ).loc main_arg3)
abbrev aA : Vec F S8x16x896 .bf16 := m ((c : Thread nD τ).loc main_arg4)
abbrev aB : Vec F S8x4864x16 .bf16 := m ((c : Thread nD τ).loc main_arg5)
abbrev aI : Vec F S1536x2 .i32 := m ((c : Thread nD τ).loc main_arg6)
abbrev aG : Vec F S1536x2 .f32 := m ((c : Thread nD τ).loc main_arg7)

/-! ## The arrays the host prepares -/

theorem V_a2 : V m c main_v0 = shapeCast S128x896 (aA m c) shapeCasts_S8x16x896_S128x896 := by
  unfold_abbrev_sides; after_results; rfl
theorem V_bt : V m c main_v2
    = shapeCast S128x4864 (transpose S8x16x4864 [0, 2, 1] (aB m c) transposes_S8x4864x16_S8x16x4864_0_2_1) shapeCasts_S8x16x4864_S128x4864 := by
  unfold_abbrev_sides; after_results; rfl
theorem V_at : V m c main_v3
    = transpose S896x128 [1, 0] (shapeCast S128x896 (aA m c) shapeCasts_S8x16x896_S128x896) transposes_S128x896_S896x128_1_0 := by
  unfold_abbrev_sides; after_results; rfl
theorem V_idx : V m c main_v4 = transpose S2x1536 [1, 0] (aI m c) transposes_S1536x2_S2x1536_1_0 := by
  unfold_abbrev_sides; after_results
theorem V_gate : V m c main_v5 = transpose S2x1536 [1, 0] (aG m c) transposes_S1536x2_S2x1536_1_0 := by
  unfold_abbrev_sides; after_results

/-- The adapter and the rank of row `r`. -/
def ad (r : Fin 128) : Fin 8 := ⟨r.val / 16, by omega⟩
def rk (r : Fin 128) : Fin 16 := ⟨r.val % 16, Nat.mod_lt _ (by decide)⟩

theorem a2_apply (r : Fin 128) (d : Fin 896) :
    shapeCast S128x896 (aA m c) shapeCasts_S8x16x896_S128x896 (ix2 r d) = aA m c (ix3 (ad r) (rk r) d) :=
  shapeCast_apply (aA m c) shapeCasts_S8x16x896_S128x896 (ix2 r d) (ix3 (ad r) (rk r) d) (by
    rewrite [Shape.rowMajor_val_three, Shape.rowMajor_val_two]
    show (r.val / 16 * 16 + r.val % 16) * 896 + d.val = r.val * 896 + d.val
    omega)

/-! ## The blocks -/

/-- The token at place `p` of step `t`. -/
def tok (t : Fin cfg0.N) (p : Fin 256) : Fin 1536 :=
  ⟨256 * t.val + p.val, by have h : t.val < 6 := lt_of_lt_of_eq t.isLt N_0; omega⟩

theorem blk0 (t : Fin cfg0.N) (y : S38x7.Idx) : iblk m c 0 t y = aS m c y := by
  unfold iblk
  rw [View.read_apply]
  show V m c main_arg3 _ = _
  rw [V_main_arg3]
  congr 1
  funext a; apply Fin.ext
  match a with
  | ⟨0, _⟩ => show 0 * 38 + 1 * (y 0).val = (y 0).val; omega
  | ⟨1, _⟩ => show 0 * 7 + 1 * (y 1).val = (y 1).val; omega

theorem blk3 (t : Fin cfg0.N) (y : S4864x896.Idx) : iblk m c 3 t y = aW m c y := by
  unfold iblk
  rw [View.read_apply]
  show V m c main_arg2 _ = _
  rw [V_main_arg2]
  congr 1
  funext a; apply Fin.ext
  match a with
  | ⟨0, _⟩ => show 0 * 4864 + 1 * (y 0).val = (y 0).val; omega
  | ⟨1, _⟩ => show 0 * 896 + 1 * (y 1).val = (y 1).val; omega

theorem idx1 : ∀ t : Fin cfg0.N, win0_1.index t 0 = t.val ∧ win0_1.index t 1 = 0 := by decide
theorem idx2 : ∀ t : Fin cfg0.N, win0_2.index t 0 = t.val ∧ win0_2.index t 1 = 0 := by decide
theorem idx7 : ∀ t : Fin cfg0.N, win0_7.index t 0 = 0 ∧ win0_7.index t 1 = t.val := by decide
theorem idx8 : ∀ t : Fin cfg0.N, win0_8.index t 0 = 0 ∧ win0_8.index t 1 = t.val := by decide
theorem idx9 : ∀ t : Fin cfg0.N, win0_9.index t 0 = t.val ∧ win0_9.index t 1 = 0 := by decide

theorem blk1 (t : Fin cfg0.N) (p : Fin 256) (d : Fin 896) : iblk m c 1 t (ix2 p d : S256x896.Idx) = aX m c (ix2 (tok t p) d) := by
  unfold iblk
  rw [View.read_apply]
  show V m c main_arg0 _ = _
  rw [V_main_arg0]
  congr 1
  funext a; apply Fin.ext
  match a with
  | ⟨0, _⟩ => show win0_1.index t 0 * 256 + 1 * p.val = 256 * t.val + p.val; rw [(idx1 t).1]; omega
  | ⟨1, _⟩ => show win0_1.index t 1 * 896 + 1 * d.val = d.val; rw [(idx1 t).2]; omega

theorem blk2 (t : Fin cfg0.N) (p : Fin 256) (d : Fin 4864) : iblk m c 2 t (ix2 p d : S256x4864.Idx) = aDy m c (ix2 (tok t p) d) := by
  unfold iblk
  rw [View.read_apply]
  show V m c main_arg1 _ = _
  rw [V_main_arg1]
  congr 1
  funext a; apply Fin.ext
  match a with
  | ⟨0, _⟩ => show win0_2.index t 0 * 256 + 1 * p.val = 256 * t.val + p.val; rw [(idx2 t).1]; omega
  | ⟨1, _⟩ => show win0_2.index t 1 * 4864 + 1 * d.val = d.val; rw [(idx2 t).2]; omega

theorem blk4 (t : Fin cfg0.N) (r : Fin 128) (d : Fin 896) : iblk m c 4 t (ix2 r d : S128x896.Idx) = aA m c (ix3 (ad r) (rk r) d) := by
  unfold iblk
  rw [View.read_apply]
  show V m c main_v0 _ = _
  rw [V_a2, ← a2_apply]
  congr 1
  funext a; apply Fin.ext
  match a with
  | ⟨0, _⟩ => show 0 * 128 + 1 * r.val = r.val; omega
  | ⟨1, _⟩ => show 0 * 896 + 1 * d.val = d.val; omega

theorem blk5 (t : Fin cfg0.N) (d : Fin 896) (r : Fin 128) : iblk m c 5 t (ix2 d r : S896x128.Idx) = aA m c (ix3 (ad r) (rk r) d) := by
  unfold iblk
  rw [View.read_apply]
  show V m c main_v3 _ = _
  rw [V_at, ← a2_apply]
  refine congrArg (shapeCast S128x896 (aA m c) shapeCasts_S8x16x896_S128x896) ?_
  funext a; apply Fin.ext
  match a with
  | ⟨0, _⟩ => show 0 * 128 + 1 * r.val = r.val; omega
  | ⟨1, _⟩ => show 0 * 896 + 1 * d.val = d.val; omega

theorem blk6 (t : Fin cfg0.N) (r : Fin 128) (o : Fin 4864) : iblk m c 6 t (ix2 r o : S128x4864.Idx) = aB m c (ix3 (ad r) o (rk r)) := by
  unfold iblk
  rw [View.read_apply]
  show V m c main_v2 _ = _
  rw [V_bt]
  refine (shapeCast_apply _ shapeCasts_S8x16x4864_S128x4864 _ (ix3 (ad r) (rk r) o) ?_).trans ?_
  · rewrite [Shape.rowMajor_val_three, Shape.rowMajor_val_two]
    show (r.val / 16 * 16 + r.val % 16) * 4864 + o.val = (0 * 128 + 1 * r.val) * 4864 + (0 * 4864 + 1 * o.val)
    omega
  · refine congrArg (aB m c) ?_
    funext a; apply Fin.ext
    match a with
    | ⟨0, _⟩ => rfl
    | ⟨1, _⟩ => rfl
    | ⟨2, _⟩ => rfl

theorem blk7 (t : Fin cfg0.N) (j : Fin 2) (p : Fin 256) : iblk m c 7 t (ix2 j p : S2x256.Idx) = aI m c (ix2 (tok t p) j) := by
  unfold iblk
  rw [View.read_apply]
  show V m c main_v4 _ = _
  rw [V_idx]
  refine congrArg (aI m c) ?_
  funext a; apply Fin.ext
  match a with
  | ⟨0, _⟩ => show win0_7.index t 1 * 256 + 1 * p.val = 256 * t.val + p.val; rw [(idx7 t).2]; omega
  | ⟨1, _⟩ => show win0_7.index t 0 * 2 + 1 * j.val = j.val; rw [(idx7 t).1]; omega

theorem blk8 (t : Fin cfg0.N) (j : Fin 2) (p : Fin 256) : iblk m c 8 t (ix2 j p : S2x256.Idx) = aG m c (ix2 (tok t p) j) := by
  unfold iblk
  rw [View.read_apply]
  show V m c main_v5 _ = _
  rw [V_gate]
  refine congrArg (aG m c) ?_
  funext a; apply Fin.ext
  match a with
  | ⟨0, _⟩ => show win0_8.index t 1 * 256 + 1 * p.val = 256 * t.val + p.val; rw [(idx8 t).2]; omega
  | ⟨1, _⟩ => show win0_8.index t 0 * 2 + 1 * j.val = j.val; rw [(idx8 t).1]; omega

theorem blk9 (t : Fin cfg0.N) (p : Fin 256) (j : Fin 2) : iblk m c 9 t (ix2 p j : S256x2.Idx) = aG m c (ix2 (tok t p) j) := by
  unfold iblk
  rw [View.read_apply]
  show V m c main_arg7 _ = _
  rw [V_main_arg7]
  congr 1
  funext a; apply Fin.ext
  match a with
  | ⟨0, _⟩ => show win0_9.index t 0 * 256 + 1 * p.val = 256 * t.val + p.val; rw [(idx9 t).1]; omega
  | ⟨1, _⟩ => show win0_9.index t 1 * 2 + 1 * j.val = j.val; rw [(idx9 t).2]; omega

end Cert.Host
-- ==== Proof.Scale.lean ====
/- The scale of a group as the kernel computes it from the group's largest magnitude (by comparing with every power of
   two, rounding the exponent up when the fraction is at least 7/4) against the scale as `2 ^ (⌊log₂ (a / 57344)⌋ + 1)`. -/
module

public import Idealize.ShloMosaic.PureOps.Ideal.Laws

@[expose] public section

noncomputable section

namespace Cert.Scale

open Idealize.ShloMosaic

/-! ## The kernel's words -/

/-- How many of the 256 values `2^(k-127)` (zero at `k = 0`, infinity at 255) are at most `a`, less one. -/
def expo (a : EReal) : BitVec 32 :=
  (Finset.univ : Finset (Fin 256)).fold (fun x y : BitVec 32 => x + y) 0#32
    (fun k => if Ideal.ofBits .f32 (BitVec.ofNat 32 k.val <<< 23) ≤ a then 1#32 else 0#32) - 1#32

/-- The word of `a`, as a float of the exponent `expo a`. -/
def bits (a : EReal) : BitVec 32 :=
  if expo a = 0#32 then 0#32
  else ((expo a - 1#32) <<< 23)
    + Ideal.fptosi 32 (Ideal.div a (Ideal.ofBits .f32 (expo a <<< 23)) * Ideal.ofBits .f32 0x4B000000#32)

/-- That word's exponent field after adding a quarter of the binade. -/
def top (a : EReal) : BitVec 32 := (bits a + 2097152#32) &&& 2139095040#32

/-- The word of the scale. -/
def sbits (a : EReal) : BitVec 32 := if (top a).slt 142606336#32 then 1065353216#32 else top a - 125829120#32

/-- The kernel's scale of a group whose largest magnitude is `a`, and its inverse. -/
def kscale (a : EReal) : EReal := Ideal.ofBits .f32 (sbits a)
def kinv (a : EReal) : EReal := Ideal.ofBits .f32 (2130706432#32 - sbits a)

/-! ## The reference's -/

/-- The exponent of the scale: `⌊log (a / 57344) / log 2⌋ + 1`, zero for `a = 0`. -/
def rexp (a : EReal) : EReal :=
  if a = 0 then 0
  else Ideal.liftRound Int.floor
    (Ideal.div (Ideal.log (Ideal.div a (Ideal.ofBits .f32 0x47600000#32))) (Ideal.log (Ideal.ofBits .f32 0x40000000#32)))
    + Ideal.ofBits .f32 0x3F800000#32

def rscale (a : EReal) : EReal := Ideal.pow (Ideal.ofBits .f32 0x40000000#32) (rexp a)
def rinv (a : EReal) : EReal := Ideal.pow (Ideal.ofBits .f32 0x40000000#32) (-rexp a)

/-! ## Constants -/

theorem ofBits_two : Ideal.ofBits .f32 0x40000000#32 = ((2 : ℝ) : EReal) := by
  simp [Ideal.ofBits, Ideal.ieee, -EReal.coe_mul]; norm_num
theorem ofBits_one : Ideal.ofBits .f32 0x3F800000#32 = ((1 : ℝ) : EReal) := by
  simp [Ideal.ofBits, Ideal.ieee, -EReal.coe_mul, -EReal.coe_one]; norm_num
theorem ofBits_max : Ideal.ofBits .f32 0x47600000#32 = ((57344 : ℝ) : EReal) := by
  simp [Ideal.ofBits, Ideal.ieee, -EReal.coe_mul]; norm_num
theorem ofBits_frac : Ideal.ofBits .f32 0x4B000000#32 = ((8388608 : ℝ) : EReal) := by
  simp [Ideal.ofBits, Ideal.ieee, -EReal.coe_mul]
theorem ofBits_tiny : Ideal.ofBits .f32 0x08600000#32 = ((7 / 4 * (2 : ℝ) ^ (-111 : ℤ) : ℝ) : EReal) := by
  simp [Ideal.ofBits, Ideal.ieee, -EReal.coe_mul]; norm_num
theorem ofBits_huge : Ideal.ofBits .f32 0x7F7F0000#32 = ((255 * (2 : ℝ) ^ (120 : ℤ) : ℝ) : EReal) := by
  simp [Ideal.ofBits, Ideal.ieee, -EReal.coe_mul]; norm_num

/-! ## Powers of two as words -/

theorem shl23 (k : ℕ) : BitVec.ofNat 32 k <<< 23 = BitVec.ofNat 32 (k * 2 ^ 23) := by
  apply BitVec.eq_of_toNat_eq
  simp [BitVec.toNat_shiftLeft, Nat.shiftLeft_eq]

theorem toNat_ofNat_lt {k : ℕ} (h : k < 2 ^ 32) : (BitVec.ofNat 32 k).toNat = k := by
  rw [BitVec.toNat_ofNat, Nat.mod_eq_of_lt h]

theorem ofBits_pow {k : ℕ} (h1 : 1 ≤ k) (h2 : k ≤ 254) :
    Ideal.ofBits .f32 (BitVec.ofNat 32 (k * 2 ^ 23)) = (((2 : ℝ) ^ ((k : ℤ) - 127) : ℝ) : EReal) := by
  have ht : (BitVec.ofNat 32 (k * 2 ^ 23)).toNat = k * 2 ^ 23 := toNat_ofNat_lt (by omega)
  have hs : (BitVec.extractLsb' 31 1 (BitVec.ofNat 32 (k * 2 ^ 23)) == 1#1) = false := by
    rw [beq_eq_false_iff_ne]; intro h
    have := congrArg BitVec.toNat h
    rw [BitVec.extractLsb'_toNat, ht, Nat.shiftRight_eq_div_pow] at this
    have e : k * 2 ^ 23 / 2 ^ 31 = 0 := by omega
    rw [e] at this; simp at this
  have he : (BitVec.extractLsb' 23 8 (BitVec.ofNat 32 (k * 2 ^ 23))).toNat = k := by
    rw [BitVec.extractLsb'_toNat, ht, Nat.shiftRight_eq_div_pow]; omega
  have hf : (BitVec.extractLsb' 0 23 (BitVec.ofNat 32 (k * 2 ^ 23))).toNat = 0 := by
    rw [BitVec.extractLsb'_toNat, ht, Nat.shiftRight_eq_div_pow]; omega
  unfold Ideal.ofBits Ideal.ieee
  simp only [hs, he, hf]
  rw [if_neg (by omega), if_neg (by omega)]
  congr 1
  have : (2 : ℝ) ^ ((k : ℤ) - 127) = 2 ^ (23 : ℤ) * 2 ^ ((k : ℤ) - (2 ^ (8 - 1) - 1) - (23 : ℕ)) := by
    rw [← zpow_add₀ (by norm_num)]; congr 1; norm_num
  rw [this]; norm_num

theorem ofBits_pow_zero : Ideal.ofBits .f32 (BitVec.ofNat 32 (0 * 2 ^ 23)) = 0 := by
  simp [Ideal.ofBits, Ideal.ieee]
theorem ofBits_pow_top : Ideal.ofBits .f32 (BitVec.ofNat 32 (255 * 2 ^ 23)) = ⊤ := by
  simp [Ideal.ofBits, Ideal.ieee]

/-! ## The count -/

theorem fold_count {n : ℕ} (p : Fin n → Prop) [DecidablePred p] (s : Finset (Fin n)) :
    s.fold (fun x y : BitVec 32 => x + y) 0#32 (fun k => if p k then 1#32 else 0#32) = BitVec.ofNat 32 (s.filter p).card := by
  classical
  induction s using Finset.induction with
  | empty => simp
  | insert a s ha ih =>
    rw [Finset.fold_insert ha, ih, Finset.filter_insert]
    by_cases h : p a
    · rw [if_pos h, if_pos h, Finset.card_insert_of_notMem (by simp [ha])]
      apply BitVec.eq_of_toNat_eq; simp [BitVec.toNat_add]; omega
    · rw [if_neg h, if_neg h]; simp

open Classical in
theorem expo_eq (a : EReal) (N : ℕ) (hN : N < 256)
    (h : ∀ k : ℕ, k < 256 → (Ideal.ofBits .f32 (BitVec.ofNat 32 (k * 2 ^ 23)) ≤ a ↔ k ≤ N)) : expo a = BitVec.ofNat 32 N := by
  unfold expo
  rw [fold_count (fun k : Fin 256 => Ideal.ofBits .f32 (BitVec.ofNat 32 k.val <<< 23) ≤ a)]
  have : (Finset.univ.filter fun k : Fin 256 => Ideal.ofBits .f32 (BitVec.ofNat 32 k.val <<< 23) ≤ a).card = N + 1 := by
    have e : (Finset.univ.filter fun k : Fin 256 => Ideal.ofBits .f32 (BitVec.ofNat 32 k.val <<< 23) ≤ a)
        = Finset.Iic (⟨N, hN⟩ : Fin 256) := by
      ext k
      simp only [Finset.mem_filter, Finset.mem_univ, true_and, Finset.mem_Iic]
      rw [shl23, h k.val k.isLt]; exact Iff.rfl
    rw [e, Fin.card_Iic]
  rw [this]
  apply BitVec.eq_of_toNat_eq
  simp [BitVec.toNat_sub]; omega

/-! ## The scale of a group that is not all zeros -/

theorem land_mask {S : ℕ} (h : S < 2 ^ 31) : S &&& (255 * 2 ^ 23) = S / 2 ^ 23 * 2 ^ 23 := by
  apply Nat.eq_of_testBit_eq; intro i
  rw [Nat.testBit_and, Nat.testBit_mul_two_pow, Nat.testBit_mul_two_pow, Nat.testBit_div_two_pow,
    show (255 : ℕ) = 2 ^ 8 - 1 by norm_num, Nat.testBit_two_pow_sub_one]
  by_cases hi : 23 ≤ i
  · rw [show i - 23 + 23 = i by omega]
    by_cases h8 : i - 23 < 8
    · simp [hi, h8]
    · have : S.testBit i = false := Nat.testBit_lt_two_pow (lt_of_lt_of_le h (Nat.pow_le_pow_right (by norm_num) (by omega)))
      simp [this]
  · simp [hi]

/-- From the exponent field `N` and the fraction's word `M`, the word of the scale. -/
theorem sbits_of {a : EReal} {N M : ℕ} (hN1 : 16 ≤ N) (hN2 : N ≤ 254) (hM1 : 8388608 ≤ M) (hM2 : M < 16777216)
    (hNM : N = 254 → M < 16777216 - 65536 + 1) (hNL : N = 16 → 14680064 ≤ M) (hb : bits a = BitVec.ofNat 32 ((N - 1) * 2 ^ 23 + M)) :
    sbits a = BitVec.ofNat 32 (((if 14680064 ≤ M then N + 1 else N) - 15) * 2 ^ 23) := by
  set C := if 14680064 ≤ M then N + 1 else N with hC
  have hC1 : 17 ≤ C := by rw [hC]; split <;> omega
  have hC2 : C ≤ 255 := by rw [hC]; split <;> omega
  have hS : ((N - 1) * 2 ^ 23 + M + 2097152) / 2 ^ 23 = C := by rw [hC]; split <;> omega
  have ht : top a = BitVec.ofNat 32 (C * 2 ^ 23) := by
    apply BitVec.eq_of_toNat_eq
    rw [top, hb, BitVec.toNat_and, BitVec.toNat_add, toNat_ofNat_lt (by omega), toNat_ofNat_lt (by omega)]
    rw [show (2139095040#32).toNat = 255 * 2 ^ 23 from rfl,
      Nat.mod_eq_of_lt (by omega), land_mask (by omega), hS, toNat_ofNat_lt (by omega)]
  have hslt : (top a).slt 142606336#32 = false := by
    rw [ht, BitVec.slt, decide_eq_false_iff_not, not_lt]
    rw [BitVec.toInt_eq_toNat_of_lt (x := BitVec.ofNat 32 (C * 2 ^ 23)) (by rw [toNat_ofNat_lt (by omega)]; omega), toNat_ofNat_lt (by omega)]
    rw [show (142606336#32).toInt = 142606336 from by decide]
    push_cast; omega
  rw [sbits, hslt, ht]
  rw [if_neg (by simp)]
  apply BitVec.eq_of_toNat_eq
  rw [BitVec.toNat_sub, toNat_ofNat_lt (by omega), toNat_ofNat_lt (by omega), toNat_ofNat_lt (by omega)]
  omega

/-- A nonzero group's scale: the kernel's and the reference's are the same power of two. -/
theorem scale_pos (r : ℝ) (h1 : 7 / 4 * (2 : ℝ) ^ (-111 : ℤ) ≤ r) (h2 : r ≤ 255 * (2 : ℝ) ^ (120 : ℤ)) :
    kscale (r : EReal) = rscale (r : EReal) ∧ kinv (r : EReal) = rinv (r : EReal) := by
  have hr : 0 < r := lt_of_lt_of_le (by positivity) h1
  obtain ⟨n, hn1, hn2⟩ := exists_mem_Ico_zpow hr (show (1 : ℝ) < 2 by norm_num)
  have hlo : -111 ≤ n := by
    have h111 : (2 : ℝ) ^ (-111 : ℤ) ≤ 7 / 4 * (2 : ℝ) ^ (-111 : ℤ) := by norm_num
    have := lt_of_le_of_lt (h111.trans h1) hn2
    rw [zpow_lt_zpow_iff_right₀ (by norm_num)] at this; omega
  have hhi : n ≤ 127 := by
    have h128 : (255 : ℝ) * 2 ^ (120 : ℤ) < 2 ^ (128 : ℤ) := by norm_num
    have := lt_of_le_of_lt (hn1.trans h2) h128
    rw [zpow_lt_zpow_iff_right₀ (by norm_num)] at this; omega
  obtain ⟨N, hN⟩ : ∃ N : ℕ, (N : ℤ) = n + 127 := ⟨(n + 127).toNat, by omega⟩
  have hp : (0 : ℝ) < 2 ^ n := by positivity
  -- the exponent field
  have hexpo : expo (r : EReal) = BitVec.ofNat 32 N := by
    refine expo_eq _ N (by omega) fun k hk => ?_
    rcases Nat.eq_zero_or_pos k with rfl | hk0
    · rw [ofBits_pow_zero]; simp only [Nat.zero_le, iff_true]; exact_mod_cast hr.le
    rcases Nat.lt_or_ge k 255 with hk1 | hk1
    · rw [ofBits_pow hk0 (by omega), EReal.coe_le_coe_iff]
      constructor
      · intro h
        have := lt_of_le_of_lt h hn2
        rw [zpow_lt_zpow_iff_right₀ (by norm_num)] at this; omega
      · intro h
        refine le_trans ?_ hn1
        rw [zpow_le_zpow_iff_right₀ (by norm_num)]; omega
    · obtain rfl : k = 255 := by omega
      rw [ofBits_pow_top]
      constructor
      · intro h; exact absurd (top_le_iff.mp h) (EReal.coe_ne_top r)
      · intro h; omega
  -- the fraction
  set m : ℝ := r * (1 / 2 ^ n) * 8388608 with hm
  have hm1 : 8388608 ≤ m := by
    have : 1 ≤ r * (1 / 2 ^ n) := by rw [mul_one_div, le_div_iff₀ hp]; linarith
    rw [hm]; linarith
  have hm2 : m < 16777216 := by
    have : r * (1 / 2 ^ n) < 2 := by
      rw [mul_one_div, div_lt_iff₀ hp]; rw [zpow_add₀ (by norm_num)] at hn2; linarith
    rw [hm]; linarith
  obtain ⟨M, hM⟩ : ∃ M : ℕ, (M : ℤ) = ⌊m⌋ := ⟨⌊m⌋.toNat, by
    have : 0 ≤ ⌊m⌋ := Int.floor_nonneg.mpr (by linarith)
    omega⟩
  have hM1 : 8388608 ≤ M := by
    have : (8388608 : ℤ) ≤ ⌊m⌋ := Int.le_floor.mpr (by exact_mod_cast hm1)
    omega
  have hM2 : M < 16777216 := by
    have : ⌊m⌋ < (16777216 : ℤ) := Int.floor_lt.mpr (by exact_mod_cast hm2)
    omega
  have hbits : bits (r : EReal) = BitVec.ofNat 32 ((N - 1) * 2 ^ 23 + M) := by
    have hne : expo (r : EReal) ≠ 0#32 := by
      rw [hexpo]; intro h
      have := congrArg BitVec.toNat h
      rw [toNat_ofNat_lt (by omega)] at this; simp at this; omega
    rw [bits, if_neg hne, hexpo, shl23, ofBits_pow (by omega) (by omega), ofBits_frac]
    rw [show (N : ℤ) - 127 = n by omega, Ideal.div_coe hp.ne', ← EReal.coe_mul, ← EReal.coe_mul, ← hm]
    have hf : Ideal.fptosi 32 ((m : ℝ) : EReal) = BitVec.ofNat 32 M := by
      rw [Ideal.fptosi, Ideal.toIntClamped_coe, if_pos (by linarith), ← hM]
      rw [show max (-((2 ^ (32 - 1) : ℕ) : ℤ)) (min (((2 ^ (32 - 1) : ℕ) : ℤ) - 1) (M : ℤ)) = (M : ℤ) by
        norm_num; omega]
      exact BitVec.ofInt_natCast 32 M
    rw [hf, show BitVec.ofNat 32 N - 1#32 = BitVec.ofNat 32 (N - 1) by
      apply BitVec.eq_of_toNat_eq
      rw [BitVec.toNat_sub, toNat_ofNat_lt (by omega), toNat_ofNat_lt (by omega)]; simp; omega, shl23]
    apply BitVec.eq_of_toNat_eq
    rw [BitVec.toNat_add, toNat_ofNat_lt (by omega), toNat_ofNat_lt (by omega), toNat_ofNat_lt (by omega)]
    omega
  have hNM : N = 254 → M < 16777216 - 65536 + 1 := by
    intro h
    have hn : n = 127 := by omega
    have : r * (1 / 2 ^ n) ≤ 255 / 128 := by
      rw [mul_one_div, div_le_iff₀ hp, hn]
      refine h2.trans (le_of_eq ?_)
      norm_num
    have h3 : m ≤ 16711680 := by rw [hm]; linarith
    have : ⌊m⌋ < (16711681 : ℤ) := Int.floor_lt.mpr (by push_cast; linarith)
    omega
  have hNL : N = 16 → 14680064 ≤ M := by
    intro h
    have hn : n = -111 := by omega
    have h3 : 7 / 4 ≤ r * (1 / 2 ^ n) := by rw [mul_one_div, le_div_iff₀ hp, hn]; exact h1
    have : (14680064 : ℤ) ≤ ⌊m⌋ := Int.le_floor.mpr (by push_cast; rw [hm]; linarith)
    omega
  have hs := sbits_of (a := (r : EReal)) (by omega) (by omega) hM1 hM2 hNM hNL hbits
  set C := if 14680064 ≤ M then N + 1 else N with hC
  have hC1 : 17 ≤ C := by rw [hC]; split <;> omega
  have hC2 : C ≤ 255 := by rw [hC]; split <;> omega
  have hks : kscale (r : EReal) = (((2 : ℝ) ^ ((C : ℤ) - 142) : ℝ) : EReal) := by
    rw [kscale, hs, ofBits_pow (by omega) (by omega), show ((C - 15 : ℕ) : ℤ) - 127 = (C : ℤ) - 142 by omega]
  have hki : kinv (r : EReal) = (((2 : ℝ) ^ (-((C : ℤ) - 142)) : ℝ) : EReal) := by
    rw [kinv, hs, show 2130706432#32 - BitVec.ofNat 32 ((C - 15) * 2 ^ 23) = BitVec.ofNat 32 ((269 - C) * 2 ^ 23) by
      apply BitVec.eq_of_toNat_eq
      rw [BitVec.toNat_sub, toNat_ofNat_lt (by omega), toNat_ofNat_lt (by omega),
        toNat_ofNat_lt (by omega)]; omega, ofBits_pow (by omega) (by omega),
      show ((269 - C : ℕ) : ℤ) - 127 = -((C : ℤ) - 142) by omega]
  -- the reference's exponent
  have hq : (2 : ℝ) ^ ((C : ℤ) - 143) ≤ r * (1 / 57344) ∧ r * (1 / 57344) < (2 : ℝ) ^ ((C : ℤ) - 142) := by
    have hMm : (M : ℝ) ≤ m := by
      have := Int.floor_le m; rw [← hM] at this; exact_mod_cast this
    have hmM : m < (M : ℝ) + 1 := by
      have := Int.lt_floor_add_one m; rw [← hM] at this; exact_mod_cast this
    have hrm : r = m / 8388608 * 2 ^ n := by rw [hm]; field_simp
    by_cases hc : 14680064 ≤ M
    · have e1 : (2 : ℝ) ^ ((C : ℤ) - 143) = 2 ^ n / 32768 := by
        rw [hC, if_pos hc, show (((N + 1 : ℕ) : ℤ) - 143) = n + (-15) by push_cast; omega, zpow_add₀ (by norm_num)]; norm_num; ring
      have e2 : (2 : ℝ) ^ ((C : ℤ) - 142) = 2 ^ n / 16384 := by
        rw [hC, if_pos hc, show (((N + 1 : ℕ) : ℤ) - 142) = n + (-14) by push_cast; omega, zpow_add₀ (by norm_num)]; norm_num; ring
      have hc' : (14680064 : ℝ) ≤ m := le_trans (by exact_mod_cast hc) hMm
      rw [e1, e2, hrm]
      constructor
      · nlinarith
      · nlinarith
    · have e1 : (2 : ℝ) ^ ((C : ℤ) - 143) = 2 ^ n / 65536 := by
        rw [hC, if_neg hc, show ((N : ℤ) - 143) = n + (-16) by omega, zpow_add₀ (by norm_num)]; norm_num; ring
      have e2 : (2 : ℝ) ^ ((C : ℤ) - 142) = 2 ^ n / 32768 := by
        rw [hC, if_neg hc, show ((N : ℤ) - 142) = n + (-15) by omega, zpow_add₀ (by norm_num)]; norm_num; ring
      have hc' : m < (14680064 : ℝ) := lt_of_lt_of_le hmM (by exact_mod_cast (by omega : M + 1 ≤ 14680064))
      rw [e1, e2, hrm]
      constructor
      · nlinarith
      · nlinarith
  have hx : 0 < r * (1 / 57344) := by positivity
  have hl2 : 0 < Real.log 2 := Real.log_pos (by norm_num)
  have hfl : ⌊Real.log (r * (1 / 57344)) * (1 / Real.log 2)⌋ = (C : ℤ) - 143 := by
    rw [Int.floor_eq_iff, mul_one_div]
    constructor
    · rw [le_div_iff₀ hl2, ← Real.log_zpow]
      exact Real.log_le_log (by positivity) hq.1
    · rw [div_lt_iff₀ hl2, show ((((C : ℤ) - 143 : ℤ) : ℝ) + 1) = (((C : ℤ) - 142 : ℤ) : ℝ) by push_cast; ring, ← Real.log_zpow]
      exact Real.log_lt_log hx hq.2
  have hre : rexp (r : EReal) = ((((C : ℤ) - 142 : ℤ) : ℝ) : EReal) := by
    rw [rexp, if_neg (by exact_mod_cast hr.ne'), ofBits_max, ofBits_two, ofBits_one, Ideal.div_coe (by norm_num), ← EReal.coe_mul]
    have hlog : ∀ x : ℝ, 0 < x → Ideal.log (x : EReal) = ((Real.log x : ℝ) : EReal) := fun x hx => by
      show (if x ≤ 0 then ⊥ else ((Real.log x : ℝ) : EReal)) = _
      rw [if_neg (not_le.mpr hx)]
    rw [hlog _ hx, hlog _ (by norm_num), Ideal.div_coe hl2.ne', ← EReal.coe_mul]
    show ((⌊_⌋ : ℝ) : EReal) + _ = _
    rw [hfl, ← EReal.coe_add]
    exact congrArg Real.toEReal (by push_cast; ring)
  rw [hks, hki, rscale, rinv, hre, ofBits_two, ← EReal.coe_neg, Ideal.pow_coe_coe, Ideal.pow_coe_coe]
  refine ⟨?_, ?_⟩
  · exact congrArg _ (Real.rpow_intCast 2 _).symm
  · rw [← Int.cast_neg]; exact congrArg _ (Real.rpow_intCast 2 _).symm

/-- A group of zeros: scale one on both sides. -/
theorem scale_zero : kscale 0 = rscale 0 ∧ kinv 0 = rinv 0 := by
  have hexpo : expo 0 = BitVec.ofNat 32 0 := by
    refine expo_eq _ 0 (by omega) fun k hk => ?_
    rcases Nat.eq_zero_or_pos k with rfl | hk0
    · rw [ofBits_pow_zero]; simp
    rcases Nat.lt_or_ge k 255 with hk1 | hk1
    · rw [ofBits_pow hk0 (by omega)]
      have : (0 : ℝ) < 2 ^ ((k : ℤ) - 127) := by positivity
      constructor
      · intro h; exact absurd (by exact_mod_cast h : (2 : ℝ) ^ ((k : ℤ) - 127) ≤ 0) (not_le.mpr this)
      · intro h; omega
    · obtain rfl : k = 255 := by omega
      rw [ofBits_pow_top]
      constructor
      · intro h; exact absurd (top_le_iff.mp h) EReal.zero_ne_top
      · intro h; omega
  have hb : sbits 0 = 1065353216#32 := by
    rw [sbits, top, bits, if_pos hexpo]; rfl
  have hre : rexp 0 = ((0 : ℝ) : EReal) := by rw [rexp, if_pos rfl]; rfl
  have h1 : Ideal.ofBits .f32 1065353216#32 = ((1 : ℝ) : EReal) := ofBits_one
  rw [kscale, kinv, hb, rscale, rinv, hre, ofBits_two, ← EReal.coe_neg, Ideal.pow_coe_coe, Ideal.pow_coe_coe, h1,
    show 2130706432#32 - 1065353216#32 = 1065353216#32 from rfl, h1]
  refine ⟨?_, ?_⟩
  · exact congrArg _ (Real.rpow_zero 2).symm
  · rw [neg_zero]; exact congrArg _ (Real.rpow_zero 2).symm

/-- The kernel's scale and inverse are the reference's, for a largest magnitude that is zero or between `7/4 * 2 ^ -111` and
    `255 * 2 ^ 120`. -/
theorem scale_eq (a : EReal) (h : a = 0 ∨ (Ideal.ofBits .f32 0x08600000#32 ≤ a ∧ a ≤ Ideal.ofBits .f32 0x7F7F0000#32)) :
    kscale a = rscale a ∧ kinv a = rinv a := by
  rcases h with rfl | ⟨h1, h2⟩
  · exact scale_zero
  · rw [ofBits_tiny] at h1; rw [ofBits_huge] at h2
    induction a with
    | bot => exact absurd (le_bot_iff.mp h1) (EReal.coe_ne_bot _)
    | top => exact absurd (top_le_iff.mp h2) (EReal.coe_ne_top _)
    | coe r => exact scale_pos r (by exact_mod_cast h1) (by exact_mod_cast h2)

end Cert.Scale

end
-- ==== Proof.Read.lean ====
/- The parts of a grid step read entry by entry over the extended reals. -/
module

public import proofs.«01_k».proof.Proof.Block
public import proofs.«01_k».proof.Proof.Scale
public import Idealize.ShloMosaic.Lib.Pointwise

@[expose] public section

noncomputable section

namespace Cert.Read

open Cert.KernelIdeal Cert.KernelIdeal.Gen Cert.Block Idealize.ShloMosaic Idealize.ShloMosaic.TcCoe

/-! ## Words -/

theorem shl_read (x : BitVec 32) : IntOp.shli ArithUnit.vector x 23#32 = x <<< 23 := rfl

theorem cmpi_eq_read (a b : BitVec 32) : IntOp.cmpi CmpIPredicate.eq a b = if a = b then 1#1 else 0#1 := by
  by_cases h : a = b
  · rw [h, if_pos rfl, IntOp.cmpi_eq_self]
  · rw [if_neg h]
    show BitVec.ofBool (a == b) = 0#1
    rw [beq_eq_false_iff_ne.2 h]; rfl

theorem select_eq_read {α : Type} (a b : BitVec 32) (x y : α) :
    Scalar.select (IntOp.cmpi CmpIPredicate.eq a b) x y = if a = b then x else y := by
  rw [cmpi_eq_read]
  by_cases h : a = b
  · rw [if_pos h, if_pos h]; rfl
  · rw [if_neg h, if_neg h]; rfl

theorem select_slt_read {α : Type} (a b : BitVec 32) (x y : α) :
    Scalar.select (IntOp.cmpi CmpIPredicate.slt a b) x y = if a.slt b then x else y := by
  show Scalar.select (BitVec.ofBool (a.slt b)) x y = _
  cases a.slt b <;> rfl

/-! ## A group's scale and codes -/

/-- The largest magnitude of a token's 128 entries of a group. -/
def gmax (v : Vec Ideal S256x128 .bf16) (p : Fin 256) : EReal :=
  Finset.univ.fold max (Ideal.ofBits .bf16 0xFF80#16) fun k : Fin 128 => max (v (ix2 p k)) (-(v (ix2 p k)))

theorem max_read (v : Vec Ideal S256x128 .bf16) (p : Fin 256) : k0_pay382 v (ix2 p 0) = gmax v p := by
  pointwise [k0_pay382]
  rfl

theorem expo_read (v : Vec Ideal S256x128 .bf16) (p : Fin 256) : k0_pay383 v (ix2 p 0) = Scale.expo (gmax v p) := by
  unfold Scale.expo
  rw [← max_read]
  pointwise [k0_pay383]
  rfl

theorem sbits_read (v : Vec Ideal S256x128 .bf16) (p : Fin 256) :
    k0_pay387 (k0_pay384 v) (k0_pay385 v) (k0_pay386 v) (ix2 p 0) = Scale.sbits (gmax v p) := by
  unfold Scale.sbits Scale.top Scale.bits
  rw [← expo_read, ← max_read]
  pointwise [k0_pay387, k0_pay384, k0_pay385, k0_pay386]
  rw [select_slt_read]
  simp only [select_eq_read]
  rfl

theorem scale_read (v : Vec Ideal S256x128 .bf16) (p : Fin 256) : scaleOf v (ix2 p 0) = Scale.kscale (gmax v p) := by
  unfold Scale.kscale
  rw [← sbits_read]
  pointwise [scaleOf, k0_pay388]

theorem codes_read (v : Vec Ideal S256x128 .bf16) (p : Fin 256) (d : Fin 128) :
    codesOf v (ix2 p d)
      = min (Ideal.ofBits .f32 0x47600000#32) (max (Ideal.ofBits .f32 0xC7600000#32) (v (ix2 p d) * Scale.kinv (gmax v p))) := by
  unfold Scale.kinv
  rw [← sbits_read]
  pointwise [codesOf, k0_pay389]
  rfl

theorem dyw_read (v : Vec Ideal S256x128 .bf16) (p : Fin 256) (d : Fin 128) :
    dywOf v (ix2 p d) = codesOf v (ix2 p d) * scaleOf v (ix2 p 0) := by
  pointwise [dywOf, k0_pay390, codesOf, scaleOf]

theorem put_read (g : ℕ) (v : Vec Ideal S256x128 .bf16) (prev : Vec Ideal S256x128 .f32) (p : Fin 256) (l : Fin 128) :
    putScale g v prev (ix2 p l) = if BitVec.ofNat 32 l.val = BitVec.ofNat 32 g then scaleOf v (ix2 p 0) else prev (ix2 p l) := by
  pointwise [putScale]
  rw [select_eq_read]

/-- The lane of a group among the first `n` holds the group's scale. -/
theorem lanes_read (f : (g : ℕ) → g < 38 → Vec Ideal S256x128 .bf16) (p : Fin 256) (g : ℕ) (hg : g < 38) :
    (n : ℕ) → (h : n ≤ 38) → g < n → scaleLanes f n h (ix2 p ⟨g, by omega⟩) = scaleOf (f g hg) (ix2 p 0)
  | 0, _, hn => absurd hn (Nat.not_lt_zero _)
  | n + 1, h, hn => by
    unfold scaleLanes
    rw [put_read]
    by_cases e : g = n
    · subst e; rw [if_pos rfl]
    · rw [if_neg, lanes_read f p g hg n _ (by omega)]
      intro hh
      have := congrArg BitVec.toNat hh
      simp only [BitVec.toNat_ofNat] at this
      omega

theorem scaleBlk_read (x : Vec Ideal S256x4864 .bf16) (p : Fin 256) (g : Fin 38) :
    scaleBlk x (ix2 p g) = scaleOf (cols 128 x g.val) (ix2 p 0) := by
  rw [← lanes_read (fun g _ => cols 128 x g) p g.val g.isLt 38 (Nat.le_refl _) g.isLt]
  pointwise [scaleBlk, k0_pay694]

/-! ## The low-rank part -/

theorem adapter_read (r : Fin 128) (p : Fin 256) : k0_pay333 (ix2 r p) = BitVec.ofNat 32 (r.val / 16) := by
  pointwise [k0_pay333]
  revert r
  decide +kernel

theorem ht_read (x1 : Vec Ideal S256x896 .bf16) (x4 : Vec Ideal S128x896 .bf16) (r : Fin 128) (p : Fin 256) :
    htOf x1 x4 (ix2 r p) = ∑ d : Fin 896, (x4 (ix2 r d) : EReal) * x1 (ix2 p d) := by
  pointwise [htOf, k0_pay332]

theorem ut_read (x6 : Vec Ideal S128x4864 .bf16) (x2 : Vec Ideal S256x4864 .bf16) (r : Fin 128) (p : Fin 256) :
    utOf x6 x2 (ix2 r p) = ∑ o : Fin 4864, (x6 (ix2 r o) : EReal) * x2 (ix2 p o) := by
  pointwise [utOf, k0_pay695]

theorem mask_select {α : Type} (i : Vec Ideal S1x256 .i32) (r : Fin 128) (p : Fin 256) (x y : α) :
    Scalar.select (maskOf (F := Ideal) i (ix2 r p)) x y = if BitVec.ofNat 32 (r.val / 16) = i (ix2 0 p) then x else y := by
  pointwise [maskOf, k0_pay334]
  rw [adapter_read, select_eq_read]

theorem hj_read (x1 : Vec Ideal S256x896 .bf16) (x4 : Vec Ideal S128x896 .bf16) (i : Vec Ideal S1x256 .i32) (r : Fin 128) (p : Fin 256) :
    hjOf x1 x4 i (ix2 r p) = if BitVec.ofNat 32 (r.val / 16) = i (ix2 0 p) then (htOf x1 x4 (ix2 r p) : EReal) else 0 := by
  rw [← mask_select]
  pointwise [hjOf, k0_pay336]

theorem gu_read (x6 : Vec Ideal S128x4864 .bf16) (x2 : Vec Ideal S256x4864 .bf16) (i : Vec Ideal S1x256 .i32)
    (g : Vec Ideal S1x256 .f32) (r : Fin 128) (p : Fin 256) :
    guOf x6 x2 i g (ix2 r p)
      = if BitVec.ofNat 32 (r.val / 16) = i (ix2 0 p) then (g (ix2 0 p) : EReal) * utOf x6 x2 (ix2 r p) else 0 := by
  rw [← mask_select]
  pointwise [guOf, k0_pay701]

theorem dgate_read (x1 : Vec Ideal S256x896 .bf16) (x2 : Vec Ideal S256x4864 .bf16) (x4 : Vec Ideal S128x896 .bf16)
    (x6 : Vec Ideal S128x4864 .bf16) (i : Vec Ideal S1x256 .i32) (p : Fin 256) :
    dgateRow x1 x2 x4 x6 i (ix2 0 p)
      = Ideal.ofBits .f32 0x40000000#32
        * ∑ r : Fin 128, if BitVec.ofNat 32 (r.val / 16) = i (ix2 0 p) then (utOf x6 x2 (ix2 r p) : EReal) * htOf x1 x4 (ix2 r p) else 0 := by
  simp only [← mask_select]
  pointwise [dgateRow, k0_pay697, k0_pay696, utOf]

theorem dbChunk_read (x1 : Vec Ideal S256x896 .bf16) (x4 : Vec Ideal S128x896 .bf16) (x7 : Vec Ideal S2x256 .i32)
    (x9 : Vec Ideal S256x2 .f32) (v : Vec Ideal S256x256 .bf16) (prev : Vec Ideal S128x256 .f32) (r : Fin 128) (o : Fin 256) :
    dbChunk x1 x4 x7 x9 v prev (ix2 r o)
      = (prev (ix2 r o) : EReal) + ∑ p : Fin 256, hjOf x1 x4 (row x7 0) (ix2 r p) * ((col x9 0 (ix2 p 0) : EReal) * v (ix2 p o))
        + ∑ p : Fin 256, hjOf x1 x4 (row x7 1) (ix2 r p) * ((col x9 1 (ix2 p 0) : EReal) * v (ix2 p o)) := by
  pointwise [dbChunk, k0_pay355]

theorem daStep_read (x1 : Vec Ideal S256x896 .bf16) (x2 : Vec Ideal S256x4864 .bf16) (x6 : Vec Ideal S128x4864 .bf16)
    (x7 : Vec Ideal S2x256 .i32) (x8 : Vec Ideal S2x256 .f32) (prev : Vec Ideal S128x896 .f32) (r : Fin 128) (d : Fin 896) :
    daStep x1 x2 x6 x7 x8 prev (ix2 r d)
      = (prev (ix2 r d) : EReal) + ∑ p : Fin 256, (guOf x6 x2 (row x7 0) (row x8 0) (ix2 r p) + guOf x6 x2 (row x7 1) (row x8 1) (ix2 r p) : EReal)
        * x1 (ix2 p d) := by
  pointwise [daStep, k0_pay702]
  rfl

theorem pay1_read (x : Vec Ideal S128x4864 .f32) (r : Fin 128) (o : Fin 4864) :
    k0_pay1 x (ix2 r o) = Ideal.ofBits .f32 0x40000000#32 * (x (ix2 r o) : EReal) := by
  pointwise [k0_pay1]
theorem pay2_read (x : Vec Ideal S128x896 .f32) (r : Fin 128) (d : Fin 896) :
    k0_pay2 x (ix2 r d) = Ideal.ofBits .f32 0x40000000#32 * (x (ix2 r d) : EReal) := by
  pointwise [k0_pay2]
theorem pay330_read (r : Fin 128) (o : Fin 4864) : k0_pay330 (F := Ideal) (ix2 r o) = (0 : EReal) := by
  pointwise [k0_pay330]
theorem pay331_read (r : Fin 128) (d : Fin 896) : k0_pay331 (F := Ideal) (ix2 r d) = (0 : EReal) := by
  pointwise [k0_pay331]

/-! ## The frozen layer -/

theorem pay3_read (w : Vec Ideal S128x128 .fp8e4m3) (s : EReal) (a b : Fin 128) :
    k0_pay3 (F := Ideal) w s (ix2 a b) = (w (ix2 b a) : EReal) * s := by
  pointwise [k0_pay3]

theorem dx_read (wt : Vec Ideal S896x4864 .bf16) (x2 : Vec Ideal S256x4864 .bf16) (x5 : Vec Ideal S896x128 .bf16)
    (x6 : Vec Ideal S128x4864 .bf16) (x7 : Vec Ideal S2x256 .i32) (x8 : Vec Ideal S2x256 .f32) (p : Fin 256) (d : Fin 896) :
    dxBlk wt x2 x5 x6 x7 x8 (ix2 p d)
      = (∑ o : Fin 4864, (wt (ix2 d o) : EReal) * dywBlk x2 (ix2 p o))
        + Ideal.ofBits .f32 0x40000000#32
          * ((∑ r : Fin 128, (x5 (ix2 d r) : EReal) * guOf x6 x2 (row x7 0) (row x8 0) (ix2 r p))
            + ∑ r : Fin 128, (x5 (ix2 d r) : EReal) * guOf x6 x2 (row x7 1) (row x8 1) (ix2 r p)) := by
  pointwise [dxBlk, k0_pay703]
  rfl

end Cert.Read
-- ==== Proof.Pick.lean ====
/- Sums over the adapters when a token picks at most one of them. -/
module

public import proofs.«01_k».proof.Proof.Scale
public import Idealize.ShloMosaic.Lib.Pointwise

@[expose] public section

noncomputable section

namespace Cert.Pick

open Idealize.ShloMosaic

/-- The adapter numbered by a word, if any, is the only one. -/
theorem unique (w : BitVec 32) (a b : Fin 8) (ha : w = BitVec.ofNat 32 a.val) (hb : w = BitVec.ofNat 32 b.val) : a = b := by
  have h := congrArg BitVec.toNat (ha.symm.trans hb)
  simp only [BitVec.toNat_ofNat] at h
  exact Fin.ext (by omega)

/-- The sum of what a token's adapter contributes. -/
theorem sum_at (w : BitVec 32) (f : Fin 8 → EReal) (e : Fin 8) (h : w = BitVec.ofNat 32 e.val) :
    ∑ a : Fin 8, (if w = BitVec.ofNat 32 a.val then f a else 0) = f e := by
  rw [Finset.sum_eq_single e (fun b _ hb => if_neg fun hw => hb (unique w b e hw h)) (fun hn => absurd (Finset.mem_univ e) hn), if_pos h]

theorem sum_none (w : BitVec 32) (f : Fin 8 → EReal) (h : ∀ e : Fin 8, ¬w = BitVec.ofNat 32 e.val) :
    ∑ a : Fin 8, (if w = BitVec.ofNat 32 a.val then f a else 0) = 0 :=
  Finset.sum_eq_zero fun a _ => if_neg (h a)

/-- Selecting twice is selecting once. -/
theorem select_sum (w : BitVec 32) (f : Fin 8 → EReal) (e : Fin 8) :
    (if w = BitVec.ofNat 32 e.val then ∑ a : Fin 8, (if w = BitVec.ofNat 32 a.val then f a else 0) else 0)
      = if w = BitVec.ofNat 32 e.val then f e else 0 := by
  by_cases h : w = BitVec.ofNat 32 e.val
  · rw [if_pos h, if_pos h, sum_at w f e h]
  · rw [if_neg h, if_neg h]

/-- Selecting with a factor. -/
theorem select_mul_sum (w : BitVec 32) (g : EReal) (f : Fin 8 → EReal) (e : Fin 8) :
    (if w = BitVec.ofNat 32 e.val then g * ∑ a : Fin 8, (if w = BitVec.ofNat 32 a.val then f a else 0) else 0)
      = if w = BitVec.ofNat 32 e.val then g * f e else 0 := by
  by_cases h : w = BitVec.ofNat 32 e.val
  · rw [if_pos h, if_pos h, sum_at w f e h]
  · rw [if_neg h, if_neg h]

/-- The product of two selected values is the selected product. -/
theorem sum_mul_sum (w : BitVec 32) (f g : Fin 8 → EReal) :
    (∑ a : Fin 8, (if w = BitVec.ofNat 32 a.val then f a else 0)) * (∑ a : Fin 8, (if w = BitVec.ofNat 32 a.val then g a else 0))
      = ∑ a : Fin 8, (if w = BitVec.ofNat 32 a.val then f a * g a else 0) := by
  by_cases h : ∃ e : Fin 8, w = BitVec.ofNat 32 e.val
  · obtain ⟨e, he⟩ := h
    rw [sum_at w f e he, sum_at w g e he, sum_at w (fun a => f a * g a) e he]
  · have h' : ∀ e : Fin 8, ¬w = BitVec.ofNat 32 e.val := fun e he => h ⟨e, he⟩
    rw [sum_none w f h', sum_none w g h', sum_none w (fun a => f a * g a) h', zero_mul]

/-- A sum over the 128 rows of the stacked adapters, adapter by adapter and rank by rank. -/
theorem sum_rows (f : Fin 8 → Fin 16 → EReal) :
    ∑ r : Fin 128, f ⟨r.val / 16, by omega⟩ ⟨r.val % 16, Nat.mod_lt _ (by decide)⟩ = ∑ e : Fin 8, ∑ k : Fin 16, f e k := by
  rw [Fin.sum_univ_tiles 8 16 (by decide)]
  refine Finset.sum_congr rfl fun e _ => Finset.sum_congr rfl fun k _ => ?_
  congr 1
  · exact Fin.ext (by show (e.val * 16 + k.val) / 16 = e.val; omega)
  · exact Fin.ext (by show (e.val * 16 + k.val) % 16 = k.val; omega)

/-- Doubling distributes over a sum. -/
theorem two_mul_add (x y : EReal) :
    Ideal.ofBits .f32 0x40000000#32 * (x + y) = Ideal.ofBits .f32 0x40000000#32 * x + Ideal.ofBits .f32 0x40000000#32 * y := by
  rw [Scale.ofBits_two]
  exact EReal.left_distrib_of_nonneg_of_ne_top (EReal.coe_nonneg.2 (by norm_num)) (EReal.coe_ne_top _) x y

end Cert.Pick
-- ==== Proof.RefRead.lean ====
/- The results of the plain statement read entry by entry over the extended reals. -/
module

public import proofs.«01_k».proof.Proof.Gen.ReferenceIdeal.Read
public import proofs.«01_k».proof.Proof.Read
public import proofs.«01_k».proof.Proof.Pick

@[expose] public section

noncomputable section

namespace Cert.RefRead

open Cert.ReferenceIdeal Cert.ReferenceIdeal.Gen Cert.ReferenceIdeal.Read Idealize.ShloMosaic Idealize.ShloMosaic.TcCoe

variable (x0 : Vec Ideal S1536x896 .bf16) (x1 : Vec Ideal S1536x4864 .bf16) (x3 : Vec Ideal S38x7 .f32) (x4 : Vec Ideal S8x16x896 .bf16)
  (x5 : Vec Ideal S8x4864x16 .bf16) (x6 : Vec Ideal S1536x2 .i32) (x7 : Vec Ideal S1536x2 .f32)
  (r1 : Vec Ideal S1536x4864 .bf16) (r2 : Vec Ideal S4864x896 .bf16) (e0 : Vec Ideal S1536x38 .f32)

/-- Token `i` through the first factor of adapter `e`. -/
def h (i : Fin 1536) (e : Fin 8) (k : Fin 16) : EReal := ∑ d : Fin 896, (x0 (ix2 i d) : EReal) * x4 (ix3 e k d)
/-- The token's gradient through the second factor of adapter `e`. -/
def u (i : Fin 1536) (e : Fin 8) (k : Fin 16) : EReal := ∑ o : Fin 4864, (x1 (ix2 i o) : EReal) * x5 (ix3 e o k)

theorem h_read (i : Fin 1536) (e : Fin 8) (k : Fin 16) : val_main_v38 x0 x4 (ix3 i e k) = h x0 x4 i e k := by
  unfold h
  pointwise [val_main_v38]
theorem u_read (i : Fin 1536) (e : Fin 8) (k : Fin 16) : val_main_v39 x1 x5 (ix3 i e k) = u x1 x5 i e k := by
  unfold u
  pointwise [val_main_v39]

/-! ## The first slot -/

theorem H0_read (i : Fin 1536) (k : Fin 16) : val_main_v55 x0 x4 x6 (ix2 i k)
    = ∑ e : Fin 8, if x6 (ix2 i 0) = BitVec.ofNat 32 e.val then h x0 x4 i e k else 0 := by
  pointwise [val_main_v55, val_main_v54, val_main_call2_v0, val_main_call2_v1, val_main_call2_v2, val_main_cst_9, val_main_cst_10, val_main_v53, val_main_v52, val_main_v51, val_main_v50, val_main_v49, val_main_v48, val_main_v47, val_main_v46, val_main_v45]
  simp only [h_read, Cert.Read.select_eq_read, id_eq]
  pointwise
theorem U0_read (i : Fin 1536) (k : Fin 16) : val_main_v57 x1 x5 x6 (ix2 i k)
    = ∑ e : Fin 8, if x6 (ix2 i 0) = BitVec.ofNat 32 e.val then u x1 x5 i e k else 0 := by
  pointwise [val_main_v57, val_main_v56, val_main_call3_v0, val_main_call3_v1, val_main_call3_v2, val_main_cst_11, val_main_cst_12, val_main_v53, val_main_v52, val_main_v51, val_main_v50, val_main_v49, val_main_v48, val_main_v47, val_main_v46, val_main_v45]
  simp only [u_read, Cert.Read.select_eq_read, id_eq]
  pointwise
theorem gdy0_read (i : Fin 1536) (o : Fin 4864) : val_main_v65 x1 x7 (ix2 i o) = (x7 (ix2 i 0) : EReal) * x1 (ix2 i o) := by
  pointwise [val_main_v65, val_main_v64, val_main_v63, val_main_v62, val_main_v44, val_main_v43, val_main_v42]
theorem hat0_read (i : Fin 1536) (e : Fin 8) (k : Fin 16) : val_main_v71 x0 x4 x6 (ix3 i e k)
    = if x6 (ix2 i 0) = BitVec.ofNat 32 e.val then h x0 x4 i e k else 0 := by
  refine Eq.trans ?_ (Pick.select_sum (x6 (ix2 i 0)) (fun e => h x0 x4 i e k) e)
  beta_reduce
  rw [← H0_read, ← Cert.Read.select_eq_read]
  pointwise [val_main_v71, val_main_call4_v0, val_main_call4_v1, val_main_call4_v2, val_main_call4_v3, val_main_v70, val_main_v69, val_main_cst_15, val_main_v53, val_main_v52, val_main_v51, val_main_v50, val_main_v49, val_main_v48, val_main_v47, val_main_v46, val_main_v45]
theorem guat0_read (i : Fin 1536) (e : Fin 8) (k : Fin 16) : val_main_v73 x1 x5 x6 x7 (ix3 i e k)
    = if x6 (ix2 i 0) = BitVec.ofNat 32 e.val then (x7 (ix2 i 0) : EReal) * u x1 x5 i e k else 0 := by
  refine Eq.trans ?_ (Pick.select_mul_sum (x6 (ix2 i 0)) (x7 (ix2 i 0)) (fun e => u x1 x5 i e k) e)
  beta_reduce
  rw [← U0_read, ← Cert.Read.select_eq_read]
  pointwise [val_main_v73, val_main_call5_v0, val_main_call5_v1, val_main_call5_v2, val_main_call5_v3, val_main_v72, val_main_v68, val_main_v67, val_main_v66, val_main_cst_16, val_main_v44, val_main_v43, val_main_v42, val_main_v53, val_main_v52, val_main_v51, val_main_v50, val_main_v49, val_main_v48, val_main_v47, val_main_v46, val_main_v45]
/-- The gradient of the slot's gate. -/
theorem dgate0_read (i : Fin 1536) : val_main_v61 x0 x1 x4 x5 x6 (ix1 i)
    = Ideal.ofBits .f32 0x40000000#32 * ∑ e : Fin 8, ∑ k : Fin 16,
        (if x6 (ix2 i 0) = BitVec.ofNat 32 e.val then u x1 x5 i e k * h x0 x4 i e k else 0) := by
  have e1 : val_main_v61 x0 x1 x4 x5 x6 (ix1 i) = Ideal.ofBits .f32 0x40000000#32 * ∑ k : Fin 16, (val_main_v57 x1 x5 x6 (ix2 i k) : EReal) * val_main_v55 x0 x4 x6 (ix2 i k) := by
    pointwise [val_main_v61, val_main_v60, val_main_v59, val_main_v58, val_main_cst_13, val_main_cst_14]
  rw [e1, Finset.sum_comm]
  refine congrArg _ (Finset.sum_congr rfl fun k _ => ?_)
  rw [U0_read, H0_read, Pick.sum_mul_sum]

/-! ## The second slot -/

theorem H1_read (i : Fin 1536) (k : Fin 16) : val_main_v97 x0 x4 x6 (ix2 i k)
    = ∑ e : Fin 8, if x6 (ix2 i 1) = BitVec.ofNat 32 e.val then h x0 x4 i e k else 0 := by
  pointwise [val_main_v97, val_main_v96, val_main_call6_v0, val_main_call6_v1, val_main_call6_v2, val_main_cst_19, val_main_cst_20, val_main_v95, val_main_v94, val_main_v93, val_main_v92, val_main_v91, val_main_v90, val_main_v89, val_main_v88, val_main_v87]
  simp only [h_read, Cert.Read.select_eq_read, id_eq]
  pointwise
theorem U1_read (i : Fin 1536) (k : Fin 16) : val_main_v99 x1 x5 x6 (ix2 i k)
    = ∑ e : Fin 8, if x6 (ix2 i 1) = BitVec.ofNat 32 e.val then u x1 x5 i e k else 0 := by
  pointwise [val_main_v99, val_main_v98, val_main_call7_v0, val_main_call7_v1, val_main_call7_v2, val_main_cst_21, val_main_cst_22, val_main_v95, val_main_v94, val_main_v93, val_main_v92, val_main_v91, val_main_v90, val_main_v89, val_main_v88, val_main_v87]
  simp only [u_read, Cert.Read.select_eq_read, id_eq]
  pointwise
theorem gdy1_read (i : Fin 1536) (o : Fin 4864) : val_main_v107 x1 x7 (ix2 i o) = (x7 (ix2 i 1) : EReal) * x1 (ix2 i o) := by
  pointwise [val_main_v107, val_main_v106, val_main_v105, val_main_v104, val_main_v86, val_main_v85, val_main_v84]
theorem hat1_read (i : Fin 1536) (e : Fin 8) (k : Fin 16) : val_main_v113 x0 x4 x6 (ix3 i e k)
    = if x6 (ix2 i 1) = BitVec.ofNat 32 e.val then h x0 x4 i e k else 0 := by
  refine Eq.trans ?_ (Pick.select_sum (x6 (ix2 i 1)) (fun e => h x0 x4 i e k) e)
  beta_reduce
  rw [← H1_read, ← Cert.Read.select_eq_read]
  pointwise [val_main_v113, val_main_call8_v0, val_main_call8_v1, val_main_call8_v2, val_main_call8_v3, val_main_v112, val_main_v111, val_main_cst_25, val_main_v95, val_main_v94, val_main_v93, val_main_v92, val_main_v91, val_main_v90, val_main_v89, val_main_v88, val_main_v87]
theorem guat1_read (i : Fin 1536) (e : Fin 8) (k : Fin 16) : val_main_v115 x1 x5 x6 x7 (ix3 i e k)
    = if x6 (ix2 i 1) = BitVec.ofNat 32 e.val then (x7 (ix2 i 1) : EReal) * u x1 x5 i e k else 0 := by
  refine Eq.trans ?_ (Pick.select_mul_sum (x6 (ix2 i 1)) (x7 (ix2 i 1)) (fun e => u x1 x5 i e k) e)
  beta_reduce
  rw [← U1_read, ← Cert.Read.select_eq_read]
  pointwise [val_main_v115, val_main_call9_v0, val_main_call9_v1, val_main_call9_v2, val_main_call9_v3, val_main_v114, val_main_v110, val_main_v109, val_main_v108, val_main_cst_26, val_main_v86, val_main_v85, val_main_v84, val_main_v95, val_main_v94, val_main_v93, val_main_v92, val_main_v91, val_main_v90, val_main_v89, val_main_v88, val_main_v87]
/-- The gradient of the slot's gate. -/
theorem dgate1_read (i : Fin 1536) : val_main_v103 x0 x1 x4 x5 x6 (ix1 i)
    = Ideal.ofBits .f32 0x40000000#32 * ∑ e : Fin 8, ∑ k : Fin 16,
        (if x6 (ix2 i 1) = BitVec.ofNat 32 e.val then u x1 x5 i e k * h x0 x4 i e k else 0) := by
  have e1 : val_main_v103 x0 x1 x4 x5 x6 (ix1 i) = Ideal.ofBits .f32 0x40000000#32 * ∑ k : Fin 16, (val_main_v99 x1 x5 x6 (ix2 i k) : EReal) * val_main_v97 x0 x4 x6 (ix2 i k) := by
    pointwise [val_main_v103, val_main_v102, val_main_v101, val_main_v100, val_main_cst_23, val_main_cst_24]
  rw [e1, Finset.sum_comm]
  refine congrArg _ (Finset.sum_congr rfl fun k _ => ?_)
  rw [U1_read, H1_read, Pick.sum_mul_sum]

/-! ## The results -/

theorem dgate_read (j : Fin 2) (i : Fin 1536) : val_main_v136 x0 x1 x4 x5 x6 (ix2 j i)
    = Ideal.ofBits .f32 0x40000000#32 * ∑ e : Fin 8, ∑ k : Fin 16,
        (if x6 (ix2 i j) = BitVec.ofNat 32 e.val then u x1 x5 i e k * h x0 x4 i e k else 0) := by
  match j with
  | ⟨0, _⟩ =>
    refine Eq.trans ?_ (dgate0_read x0 x1 x4 x5 x6 i)
    pointwise [val_main_v136, val_main_v135, val_main_v134]
  | ⟨1, _⟩ =>
    refine Eq.trans ?_ (dgate1_read x0 x1 x4 x5 x6 i)
    pointwise [val_main_v136, val_main_v135, val_main_v134]

theorem db_read (r : Fin 128) (o : Fin 4864) : val_main_v133 x0 x1 x4 x6 x7 (ix2 r o)
    = Ideal.ofBits .f32 0x40000000#32 *
      ((∑ i : Fin 1536, (if x6 (ix2 i 0) = BitVec.ofNat 32 (r.val / 16) then h x0 x4 i ⟨r.val / 16, by omega⟩ ⟨r.val % 16, by omega⟩ else 0) * ((x7 (ix2 i 0) : EReal) * x1 (ix2 i o)))
        + ∑ i : Fin 1536, (if x6 (ix2 i 1) = BitVec.ofNat 32 (r.val / 16) then h x0 x4 i ⟨r.val / 16, by omega⟩ ⟨r.val % 16, by omega⟩ else 0) * ((x7 (ix2 i 1) : EReal) * x1 (ix2 i o))) := by
  pointwise [val_main_v133, val_main_v132, val_main_v127, val_main_v126, val_main_v118, val_main_v117, val_main_v116, val_main_v76, val_main_v75, val_main_v74, val_main_v41, val_main_cst_8, val_main_cst_30]
  simp only [hat0_read, hat1_read, gdy0_read, gdy1_read]

theorem da_read (r : Fin 128) (d : Fin 896) : val_main_v131 x0 x1 x5 x6 x7 (ix2 r d)
    = Ideal.ofBits .f32 0x40000000#32 *
      ((∑ i : Fin 1536, (if x6 (ix2 i 0) = BitVec.ofNat 32 (r.val / 16) then (x7 (ix2 i 0) : EReal) * u x1 x5 i ⟨r.val / 16, by omega⟩ ⟨r.val % 16, by omega⟩ else 0) * (x0 (ix2 i d) : EReal))
        + ∑ i : Fin 1536, (if x6 (ix2 i 1) = BitVec.ofNat 32 (r.val / 16) then (x7 (ix2 i 1) : EReal) * u x1 x5 i ⟨r.val / 16, by omega⟩ ⟨r.val % 16, by omega⟩ else 0) * (x0 (ix2 i d) : EReal)) := by
  pointwise [val_main_v131, val_main_v130, val_main_v129, val_main_v120, val_main_v119, val_main_v78, val_main_v77, val_main_v40, val_main_cst_7, val_main_cst_29]
  simp only [guat0_read, guat1_read]

theorem dyw_read (i : Fin 1536) (o : Fin 4864) :
    val_main_v30 r1 e0 (ix2 i o) = (r1 (ix2 i o) : EReal) * e0 (ix2 i ⟨o.val / 128, by omega⟩) := by
  pointwise [val_main_v30, val_main_v29, val_main_v28, val_main_v27, val_main_v26, val_main_v25]
theorem w_read (o : Fin 4864) (d : Fin 896) :
    val_main_v36 x3 r2 (ix2 o d) = (r2 (ix2 o d) : EReal) * x3 (ix2 ⟨o.val / 128, by omega⟩ ⟨d.val / 128, by omega⟩) := by
  pointwise [val_main_v36, val_main_v35, val_main_v34, val_main_v33, val_main_v32, val_main_v31]

theorem dx_read (i : Fin 1536) (d : Fin 896) : val_main_v128 x1 x3 x4 x5 x6 x7 r1 r2 e0 (ix2 i d)
    = (∑ o : Fin 4864, ((r1 (ix2 i o) : EReal) * e0 (ix2 i ⟨o.val / 128, by omega⟩))
          * ((r2 (ix2 o d) : EReal) * x3 (ix2 ⟨o.val / 128, by omega⟩ ⟨d.val / 128, by omega⟩)))
      + Ideal.ofBits .f32 0x40000000#32 * (∑ e : Fin 8, ∑ k : Fin 16,
          (if x6 (ix2 i 0) = BitVec.ofNat 32 e.val then (x7 (ix2 i 0) : EReal) * u x1 x5 i e k else 0) * (x4 (ix3 e k d) : EReal))
      + Ideal.ofBits .f32 0x40000000#32 * (∑ e : Fin 8, ∑ k : Fin 16,
          (if x6 (ix2 i 1) = BitVec.ofNat 32 e.val then (x7 (ix2 i 1) : EReal) * u x1 x5 i e k else 0) * (x4 (ix3 e k d) : EReal)) := by
  pointwise [val_main_v128, val_main_v125, val_main_v124, val_main_v123, val_main_v122, val_main_v121, val_main_v83, val_main_v82, val_main_v81, val_main_v80, val_main_v79, val_main_v37, val_main_cst_17, val_main_cst_18, val_main_cst_27, val_main_cst_28]
  simp only [guat0_read, guat1_read, dyw_read, w_read]

end Cert.RefRead
-- ==== Proof.RefRegion.lean ====
/- The codes and the scales of the plain statement, read entry by entry over the extended reals. -/
module

public import proofs.«01_k».proof.Proof.Gen.ReferenceIdeal.Run
public import proofs.«01_k».proof.Proof.Scale
public import Idealize.ShloMosaic.Lib.Pointwise
public import Idealize.ShloMosaic.Lib.Pipeline.ValueKit

@[expose] public section

noncomputable section

namespace Cert.RefRegion

open Cert.ReferenceIdeal Cert.ReferenceIdeal.Gen Idealize.ShloMosaic Idealize.ShloMosaic.TcCoe Idealize.ShloMosaic.StableHlo

section Any
variable {F : FTy → Type} [FloatOps F]
variable (m : (ℓ : Loc nD τ sig) → Buf (Elt F) ℓ) (c : Dev nD)

/-- The largest magnitude of every group. -/
def amaxOf (x1 : FVec F S1536x4864 .bf16) : FVec F S1536x38 .f32 :=
  Host.reduce FloatOps.maximumf (Host.absf (shapeCast S1536x38x128 (extf .f32 x1 bitsLt_bf16_f32) shapeCasts_S1536x4864_S1536x38x128)) (constant S_ .f32 0xFF800000#32) reducesTo_S1536x38x128_S1536x38_d2 h_S_

/-- The power of two that every group is divided by, from its largest magnitude. -/
def expOf (a : FVec F S1536x38 .f32) : FVec F S1536x38 .f32 :=
  select (cmpf .oeq a (broadcastInDim S1536x38 ![] bcast_S_S1536x38 (constant S_ .f32 0x00000000#32))) (broadcastInDim S1536x38 ![] bcast_S_S1536x38 (id (constant S_ .f32 0x00000000#32)))
    (addf (Host.floor (Host.divf (Host.log (Host.divf a (broadcastInDim S1536x38 ![] bcast_S_S1536x38 (constant S_ .f32 0x47600000#32)))) (Host.log (broadcastInDim S1536x38 ![] bcast_S_S1536x38 (constant S_ .f32 0x40000000#32)))))
      (broadcastInDim S1536x38 ![] bcast_S_S1536x38 (constant S_ .f32 0x3F800000#32)))

/-- The scales, from the exponents. -/
def scaleOf (e : FVec F S1536x38 .f32) : FVec F S1536x38 .f32 :=
  Host.powf (broadcastInDim S1536x38 ![] bcast_S_S1536x38 (constant S_ .f32 0x40000000#32)) e

/-- The codes before they are rounded, from the exponents. -/
def codesOf (x1 : FVec F S1536x4864 .bf16) (e : FVec F S1536x38 .f32) : FVec F S1536x4864 .f32 :=
  shapeCast S1536x4864 (minimumf (broadcastInDim S1536x38x128 ![] bcast_S_S1536x38x128 (id (constant S_ .f32 0x47600000#32)))
    (maximumf (broadcastInDim S1536x38x128 ![] bcast_S_S1536x38x128 (id (constant S_ .f32 0xC7600000#32)))
      (mulf (shapeCast S1536x38x128 (extf .f32 x1 bitsLt_bf16_f32) shapeCasts_S1536x4864_S1536x38x128)
        (broadcastInDim S1536x38x128 ![0, 1, 2] bcast_S1536x38x1_S1536x38x128_0_1_2 (broadcastInDim S1536x38x1 ![0, 1] bcast_S1536x38_S1536x38x1_0_1
          (Host.powf (broadcastInDim S1536x38 ![] bcast_S_S1536x38 (constant S_ .f32 0x40000000#32)) (Host.negf e))))))) shapeCasts_S1536x38x128_S1536x4864

set_option maxHeartbeats 2000000 in
/-- What the region is given to round. -/
theorem V_scaled : V m c main_v23 = codesOf (m ((c : Thread nD τ).loc main_arg1)) (expOf (amaxOf (m ((c : Thread nD τ).loc main_arg1)))) := by
  show V0 m c (Proc.devRef .tc main_v23) = _
  simp only [V0, hostOps0, hostOps0_1, hostOps0_2, hostOps0_3, hostOps0_4, TRef.binary, TRef.ternary, TRef.unary, TRef.toBuf, TRef.ofBuf, cast_eq, List.flatten_cons, List.flatten_nil, List.append_nil, List.cons_append, List.nil_append]
  after_results_simp <;> rfl

theorem idx : ∀ t : Fin cfg0.N, win0_0.index t = ![0, 0] ∧ win0_1.index t = ![0, 0] :=
  (by decide +kernel : ∀ t : Fin grid0.N, _)

theorem iblk0 : iblk m c 0 t0_0 = V m c main_v23 := by
  blk_ext! [iblk, idx t0_0]
theorem iblk1 : iblk m c 1 t0_0 = m ((c : Thread nD τ).loc main_arg2) := by
  rw [← V_main_arg2 m c]
  blk_ext! [iblk, idx t0_0]

theorem codes_arr : (dats m 0 c).arrAt 2 cfg0.N = k0_pay1 (V m c main_v23) := by
  refine (dats m 0 c).arrAt_eq_of_after_last 2 t0_0 (by decide +kernel) _ fun j => ?_
  blk_simp
  rw [after0_2]
  frame_out
  rw [iblk0]
theorem wide_arr : (dats m 0 c).arrAt 3 cfg0.N = k0_pay2 (V m c main_v23) := by
  refine (dats m 0 c).arrAt_eq_of_after_last 3 t0_0 (by decide +kernel) _ fun j => ?_
  blk_simp
  rw [after0_3]
  frame_out
  rw [iblk0]
theorem weights_arr : (dats m 0 c).arrAt 4 cfg0.N = k0_pay3 (m ((c : Thread nD τ).loc main_arg2)) := by
  refine (dats m 0 c).arrAt_eq_of_after_last 4 t0_0 (by decide +kernel) _ fun j => ?_
  blk_simp
  rw [after0_4]
  frame_out
  rw [iblk1]
end Any

/-! ## Over the extended reals -/

/-- The largest magnitude of a token's group. -/
def rmax (x1 : Vec Ideal S1536x4864 .bf16) (i : Fin 1536) (g : Fin 38) : EReal :=
  Finset.univ.fold max (Ideal.ofBits .f32 0xFF800000#32) fun k : Fin 128 =>
    max (x1 (ix2 i ⟨g.val * 128 + k.val, by omega⟩)) (-(x1 (ix2 i ⟨g.val * 128 + k.val, by omega⟩)))

variable (x1 : Vec Ideal S1536x4864 .bf16)

theorem amax_read (i : Fin 1536) (g : Fin 38) : amaxOf (F := Ideal) x1 (ix2 i g) = rmax x1 i g := by
  pointwise [amaxOf]
  rfl

theorem exp_read (a : FVec Ideal S1536x38 .f32) (i : Fin 1536) (g : Fin 38) : expOf a (ix2 i g) = Scale.rexp (a (ix2 i g)) := by
  unfold Scale.rexp
  pointwise [expOf]
  simp only [id_eq]
  pointwise

theorem scale_read (e : FVec Ideal S1536x38 .f32) (i : Fin 1536) (g : Fin 38) :
    scaleOf e (ix2 i g) = Ideal.pow (Ideal.ofBits .f32 0x40000000#32) (e (ix2 i g)) := by
  pointwise [scaleOf]

theorem codes_read (e : FVec Ideal S1536x38 .f32) (i : Fin 1536) (o : Fin 4864) : codesOf (F := Ideal) x1 e (ix2 i o)
    = min (Ideal.ofBits .f32 0x47600000#32) (max (Ideal.ofBits .f32 0xC7600000#32)
        ((x1 (ix2 i o) : EReal) * Ideal.pow (Ideal.ofBits .f32 0x40000000#32) (-(e (ix2 i ⟨o.val / 128, by omega⟩))))) := by
  pointwise [codesOf]
  simp only [id_eq]
  pointwise

end Cert.RefRegion
-- ==== Proof.Ker.lean ====
/- The kernel's results read entry by entry over the extended reals, off the arguments. -/
module

public import proofs.«01_k».proof.Proof.State
public import proofs.«01_k».proof.Proof.Host
public import proofs.«01_k».proof.Proof.Read
public import proofs.«01_k».proof.Proof.Pick
public import proofs.«01_k».proof.Proof.RefRead
public import proofs.«01_k».proof.Proof.RefRegion
public import Idealize.ShloMosaic.Lib.Pointwise.IndexBridge

@[expose] public section

noncomputable section

namespace Cert.Ker

open Cert.KernelIdeal Cert.KernelIdeal.Gen Cert.KernelIdeal.Value Cert.Block Cert.State Cert.Host Idealize.ShloMosaic Idealize.ShloMosaic.TcCoe

variable (m : (ℓ : Loc nD τ sig) → Buf (Elt Ideal) ℓ) (c : Dev nD)

/-! ## The blocks -/

theorem x_read (t : Fin cfg0.N) (p : Fin 256) (d : Fin 896) : b1 m c t (ix2 p d) = aX m c (ix2 (tok t p) d) := by
  rw [ix2_eq_valueIdx, ix2_eq_valueIdx]; exact blk1 m c t p d
theorem dy_read (t : Fin cfg0.N) (p : Fin 256) (o : Fin 4864) : b2 m c t (ix2 p o) = aDy m c (ix2 (tok t p) o) := by
  rw [ix2_eq_valueIdx, ix2_eq_valueIdx]; exact blk2 m c t p o
theorem a_read (t : Fin cfg0.N) (r : Fin 128) (d : Fin 896) : b4 m c t (ix2 r d) = aA m c (ix3 (ad r) (rk r) d) := by
  rw [ix2_eq_valueIdx, ix3_eq_valueIdx]; exact blk4 m c t r d
theorem at_read (t : Fin cfg0.N) (d : Fin 896) (r : Fin 128) : b5 m c t (ix2 d r) = aA m c (ix3 (ad r) (rk r) d) := by
  rw [ix2_eq_valueIdx, ix3_eq_valueIdx]; exact blk5 m c t d r
theorem b_read (t : Fin cfg0.N) (r : Fin 128) (o : Fin 4864) : b6 m c t (ix2 r o) = aB m c (ix3 (ad r) o (rk r)) := by
  rw [ix2_eq_valueIdx, ix3_eq_valueIdx]; exact blk6 m c t r o

theorem row_apply {α : Type} (x : S2x256.Idx → α) (j : Fin 2) (p : Fin 256) : row x j (ix2 0 p) = x (ix2 j p) := by
  rw [ix2_eq_valueIdx, ix2_eq_valueIdx]; rfl
theorem col_apply {α : Type} (x : S256x2.Idx → α) (j : Fin 2) (p : Fin 256) : col x j (ix2 p 0) = x (ix2 p j) := by
  rw [ix2_eq_valueIdx, ix2_eq_valueIdx]; rfl

/-- The adapter a token of the step chose in slot `j`. -/
theorem idx_read (t : Fin cfg0.N) (j : Fin 2) (p : Fin 256) : row (b7 m c t) j (ix2 0 p) = aI m c (ix2 (tok t p) j) := by
  rw [row_apply, ix2_eq_valueIdx, ix2_eq_valueIdx]; exact blk7 m c t j p
/-- The gate of a token of the step in slot `j`. -/
theorem gate_read (t : Fin cfg0.N) (j : Fin 2) (p : Fin 256) : row (b8 m c t) j (ix2 0 p) = aG m c (ix2 (tok t p) j) := by
  rw [row_apply, ix2_eq_valueIdx, ix2_eq_valueIdx]; exact blk8 m c t j p
theorem gateCol_read (t : Fin cfg0.N) (j : Fin 2) (p : Fin 256) : col (b9 m c t) j (ix2 p 0) = aG m c (ix2 (tok t p) j) := by
  rw [col_apply, ix2_eq_valueIdx, ix2_eq_valueIdx]; exact blk9 m c t p j

theorem cols_apply {α : Type} (W : ℕ) {R : ℕ} (x : (⟨2, ![R, 4864]⟩ : Shape).Idx → α) (k : ℕ) (p : Fin R) (d : Fin W) :
    cols W x k (ix2 p d) = x (ix2 p ⟨(W * k + d.val) % 4864, Nat.mod_lt _ (by decide)⟩) := by
  rw [ix2_eq_valueIdx, ix2_eq_valueIdx]; rfl
theorem side_apply {α : Type} (W : ℕ) (hW : 0 < W) {R : ℕ} (f : ℕ → (⟨2, ![R, W]⟩ : Shape).Idx → α) (p : Fin R) (o : Fin 4864) :
    side W hW f (ix2 p o) = f (o.val / W) (ix2 p ⟨o.val % W, Nat.mod_lt _ hW⟩) := by
  rw [ix2_eq_valueIdx, ix2_eq_valueIdx]; rfl
/-- The columns of a run, put back at their own place. -/
theorem cols_side {α : Type} (W : ℕ) (hW : 0 < W) {R : ℕ} (x : (⟨2, ![R, 4864]⟩ : Shape).Idx → α) (p : Fin R) (o : Fin 4864) :
    cols W x (o.val / W) (ix2 p ⟨o.val % W, Nat.mod_lt _ hW⟩) = x (ix2 p o) := by
  rw [cols_apply]
  congr 2
  apply Fin.ext
  show (W * (o.val / W) + o.val % W) % 4864 = o.val
  rw [Nat.div_add_mod, Nat.mod_eq_of_lt o.isLt]

theorem if_swap (a b : BitVec 32) (x y : EReal) : (if a = b then x else y) = if b = a then x else y := by
  by_cases h : a = b
  · rw [if_pos h, if_pos h.symm]
  · rw [if_neg h, if_neg fun e => h e.symm]

/-! ## The low-rank part of a step -/

theorem ht_tok (t : Fin cfg0.N) (r : Fin 128) (p : Fin 256) :
    htOf (b1 m c t) (b4 m c t) (ix2 r p) = RefRead.h (aX m c) (aA m c) (tok t p) (ad r) (rk r) := by
  rw [Read.ht_read]
  unfold RefRead.h
  refine Finset.sum_congr rfl fun d _ => ?_
  rw [x_read, a_read]
  exact mul_comm _ _

theorem ut_tok (t : Fin cfg0.N) (r : Fin 128) (p : Fin 256) :
    utOf (b6 m c t) (b2 m c t) (ix2 r p) = RefRead.u (aDy m c) (aB m c) (tok t p) (ad r) (rk r) := by
  rw [Read.ut_read]
  unfold RefRead.u
  refine Finset.sum_congr rfl fun o _ => ?_
  rw [dy_read, b_read]
  exact mul_comm _ _

theorem hj_tok (t : Fin cfg0.N) (j : Fin 2) (r : Fin 128) (p : Fin 256) :
    hjOf (b1 m c t) (b4 m c t) (row (b7 m c t) j) (ix2 r p)
      = if aI m c (ix2 (tok t p) j) = BitVec.ofNat 32 (r.val / 16) then RefRead.h (aX m c) (aA m c) (tok t p) (ad r) (rk r) else 0 := by
  rw [Read.hj_read, ht_tok, idx_read]
  exact if_swap _ _ _ _

theorem gu_tok (t : Fin cfg0.N) (j : Fin 2) (r : Fin 128) (p : Fin 256) :
    guOf (b6 m c t) (b2 m c t) (row (b7 m c t) j) (row (b8 m c t) j) (ix2 r p)
      = if aI m c (ix2 (tok t p) j) = BitVec.ofNat 32 (r.val / 16) then
          (aG m c (ix2 (tok t p) j) : EReal) * RefRead.u (aDy m c) (aB m c) (tok t p) (ad r) (rk r) else 0 := by
  rw [Read.gu_read, ut_tok, idx_read, gate_read]
  exact if_swap _ _ _ _

/-- A token is at its place in its step. -/
theorem tok_step (i : Fin 1536) : tok (step i.val i.isLt) (place i.val) = i :=
  Fin.ext (by show 256 * (i.val / 256) + i.val % 256 = i.val; omega)

/-! ## The gradient of the gates -/

theorem dgate_tok (t : Fin cfg0.N) (j : Fin 2) (p : Fin 256) :
    dgateBlk (b1 m c t) (b2 m c t) (b4 m c t) (b6 m c t) (b7 m c t) (ix2 j p)
      = Ideal.ofBits .f32 0x40000000#32 * ∑ e : Fin 8, ∑ k : Fin 16,
        (if aI m c (ix2 (tok t p) j) = BitVec.ofNat 32 e.val then
          RefRead.u (aDy m c) (aB m c) (tok t p) e k * RefRead.h (aX m c) (aA m c) (tok t p) e k else 0) := by
  have e : dgateBlk (b1 m c t) (b2 m c t) (b4 m c t) (b6 m c t) (b7 m c t) (ix2 j p)
      = dgateRow (b1 m c t) (b2 m c t) (b4 m c t) (b6 m c t) (row (b7 m c t) j) (ix2 0 p) := by
    rw [ix2_eq_valueIdx, ix2_eq_valueIdx]; rfl
  rw [e, Read.dgate_read, ← Pick.sum_rows]
  refine congrArg _ (Finset.sum_congr rfl fun r _ => ?_)
  rw [idx_read, ut_tok, ht_tok]
  exact if_swap _ _ _ _

theorem dgate_ker (j : Fin 2) (i : Fin 1536) : G13 m c (ix2 j i)
    = Ideal.ofBits .f32 0x40000000#32 * ∑ e : Fin 8, ∑ k : Fin 16,
        (if aI m c (ix2 i j) = BitVec.ofNat 32 e.val then
          RefRead.u (aDy m c) (aB m c) i e k * RefRead.h (aX m c) (aA m c) i e k else 0) := by
  have e := dgate_tok m c (step i.val i.isLt) j (place i.val)
  rw [tok_step, ix2_eq_valueIdx] at e
  exact (G13_eq m c (ix2 j i)).trans e

/-! ## The gradient of the second factors -/

/-- What token `i` adds in slot `j`. -/
def dbTerm (j : Fin 2) (r : Fin 128) (o : Fin 4864) (i : Fin 1536) : EReal :=
  (if aI m c (ix2 i j) = BitVec.ofNat 32 (r.val / 16) then RefRead.h (aX m c) (aA m c) i (ad r) (rk r) else 0)
    * ((aG m c (ix2 i j) : EReal) * aDy m c (ix2 i o))

theorem dbStep_tok (t : Fin cfg0.N) (prev : Vec Ideal S128x4864 .f32) (r : Fin 128) (o : Fin 4864) :
    dbStep (b1 m c t) (b2 m c t) (b4 m c t) (b7 m c t) (b9 m c t) prev (ix2 r o)
      = (prev (ix2 r o) : EReal) + ∑ p : Fin 256, dbTerm m c 0 r o (tok t p) + ∑ p : Fin 256, dbTerm m c 1 r o (tok t p) := by
  unfold dbStep
  rw [side_apply, Read.dbChunk_read, cols_side 256 (by decide)]
  refine congrArg₂ _ (congrArg₂ _ rfl (Finset.sum_congr rfl fun p _ => ?_)) (Finset.sum_congr rfl fun p _ => ?_)
  · rw [hj_tok, gateCol_read, cols_side 256 (by decide), dy_read]; rfl
  · rw [hj_tok, gateCol_read, cols_side 256 (by decide), dy_read]; rfl

theorem N_lt {n : ℕ} (h : n < 6) : n < cfg0.N := lt_of_lt_of_eq h N_0.symm

/-- A sum over the tokens, step by step. -/
theorem sum_steps (f : Fin 1536 → EReal) : ∑ i : Fin 1536, f i
    = (∑ p : Fin 256, f (tok ⟨0, N_lt (by decide)⟩ p)) + (∑ p : Fin 256, f (tok ⟨1, N_lt (by decide)⟩ p))
      + (∑ p : Fin 256, f (tok ⟨2, N_lt (by decide)⟩ p)) + (∑ p : Fin 256, f (tok ⟨3, N_lt (by decide)⟩ p))
      + (∑ p : Fin 256, f (tok ⟨4, N_lt (by decide)⟩ p)) + (∑ p : Fin 256, f (tok ⟨5, N_lt (by decide)⟩ p)) := by
  have e : ∑ i : Fin 1536, f i = ∑ t : Fin 6, ∑ p : Fin 256, f (tok ⟨t.val, N_lt t.isLt⟩ p) := by
    rw [Fin.sum_univ_tiles 6 256 (by decide)]
    refine Finset.sum_congr rfl fun t _ => Finset.sum_congr rfl fun p _ => congrArg f (Fin.ext ?_)
    show t.val * 256 + p.val = 256 * t.val + p.val
    omega
  rw [e, Fin.sum_univ_six]
  rfl

/-- What has been added after the last step when every step adds two terms. -/
theorem run6 (acc A B : (n : ℕ) → n < cfg0.N → EReal) (h0 : ∀ h, acc 0 h = A 0 h + B 0 h)
    (hs : ∀ n h, acc (n + 1) h = acc n (Nat.lt_of_succ_lt h) + A (n + 1) h + B (n + 1) h) :
    acc 5 N_last
      = (A 0 (N_lt (by decide)) + A 1 (N_lt (by decide)) + A 2 (N_lt (by decide)) + A 3 (N_lt (by decide)) + A 4 (N_lt (by decide))
          + A 5 (N_lt (by decide)))
        + (B 0 (N_lt (by decide)) + B 1 (N_lt (by decide)) + B 2 (N_lt (by decide)) + B 3 (N_lt (by decide)) + B 4 (N_lt (by decide))
          + B 5 (N_lt (by decide))) := by
  have e0 := h0 (N_lt (by decide))
  have e1 : acc 1 _ = acc 0 _ + A 1 _ + B 1 _ := hs 0 (N_lt (by decide))
  have e2 : acc 2 _ = acc 1 _ + A 2 _ + B 2 _ := hs 1 (N_lt (by decide))
  have e3 : acc 3 _ = acc 2 _ + A 3 _ + B 3 _ := hs 2 (N_lt (by decide))
  have e4 : acc 4 _ = acc 3 _ + A 4 _ + B 4 _ := hs 3 (N_lt (by decide))
  have e5 : acc 5 _ = acc 4 _ + A 5 _ + B 5 _ := hs 4 (N_lt (by decide))
  rw [e5, e4, e3, e2, e1, e0]
  ac_rfl

theorem dbAt_zero (h : 0 < cfg0.N) : dbAt m c 0 h
    = dbStep (b1 m c ⟨0, h⟩) (b2 m c ⟨0, h⟩) (b4 m c ⟨0, h⟩) (b7 m c ⟨0, h⟩) (b9 m c ⟨0, h⟩) (k0_pay330 (F := Ideal)) := by rw [dbAt]
theorem dbAt_succ (n : ℕ) (h : n + 1 < cfg0.N) : dbAt m c (n + 1) h
    = dbStep (b1 m c ⟨n + 1, h⟩) (b2 m c ⟨n + 1, h⟩) (b4 m c ⟨n + 1, h⟩) (b7 m c ⟨n + 1, h⟩) (b9 m c ⟨n + 1, h⟩)
      (dbAt m c n (Nat.lt_of_succ_lt h)) := by rw [dbAt]

theorem db_ker (r : Fin 128) (o : Fin 4864) : G12 m c (ix2 r o)
    = Ideal.ofBits .f32 0x40000000#32 * (∑ i : Fin 1536, dbTerm m c 0 r o i + ∑ i : Fin 1536, dbTerm m c 1 r o i) := by
  rw [G12_eq, Read.pay1_read, sum_steps, sum_steps]
  refine congrArg _ (run6 (fun n h => dbAt m c n h (ix2 r o)) (fun n h => ∑ p : Fin 256, dbTerm m c 0 r o (tok ⟨n, h⟩ p))
    (fun n h => ∑ p : Fin 256, dbTerm m c 1 r o (tok ⟨n, h⟩ p)) (fun h => ?_) (fun n h => ?_))
  · beta_reduce; rw [dbAt_zero, dbStep_tok, Read.pay330_read, zero_add]
  · beta_reduce; rw [dbAt_succ, dbStep_tok]

/-! ## The gradient of the first factors -/

/-- What token `i` adds in slot `j`. -/
def daTerm (j : Fin 2) (r : Fin 128) (d : Fin 896) (i : Fin 1536) : EReal :=
  (if aI m c (ix2 i j) = BitVec.ofNat 32 (r.val / 16) then
      (aG m c (ix2 i j) : EReal) * RefRead.u (aDy m c) (aB m c) i (ad r) (rk r) else 0) * (aX m c (ix2 i d) : EReal)

/-- A token of two different adapters adds at most one term. -/
theorem daStep_tok (hne : ∀ i : Fin 1536, aI m c (ix2 i 0) ≠ aI m c (ix2 i 1)) (t : Fin cfg0.N) (prev : Vec Ideal S128x896 .f32)
    (r : Fin 128) (d : Fin 896) :
    daStep (b1 m c t) (b2 m c t) (b6 m c t) (b7 m c t) (b8 m c t) prev (ix2 r d)
      = (prev (ix2 r d) : EReal) + ∑ p : Fin 256, daTerm m c 0 r d (tok t p) + ∑ p : Fin 256, daTerm m c 1 r d (tok t p) := by
  rw [Read.daStep_read, add_assoc, ← Finset.sum_add_distrib]
  refine congrArg₂ _ rfl (Finset.sum_congr rfl fun p _ => ?_)
  rw [gu_tok, gu_tok, x_read]
  unfold daTerm
  by_cases h : aI m c (ix2 (tok t p) 0) = BitVec.ofNat 32 (r.val / 16)
  · have h' : ¬aI m c (ix2 (tok t p) 1) = BitVec.ofNat 32 (r.val / 16) := fun e => hne (tok t p) (h.trans e.symm)
    rw [if_pos h, if_neg h', zero_mul, add_zero, add_zero]
  · rw [if_neg h, zero_mul, zero_add, zero_add]

theorem daAt_zero (h : 0 < cfg0.N) : daAt m c 0 h
    = daStep (b1 m c ⟨0, h⟩) (b2 m c ⟨0, h⟩) (b6 m c ⟨0, h⟩) (b7 m c ⟨0, h⟩) (b8 m c ⟨0, h⟩) (k0_pay331 (F := Ideal)) := by rw [daAt]
theorem daAt_succ (n : ℕ) (h : n + 1 < cfg0.N) : daAt m c (n + 1) h
    = daStep (b1 m c ⟨n + 1, h⟩) (b2 m c ⟨n + 1, h⟩) (b6 m c ⟨n + 1, h⟩) (b7 m c ⟨n + 1, h⟩) (b8 m c ⟨n + 1, h⟩)
      (daAt m c n (Nat.lt_of_succ_lt h)) := by rw [daAt]

theorem da_ker (hne : ∀ i : Fin 1536, aI m c (ix2 i 0) ≠ aI m c (ix2 i 1)) (r : Fin 128) (d : Fin 896) : G11 m c (ix2 r d)
    = Ideal.ofBits .f32 0x40000000#32 * (∑ i : Fin 1536, daTerm m c 0 r d i + ∑ i : Fin 1536, daTerm m c 1 r d i) := by
  rw [G11_eq, Read.pay2_read, sum_steps, sum_steps]
  refine congrArg _ (run6 (fun n h => daAt m c n h (ix2 r d)) (fun n h => ∑ p : Fin 256, daTerm m c 0 r d (tok ⟨n, h⟩ p))
    (fun n h => ∑ p : Fin 256, daTerm m c 1 r d (tok ⟨n, h⟩ p)) (fun h => ?_) (fun n h => ?_))
  · beta_reduce; rw [daAt_zero, daStep_tok m c hne, Read.pay331_read, zero_add]
  · beta_reduce; rw [daAt_succ, daStep_tok m c hne]

end Cert.Ker
-- ==== Proof.KerQuant.lean ====
/- The kernel's codes, scales and gradient of `x` read entry by entry over the extended reals, off the arguments. -/
module

public import proofs.«01_k».proof.Proof.Ker

@[expose] public section

noncomputable section

namespace Cert.Ker

open Cert.KernelIdeal Cert.KernelIdeal.Gen Cert.KernelIdeal.Value Cert.Block Cert.State Cert.Host Idealize.ShloMosaic Idealize.ShloMosaic.TcCoe

variable (m : (ℓ : Loc nD τ sig) → Buf (Elt Ideal) ℓ) (c : Dev nD)

/-- A group's largest magnitude is where the scale's exact form is known. -/
def InRange (a : EReal) : Prop := a = 0 ∨ (Ideal.ofBits .f32 0x08600000#32 ≤ a ∧ a ≤ Ideal.ofBits .f32 0x7F7F0000#32)

/-! ## Scales and codes -/

theorem gmax_tok (t : Fin cfg0.N) (g : Fin 38) (p : Fin 256) :
    Read.gmax (cols 128 (b2 m c t) g.val) p = RefRegion.rmax (aDy m c) (tok t p) g := by
  unfold Read.gmax RefRegion.rmax
  rw [show Ideal.ofBits .bf16 0xFF80#16 = Ideal.ofBits .f32 0xFF800000#32 from by simp [Ideal.ofBits, Ideal.ieee]]
  refine Finset.fold_congr fun k _ => ?_
  have e : cols 128 (b2 m c t) g.val (ix2 p k) = aDy m c (ix2 (tok t p) ⟨g.val * 128 + k.val, by omega⟩) := by
    rw [cols_apply, dy_read]
    congr 2
    apply Fin.ext
    show (128 * g.val + k.val) % 4864 = g.val * 128 + k.val
    omega
  rw [e]

theorem scale_tok (H : ∀ i g, InRange (RefRegion.rmax (aDy m c) i g)) (t : Fin cfg0.N) (g : Fin 38) (p : Fin 256) :
    scaleOf (cols 128 (b2 m c t) g.val) (ix2 p 0) = Scale.rscale (RefRegion.rmax (aDy m c) (tok t p) g) := by
  rw [Read.scale_read, gmax_tok, (Scale.scale_eq _ (H _ _)).1]

/-- The group of a column. -/
def grp (o : Fin 4864) : Fin 38 := ⟨o.val / 128, by omega⟩

theorem codes_tok (H : ∀ i g, InRange (RefRegion.rmax (aDy m c) i g)) (t : Fin cfg0.N) (p : Fin 256) (o : Fin 4864) :
    codesBlk (b2 m c t) (ix2 p o) = min (Ideal.ofBits .f32 0x47600000#32) (max (Ideal.ofBits .f32 0xC7600000#32)
      (aDy m c (ix2 (tok t p) o) * Scale.rinv (RefRegion.rmax (aDy m c) (tok t p) (grp o)))) := by
  have e : codesBlk (b2 m c t) (ix2 p o) = codesOf (cols 128 (b2 m c t) (grp o).val) (ix2 p ⟨o.val % 128, Nat.mod_lt _ (by decide)⟩) :=
    side_apply 128 (by decide) _ p o
  rw [e, Read.codes_read, gmax_tok, (Scale.scale_eq _ (H _ _)).2, show cols 128 (b2 m c t) (grp o).val _ = _ from cols_side 128 (by decide) (b2 m c t) p o, dy_read]

theorem dyw_tok (H : ∀ i g, InRange (RefRegion.rmax (aDy m c) i g)) (t : Fin cfg0.N) (p : Fin 256) (o : Fin 4864) :
    dywBlk (b2 m c t) (ix2 p o) = (codesBlk (b2 m c t) (ix2 p o) : EReal) * Scale.rscale (RefRegion.rmax (aDy m c) (tok t p) (grp o)) := by
  have e : dywBlk (b2 m c t) (ix2 p o) = dywOf (cols 128 (b2 m c t) (grp o).val) (ix2 p ⟨o.val % 128, Nat.mod_lt _ (by decide)⟩) :=
    side_apply 128 (by decide) _ p o
  have e' : codesBlk (b2 m c t) (ix2 p o) = codesOf (cols 128 (b2 m c t) (grp o).val) (ix2 p ⟨o.val % 128, Nat.mod_lt _ (by decide)⟩) :=
    side_apply 128 (by decide) _ p o
  rw [e, e', Read.dyw_read, scale_tok m c H]

/-- The code of an entry. -/
def code (i : Fin 1536) (o : Fin 4864) : EReal := min (Ideal.ofBits .f32 0x47600000#32) (max (Ideal.ofBits .f32 0xC7600000#32)
  (aDy m c (ix2 i o) * Scale.rinv (RefRegion.rmax (aDy m c) i (grp o))))

theorem codes_ker (H : ∀ i g, InRange (RefRegion.rmax (aDy m c) i g)) (i : Fin 1536) (o : Fin 4864) : G14 m c (ix2 i o) = code m c i o := by
  have e := codes_tok m c H (step i.val i.isLt) (place i.val) o
  rw [tok_step, ix2_eq_valueIdx] at e
  exact (G14_eq m c (ix2 i o)).trans e

theorem scale_ker (H : ∀ i g, InRange (RefRegion.rmax (aDy m c) i g)) (i : Fin 1536) (g : Fin 38) :
    G15 m c (ix2 i g) = Scale.rscale (RefRegion.rmax (aDy m c) i g) := by
  have e := (Read.scaleBlk_read (b2 m c (step i.val i.isLt)) (place i.val) g).trans (scale_tok m c H (step i.val i.isLt) g (place i.val))
  rw [tok_step, ix2_eq_valueIdx] at e
  exact (G15_eq m c (ix2 i g)).trans e

/-! ## The gradient of `x` -/

theorem wt_read (d : Fin 896) (o : Fin 4864) : wt0 m c (ix2 d o)
    = (aW m c (ix2 o d) : EReal) * aS m c (ix2 ⟨o.val / 128, by omega⟩ ⟨d.val / 128, by omega⟩) := by
  have e : wt0 m c (ix2 d o) = k0_pay3 (F := Ideal) (wblk (b3 m c t0) (o.val / 128) (d.val / 128))
      (b0 m c t0 (ix2 ⟨o.val / 128, by omega⟩ ⟨d.val / 128, by omega⟩))
      (ix2 ⟨d.val % 128, Nat.mod_lt _ (by decide)⟩ ⟨o.val % 128, Nat.mod_lt _ (by decide)⟩) := by
    rw [ix2_eq_valueIdx, ix2_eq_valueIdx, ix2_eq_valueIdx]; rfl
  rw [e, Read.pay3_read]
  refine congrArg₂ _ ?_ (blk0 m c t0 _)
  refine Eq.trans ?_ (blk3 m c t0 _)
  unfold wblk
  refine congrArg (b3 m c t0) (funext fun a => Fin.ext ?_)
  match a with
  | ⟨0, _⟩ => show (128 * (o.val / 128) + o.val % 128) % 4864 = o.val; omega
  | ⟨1, _⟩ => show (128 * (d.val / 128) + d.val % 128) % 896 = d.val; omega

/-- What adapter `e` and rank `k` add in slot `j`. -/
def dxTerm (j : Fin 2) (i : Fin 1536) (d : Fin 896) (e : Fin 8) (k : Fin 16) : EReal :=
  (if aI m c (ix2 i j) = BitVec.ofNat 32 e.val then (aG m c (ix2 i j) : EReal) * RefRead.u (aDy m c) (aB m c) i e k else 0)
    * (aA m c (ix3 e k d) : EReal)

theorem slot_tok (t : Fin cfg0.N) (j : Fin 2) (p : Fin 256) (d : Fin 896) :
    (∑ r : Fin 128, (b5 m c t (ix2 d r) : EReal) * guOf (b6 m c t) (b2 m c t) (row (b7 m c t) j) (row (b8 m c t) j) (ix2 r p))
      = ∑ e : Fin 8, ∑ k : Fin 16, dxTerm m c j (tok t p) d e k := by
  rw [← Pick.sum_rows]
  refine Finset.sum_congr rfl fun r _ => ?_
  rw [at_read, gu_tok]
  exact mul_comm _ _

theorem dx_tok (H : ∀ i g, InRange (RefRegion.rmax (aDy m c) i g)) (t : Fin cfg0.N) (p : Fin 256) (d : Fin 896) :
    dxBlk (wt0 m c) (b2 m c t) (b5 m c t) (b6 m c t) (b7 m c t) (b8 m c t) (ix2 p d)
      = (∑ o : Fin 4864, (code m c (tok t p) o * Scale.rscale (RefRegion.rmax (aDy m c) (tok t p) (grp o)))
          * ((aW m c (ix2 o d) : EReal) * aS m c (ix2 ⟨o.val / 128, by omega⟩ ⟨d.val / 128, by omega⟩)))
        + Ideal.ofBits .f32 0x40000000#32 * (∑ e : Fin 8, ∑ k : Fin 16, dxTerm m c 0 (tok t p) d e k)
        + Ideal.ofBits .f32 0x40000000#32 * (∑ e : Fin 8, ∑ k : Fin 16, dxTerm m c 1 (tok t p) d e k) := by
  rw [Read.dx_read, slot_tok, slot_tok, Pick.two_mul_add, ← add_assoc]
  refine congrArg₂ _ (congrArg₂ _ (Finset.sum_congr rfl fun o _ => ?_) rfl) rfl
  rw [wt_read, dyw_tok m c H, codes_tok m c H]
  exact mul_comm _ _

theorem dx_ker (H : ∀ i g, InRange (RefRegion.rmax (aDy m c) i g)) (i : Fin 1536) (d : Fin 896) : G10 m c (ix2 i d)
    = (∑ o : Fin 4864, (code m c i o * Scale.rscale (RefRegion.rmax (aDy m c) i (grp o)))
          * ((aW m c (ix2 o d) : EReal) * aS m c (ix2 ⟨o.val / 128, by omega⟩ ⟨d.val / 128, by omega⟩)))
        + Ideal.ofBits .f32 0x40000000#32 * (∑ e : Fin 8, ∑ k : Fin 16, dxTerm m c 0 i d e k)
        + Ideal.ofBits .f32 0x40000000#32 * (∑ e : Fin 8, ∑ k : Fin 16, dxTerm m c 1 i d e k) := by
  have e := dx_tok m c H (step i.val i.isLt) (place i.val) d
  rw [tok_step, ix2_eq_valueIdx] at e
  exact (G10_eq m c (ix2 i d)).trans e

end Cert.Ker
-- ==== Proof.Match.lean ====
/- The kernel's six results are the plain statement's, entry by entry over the extended reals. -/
module

public import proofs.«01_k».proof.Proof.KerQuant
public import proofs.«01_k».proof.Proof.Gen.ReferenceIdeal.Run

@[expose] public section

noncomputable section

namespace Cert.Match

open Cert.Host Cert.Ker Idealize.ShloMosaic Idealize.ShloMosaic.TcCoe Cert.KernelIdeal Cert.KernelIdeal.Value

variable (m : (ℓ : Loc nD τ sig) → Buf (Elt Ideal) ℓ) (c : Dev nD)

/-- The exponents of the groups of `dy`. -/
def expo : Vec Ideal S1536x38 .f32 := RefRegion.expOf (F := Ideal) (RefRegion.amaxOf (F := Ideal) (aDy m c))
/-- The codes of `dy`. -/
def codes : Vec Ideal S1536x4864 .f32 := RefRegion.codesOf (F := Ideal) (aDy m c) (expo m c)
/-- The scales of the groups of `dy`. -/
def scales : Vec Ideal S1536x38 .f32 := RefRegion.scaleOf (F := Ideal) (expo m c)

theorem expo_read (i : Fin 1536) (g : Fin 38) : expo m c (ix2 i g) = Scale.rexp (RefRegion.rmax (aDy m c) i g) := by
  unfold expo
  rw [RefRegion.exp_read, RefRegion.amax_read]

theorem scales_read (i : Fin 1536) (g : Fin 38) : scales m c (ix2 i g) = Scale.rscale (RefRegion.rmax (aDy m c) i g) := by
  unfold scales Scale.rscale
  rw [RefRegion.scale_read, expo_read]

theorem codes_read (i : Fin 1536) (o : Fin 4864) : codes m c (ix2 i o) = code m c i o := by
  unfold codes code Scale.rinv
  rw [RefRegion.codes_read, expo_read]
  rfl

variable (H : ∀ i g, InRange (RefRegion.rmax (aDy m c) i g))
include H

theorem scale_eq : G15 m c = scales m c := by
  funext y
  obtain ⟨i, g, rfl⟩ : ∃ i g, y = ix2 i g := ⟨y 0, y 1, by funext a; match a with | ⟨0, _⟩ => rfl | ⟨1, _⟩ => rfl⟩
  rw [scale_ker m c H, scales_read]

theorem codes_eq : G14 m c = codes m c := by
  funext y
  obtain ⟨i, g, rfl⟩ : ∃ i g, y = ix2 i g := ⟨y 0, y 1, by funext a; match a with | ⟨0, _⟩ => rfl | ⟨1, _⟩ => rfl⟩
  rw [codes_ker m c H, codes_read]

theorem dx_eq : G10 m c = ReferenceIdeal.Read.val_main_v128 (aDy m c) (aS m c) (aA m c) (aB m c) (aI m c) (aG m c) (codes m c) (aW m c) (scales m c) := by
  funext y
  obtain ⟨i, d, rfl⟩ : ∃ i d, y = ix2 i d := ⟨y 0, y 1, by funext a; match a with | ⟨0, _⟩ => rfl | ⟨1, _⟩ => rfl⟩
  rw [dx_ker m c H]
  refine Eq.trans ?_ (RefRead.dx_read (aDy m c) (aS m c) (aA m c) (aB m c) (aI m c) (aG m c) (codes m c) (aW m c) (scales m c) i d).symm
  simp only [codes_read, scales_read]
  rfl

omit H in
theorem dgate_eq : G13 m c = ReferenceIdeal.Read.val_main_v136 (aX m c) (aDy m c) (aA m c) (aB m c) (aI m c) := by
  funext y
  obtain ⟨j, i, rfl⟩ : ∃ j i, y = ix2 j i := ⟨y 0, y 1, by funext a; match a with | ⟨0, _⟩ => rfl | ⟨1, _⟩ => rfl⟩
  exact (dgate_ker m c j i).trans (RefRead.dgate_read (aX m c) (aDy m c) (aA m c) (aB m c) (aI m c) j i).symm

omit H in
theorem db_eq : G12 m c = ReferenceIdeal.Read.val_main_v133 (aX m c) (aDy m c) (aA m c) (aI m c) (aG m c) := by
  funext y
  obtain ⟨r, o, rfl⟩ : ∃ r o, y = ix2 r o := ⟨y 0, y 1, by funext a; match a with | ⟨0, _⟩ => rfl | ⟨1, _⟩ => rfl⟩
  exact (db_ker m c r o).trans (RefRead.db_read (aX m c) (aDy m c) (aA m c) (aI m c) (aG m c) r o).symm

omit H in
theorem da_eq (hne : ∀ i : Fin 1536, aI m c (ix2 i 0) ≠ aI m c (ix2 i 1)) :
    G11 m c = ReferenceIdeal.Read.val_main_v131 (aX m c) (aDy m c) (aB m c) (aI m c) (aG m c) := by
  funext y
  obtain ⟨r, d, rfl⟩ : ∃ r d, y = ix2 r d := ⟨y 0, y 1, by funext a; match a with | ⟨0, _⟩ => rfl | ⟨1, _⟩ => rfl⟩
  exact (da_ker m c hne r d).trans (RefRead.da_read (aX m c) (aDy m c) (aB m c) (aI m c) (aG m c) r d).symm

end Cert.Match
-- ==== Proof.Pre.lean ====
/- What the precondition says of the arguments, over the extended reals. -/
module

public import proofs.«01_k».proof.Proof.KerQuant
public import proofs.«01_k».proof.Proof.Gen.Pre_in_range

@[expose] public section

noncomputable section

namespace Cert.Pre

open Cert.Pre_in_range Idealize.ShloMosaic Idealize.ShloMosaic.TcCoe

variable (x0 : Vec Ideal S1536x896 .bf16) (x1 : Vec Ideal S1536x4864 .bf16) (x2 : Vec Ideal S4864x896 .fp8e4m3) (x3 : Vec Ideal S38x7 .f32)
  (x4 : Vec Ideal S8x16x896 .bf16) (x5 : Vec Ideal S8x4864x16 .bf16) (x6 : Vec Ideal S1536x2 .i32) (x7 : Vec Ideal S1536x2 .f32)
  [Cert.Pre_in_range.Facts]

omit [Cert.Pre_in_range.Facts] in
/-- A disjunction of bits read as one of propositions. -/
theorem or_and (a b c : Bool) (h : IntOp.ori (BitVec.ofBool a) (IntOp.andi (BitVec.ofBool b) (BitVec.ofBool c)) = 1#1) :
    a = true ∨ (b = true ∧ c = true) := by
  revert h; revert a b c; decide

omit [Cert.Pre_in_range.Facts] in
theorem of_bits (w : EReal) (e : IntOp.ori (BitVec.ofBool (decide (w = 0)))
    (IntOp.andi (BitVec.ofBool (decide (Ideal.ofBits .f32 0x08600000#32 ≤ w))) (BitVec.ofBool (decide (w ≤ Ideal.ofBits .f32 0x7F7F0000#32)))) = 1#1) :
    Ker.InRange w := by
  rcases or_and _ _ _ e with h0 | ⟨h1, h2⟩
  · exact Or.inl (of_decide_eq_true h0)
  · exact Or.inr ⟨of_decide_eq_true h1, of_decide_eq_true h2⟩

theorem bounds (w : FVec Ideal S1536x38 .f32) (i : Fin 1536) (g : Fin 38)
    (e : ori (cmpf .oeq w (broadcastInDim S1536x38 ![] Facts.bcast_S_S1536x38 (constant S_ .f32 0x00000000#32)))
      (andi (cmpf .oge w (broadcastInDim S1536x38 ![] Facts.bcast_S_S1536x38 (constant S_ .f32 0x08600000#32)))
        (cmpf .ole w (broadcastInDim S1536x38 ![] Facts.bcast_S_S1536x38 (constant S_ .f32 0x7F7F0000#32)))) (ix2 i g) = 1#1) :
    Ker.InRange (w (ix2 i g)) := by
  pointwise at e
  exact of_bits _ e

theorem max_read (i : Fin 1536) (g : Fin 38) :
    Host.reduce FloatOps.maximumf (Host.absf (shapeCast S1536x38x128 (extf .f32 x1 Facts.bitsLt_bf16_f32 : FVec Ideal S1536x4864 .f32)
      Facts.shapeCasts_S1536x4864_S1536x38x128)) (constant S_ .f32 0xFF800000#32) Facts.reducesTo_S1536x38x128_S1536x38_d2 Facts.h_S_ (ix2 i g)
      = RefRegion.rmax x1 i g := by
  pointwise
  rfl

/-- Every group's largest magnitude is zero or lies between the two bounds. -/
theorem inRange (h : (fn (F := Ideal) x0 x1 x2 x3 x4 x5 x6 x7).1 = fun _ => 1#1) (i : Fin 1536) (g : Fin 38) :
    Ker.InRange (RefRegion.rmax x1 i g) := by
  have e := congrFun h (ix2 i g)
  unfold fn at e
  dsimp only at e
  have e' := bounds _ i g e
  rw [max_read] at e'
  exact e'

/-- A token's two adapters differ. -/
theorem ne (h : (fn (F := Ideal) x0 x1 x2 x3 x4 x5 x6 x7).2 = fun _ => 1#1) (i : Fin 1536) : x6 (ix2 i 0) ≠ x6 (ix2 i 1) := by
  have e := congrFun h (ix2 i 0)
  unfold fn at e
  dsimp only at e
  pointwise at e
  intro hx
  rw [hx] at e
  revert e
  generalize x6 (ix2 i 1) = w
  show BitVec.ofBool (w != w) = 1#1 → False
  rw [bne_self_eq_false]
  decide

end Cert.Pre
-- ==== Proof.Pair.lean ====
/- From memories agreeing on the arguments, the kernel and the plain statement run and end with the same six results. -/
module

public import proofs.«01_k».proof.Defs
public import proofs.«01_k».proof.Proof.Match
public import proofs.«01_k».proof.Proof.Pre
public import Idealize.ShloMosaic.Lib.Claim

@[expose] public section

noncomputable section

namespace Cert.Pair

open Idealize.ShloMosaic Idealize.ShloMosaic.TcCoe Idealize.SL.Sem

section Reference

open Cert.ReferenceIdeal Cert.ReferenceIdeal.Gen Cert.ReferenceIdeal.Value

variable (m : (ℓ : Loc nD τ sig) → Buf (Elt Ideal) ℓ) (c : Dev nD)

/-- The exponents of the groups of `dy`. -/
abbrev expo : Vec Ideal S1536x38 .f32 := RefRegion.expOf (F := Ideal) (RefRegion.amaxOf (F := Ideal) (m ((c : Thread nD τ).loc main_arg1)))
/-- The codes of `dy`. -/
abbrev codes : Vec Ideal S1536x4864 .f32 := RefRegion.codesOf (F := Ideal) (m ((c : Thread nD τ).loc main_arg1)) (expo m c)

theorem pay1_id (x : Vec Ideal S1536x4864 .f32) : k0_pay1 x = x := by
  funext y
  exact shapeCast_apply x shapeCasts_S1536x4864_S1536x4864 y y rfl
theorem pay2_id (x : Vec Ideal S1536x4864 .f32) : k0_pay2 x = x := pay1_id x

theorem reg0 : reg_main_v24_0 m c = codes m c := by
  refine (RefRegion.codes_arr m c).trans ?_
  rw [RefRegion.V_scaled]; exact pay1_id _
theorem reg1 : reg_main_v24_1 m c = codes m c := by
  refine (RefRegion.wide_arr m c).trans ?_
  rw [RefRegion.V_scaled]; exact pay2_id _
theorem reg2 : reg_main_v24_2 m c = m ((c : Thread nD τ).loc main_arg2) := RefRegion.weights_arr m c

/-- The scales of the groups of `dy`. -/
abbrev scales : Vec Ideal S1536x38 .f32 := RefRegion.scaleOf (F := Ideal) (expo m c)

theorem exit_scales : exitV m c (Proc.devRef .tc main_v16) = scales m c := exit_main_v16 m c

theorem res128 : Read.val_main_v128 (exitV m c (Proc.devRef .tc main_arg1)) (exitV m c (Proc.devRef .tc main_arg3))
    (exitV m c (Proc.devRef .tc main_arg4)) (exitV m c (Proc.devRef .tc main_arg5)) (exitV m c (Proc.devRef .tc main_arg6))
    (exitV m c (Proc.devRef .tc main_arg7)) (exitV m c (Proc.devRef .tc main_v24_1)) (exitV m c (Proc.devRef .tc main_v24_2))
    (exitV m c (Proc.devRef .tc main_v16))
    = Read.val_main_v128 (m ((c : Thread nD τ).loc main_arg1)) (m ((c : Thread nD τ).loc main_arg3)) (m ((c : Thread nD τ).loc main_arg4))
        (m ((c : Thread nD τ).loc main_arg5)) (m ((c : Thread nD τ).loc main_arg6)) (m ((c : Thread nD τ).loc main_arg7)) (codes m c)
        (m ((c : Thread nD τ).loc main_arg2)) (scales m c) := by
  rw [exit_main_arg1, exit_main_arg3, exit_main_arg4, exit_main_arg5, exit_main_arg6, exit_main_arg7, exit_main_v24_1, exit_main_v24_2,
    exit_scales, reg1, reg2]
theorem res131 : Read.val_main_v131 (exitV m c (Proc.devRef .tc main_arg0)) (exitV m c (Proc.devRef .tc main_arg1))
    (exitV m c (Proc.devRef .tc main_arg5)) (exitV m c (Proc.devRef .tc main_arg6)) (exitV m c (Proc.devRef .tc main_arg7))
    = Read.val_main_v131 (m ((c : Thread nD τ).loc main_arg0)) (m ((c : Thread nD τ).loc main_arg1)) (m ((c : Thread nD τ).loc main_arg5))
        (m ((c : Thread nD τ).loc main_arg6)) (m ((c : Thread nD τ).loc main_arg7)) := by
  rw [exit_main_arg0, exit_main_arg1, exit_main_arg5, exit_main_arg6, exit_main_arg7]
theorem res133 : Read.val_main_v133 (exitV m c (Proc.devRef .tc main_arg0)) (exitV m c (Proc.devRef .tc main_arg1))
    (exitV m c (Proc.devRef .tc main_arg4)) (exitV m c (Proc.devRef .tc main_arg6)) (exitV m c (Proc.devRef .tc main_arg7))
    = Read.val_main_v133 (m ((c : Thread nD τ).loc main_arg0)) (m ((c : Thread nD τ).loc main_arg1)) (m ((c : Thread nD τ).loc main_arg4))
        (m ((c : Thread nD τ).loc main_arg6)) (m ((c : Thread nD τ).loc main_arg7)) := by
  rw [exit_main_arg0, exit_main_arg1, exit_main_arg4, exit_main_arg6, exit_main_arg7]
theorem res136 : Read.val_main_v136 (exitV m c (Proc.devRef .tc main_arg0)) (exitV m c (Proc.devRef .tc main_arg1))
    (exitV m c (Proc.devRef .tc main_arg4)) (exitV m c (Proc.devRef .tc main_arg5)) (exitV m c (Proc.devRef .tc main_arg6))
    = Read.val_main_v136 (m ((c : Thread nD τ).loc main_arg0)) (m ((c : Thread nD τ).loc main_arg1)) (m ((c : Thread nD τ).loc main_arg4))
        (m ((c : Thread nD τ).loc main_arg5)) (m ((c : Thread nD τ).loc main_arg6)) := by
  rw [exit_main_arg0, exit_main_arg1, exit_main_arg4, exit_main_arg5, exit_main_arg6]

/-- What the plain statement's run ends with, as functions of its arguments. -/
theorem run (ρ : Dev nD → PrngReg) : θ_run defs (onTc (τ := τ) (main (F := Ideal))) ⟨m, fun _ => 0, ρ⟩ fun r => ∀ c : Dev nD,
    r.2.mem ((c : Thread nD τ).loc main_v128)
        = Read.val_main_v128 (m ((c : Thread nD τ).loc main_arg1)) (m ((c : Thread nD τ).loc main_arg3)) (m ((c : Thread nD τ).loc main_arg4))
          (m ((c : Thread nD τ).loc main_arg5)) (m ((c : Thread nD τ).loc main_arg6)) (m ((c : Thread nD τ).loc main_arg7)) (codes m c)
          (m ((c : Thread nD τ).loc main_arg2)) (scales m c)
    ∧ r.2.mem ((c : Thread nD τ).loc main_v131)
        = Read.val_main_v131 (m ((c : Thread nD τ).loc main_arg0)) (m ((c : Thread nD τ).loc main_arg1)) (m ((c : Thread nD τ).loc main_arg5))
          (m ((c : Thread nD τ).loc main_arg6)) (m ((c : Thread nD τ).loc main_arg7))
    ∧ r.2.mem ((c : Thread nD τ).loc main_v133)
        = Read.val_main_v133 (m ((c : Thread nD τ).loc main_arg0)) (m ((c : Thread nD τ).loc main_arg1)) (m ((c : Thread nD τ).loc main_arg4))
          (m ((c : Thread nD τ).loc main_arg6)) (m ((c : Thread nD τ).loc main_arg7))
    ∧ r.2.mem ((c : Thread nD τ).loc main_v136)
        = Read.val_main_v136 (m ((c : Thread nD τ).loc main_arg0)) (m ((c : Thread nD τ).loc main_arg1)) (m ((c : Thread nD τ).loc main_arg4))
          (m ((c : Thread nD τ).loc main_arg5)) (m ((c : Thread nD τ).loc main_arg6))
    ∧ r.2.mem ((c : Thread nD τ).loc main_v24_0) = codes m c
    ∧ r.2.mem ((c : Thread nD τ).loc main_v16) = scales m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7) :=
  θ_run_mono (Value.run m ρ) fun r h c =>
    ⟨(h c).1.trans ((Read.val_main_v128_eq (exitV m c)).trans (res128 m c)),
      (h c).2.1.trans ((Read.val_main_v131_eq (exitV m c)).trans (res131 m c)),
      (h c).2.2.1.trans ((Read.val_main_v133_eq (exitV m c)).trans (res133 m c)),
      (h c).2.2.2.1.trans ((Read.val_main_v136_eq (exitV m c)).trans (res136 m c)),
      (h c).2.2.2.2.1.trans (reg0 m c),
      (h c).2.2.2.2.2.1,
      (h c).2.2.2.2.2.2⟩

end Reference

/-- The kernel's run and the plain statement's end with equal results. -/
theorem algebraic : Cert.algebraic_KernelIdeal_ReferenceIdeal_pre_in_range := by
  intro m g m' g' hpre hagree
  refine ⟨KernelIdeal.Value.G10 m, KernelIdeal.Value.G11 m, KernelIdeal.Value.G12 m, KernelIdeal.Value.G13 m, KernelIdeal.Value.G14 m,
    KernelIdeal.Value.G15 m, KernelIdeal.Value.run m g, ?_⟩
  refine θ_run_mono (run m' g') fun r h c => ?_
  obtain ⟨r0, r1, r2, r3, r4, r5, rest⟩ := h c
  obtain ⟨e0, e1, e2, e3, e4, e5, e6, e7⟩ := hagree c
  have H := fun i g => Pre.inRange _ _ _ _ _ _ _ _ (hpre c).1 i g
  have hne := fun i => Pre.ne _ _ _ _ _ _ _ _ (hpre c).2 i
  refine ⟨r0.trans ?_, r1.trans ?_, r2.trans ?_, r3.trans ?_, r4.trans ?_, r5.trans ?_, rest⟩
  · unfold codes scales expo
    rw [e1, e2, e3, e4, e5, e6, e7]
    exact (Match.dx_eq m c H).symm
  · rw [e0, e1, e5, e6, e7]
    exact (Match.da_eq m c hne).symm
  · rw [e0, e1, e4, e6, e7]
    exact (Match.db_eq m c).symm
  · rw [e0, e1, e4, e5, e6]
    exact (Match.dgate_eq m c).symm
  · unfold codes expo
    rw [e1]
    exact (Match.codes_eq m c H).symm
  · unfold scales expo
    rw [e1]
    exact (Match.scale_eq m c H).symm

end Cert.Pair
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_in_range
public import proofs.«01_k».proof.Proof.Gen.KernelIdeal.Value
public import proofs.«01_k».proof.Proof.Gen.ReferenceIdeal.Run
public import proofs.«01_k».proof.Proof.Gen.ReferenceIdeal.Read
public import proofs.«01_k».proof.Proof.Pair
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_in_range.Gen.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Pair.algebraic⟩

end Cert.Proof

end
